-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite20 [hPre_finite20 : Cert.Pre_finite20.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite20.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)) (m ((c.tc : Thread Cert.Kernel20Ideal.nD Cert.Kernel20Ideal.τ).loc Cert.Kernel20Ideal.main_arg3)) (m ((c.tc : Thread Cert.Kernel20Ideal.nD Cert.Kernel20Ideal.τ).loc Cert.Kernel20Ideal.main_arg4))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite20 [hPre_finite20 : Cert.Pre_finite20.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite20.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2)) (m ((c.tc : Thread Cert.Reference20Ideal.nD Cert.Reference20Ideal.τ).loc Cert.Reference20Ideal.main_arg3)) (m ((c.tc : Thread Cert.Reference20Ideal.nD Cert.Reference20Ideal.τ).loc Cert.Reference20Ideal.main_arg4))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Kernel20Ideal_pre_finite20 [hKernel20Ideal : Cert.Kernel20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite20 m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Reference20Ideal_pre_finite20 [hReference20Ideal : Cert.Reference20Ideal.Facts] [hPre_finite20 : Cert.Pre_finite20.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite20 m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v48) = v0 c
          ∧ r.2.mem ((c.tc : Thread Cert.Reference2Ideal.nD Cert.Reference2Ideal.τ).loc Cert.Reference2Ideal.main_v49) = v1 c
          ∧ r.2.mem ((c.tc : Thread Cert.Reference2Ideal.nD Cert.Reference2Ideal.τ).loc Cert.Reference2Ideal.main_v31) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_v39) = v1 c
          ∧ r.2.mem ((c.tc : Thread Cert.Reference3Ideal.nD Cert.Reference3Ideal.τ).loc Cert.Reference3Ideal.main_v21) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v21) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v3) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v9) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v16) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v52) = v0 c
          ∧ r.2.mem ((c.tc : Thread Cert.Reference18Ideal.nD Cert.Reference18Ideal.τ).loc Cert.Reference18Ideal.main_v53) = v1 c
          ∧ r.2.mem ((c.tc : Thread Cert.Reference18Ideal.nD Cert.Reference18Ideal.τ).loc Cert.Reference18Ideal.main_v36) = v2 c
          ∧ r.2.mem ((c.tc : Thread Cert.Reference18Ideal.nD Cert.Reference18Ideal.τ).loc Cert.Reference18Ideal.main_v54) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v27) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v16) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel20_Kernel20Ideal : Prop :=
  True

def algebraic_Kernel20Ideal_Reference20Ideal_pre_finite20 [hKernel20Ideal : Cert.Kernel20Ideal.Facts] [hReference20Ideal : Cert.Reference20Ideal.Facts] [hPre_finite20 : Cert.Pre_finite20.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite20 m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v61) = v0 c
          ∧ r.2.mem ((c.tc : Thread Cert.Reference20Ideal.nD Cert.Reference20Ideal.τ).loc Cert.Reference20Ideal.main_v68) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v12) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v12) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v67) = v0 c
          ∧ r.2.mem ((c.tc : Thread Cert.Reference25Ideal.nD Cert.Reference25Ideal.τ).loc Cert.Reference25Ideal.main_v71) = v1 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel20 : Cert.Kernel20.Facts) (hKernel20Ideal : Cert.Kernel20Ideal.Facts) (hReference20Ideal : Cert.Reference20Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_finite20 : Cert.Pre_finite20.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel20 (hKernel20 := hKernel20)
    ∧ quiescent_Kernel20Ideal (hKernel20Ideal := hKernel20Ideal)
    ∧ quiescent_Kernel20Ideal_pre_finite20 (hKernel20Ideal := hKernel20Ideal) (hPre_finite20 := hPre_finite20)
    ∧ quiescent_Reference20Ideal (hReference20Ideal := hReference20Ideal)
    ∧ quiescent_Reference20Ideal_pre_finite20 (hReference20Ideal := hReference20Ideal) (hPre_finite20 := hPre_finite20)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel20_Kernel20Ideal
    ∧ algebraic_Kernel20Ideal_Reference20Ideal_pre_finite20 (hKernel20Ideal := hKernel20Ideal) (hReference20Ideal := hReference20Ideal) (hPre_finite20 := hPre_finite20)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_finite.lean ====
abbrev S4096x1024 : Shape := ⟨2, ![4096, 1024]⟩
abbrev S512x2048 : Shape := ⟨2, ![512, 2048]⟩
abbrev S512x1024 : Shape := ⟨2, ![512, 1024]⟩
abbrev S4608x1024 : Shape := ⟨2, ![4608, 1024]⟩
abbrev S_ : Shape := ⟨0, ![]⟩

class Facts : Prop where
  slices_S512x2048_S512x1024_0_0 : S512x2048.Slices ![0, 0] S512x1024
  concatenates_S4096x1024_S512x1024_S4608x1024_d0 : Shape.Concatenates [S4096x1024, S512x1024] S4608x1024 0
  bitsLt_bf16_f32 : FTy.bits .bf16 < FTy.bits .f32
  bcast_S_S4608x1024 : S_.BroadcastsInDim S4608x1024 (![] : Fin 0 → Fin S4608x1024.rank)

variable [Facts]

def fn {F : FTy → Type} [FloatOps F] (main_arg0 : FVec F S4096x1024 .bf16) (main_arg1 : FVec F S512x2048 .bf16) (main_arg2 : FVec F S4096x1024 .bf16) : IVec S4608x1024 1 :=
  let main_v0 : FVec F S512x1024 .bf16 := (extractStridedSlice S512x1024 ![0, 0] · slices_S512x2048_S512x1024_0_0) main_arg1
  let main_v1 : FVec F S4608x1024 .bf16 := (fun a b => concatenate S4608x1024 0 [⟨S4096x1024, a⟩, ⟨S512x1024, b⟩] concatenates_S4096x1024_S512x1024_S4608x1024_d0) main_arg0 main_v0
  let main_v2 : FVec F S4608x1024 .f32 := (extf .f32 · bitsLt_bf16_f32) main_v1
  let main_v3 : FVec F S4608x1024 .f32 := Host.absf main_v2
  let main_cst : FVec F S_ .f32 := constant S_ .f32 0x7F800000#32
  let main_v4 : FVec F S4608x1024 .f32 := broadcastInDim S4608x1024 ![] bcast_S_S4608x1024 main_cst
  let main_v5 : IVec S4608x1024 1 := cmpf .olt main_v3 main_v4
  main_v5
-- ==== Pre_finite20.lean ====
abbrev S4096x512 : Shape := ⟨2, ![4096, 512]⟩
abbrev S4096x1024 : Shape := ⟨2, ![4096, 1024]⟩
abbrev S1x512 : Shape := ⟨2, ![1, 512]⟩
abbrev S8x128 : Shape := ⟨2, ![8, 128]⟩
abbrev S4097x512 : Shape := ⟨2, ![4097, 512]⟩
abbrev S_ : Shape := ⟨0, ![]⟩

class Facts : Prop where
  slices_S4096x1024_S4096x512_0_0 : S4096x1024.Slices ![0, 0] S4096x512
  bitsLt_bf16_f32 : FTy.bits .bf16 < FTy.bits .f32
  concatenates_S4096x512_S1x512_S4097x512_d0 : Shape.Concatenates [S4096x512, S1x512] S4097x512 0
  bcast_S_S4097x512 : S_.BroadcastsInDim S4097x512 (![] : Fin 0 → Fin S4097x512.rank)

variable [Facts]

def fn {F : FTy → Type} [FloatOps F] (main_arg0 : FVec F S4096x512 .f32) (main_arg1 : FVec F S4096x1024 .bf16) (main_arg2 : FVec F S1x512 .f32) (main_arg3 : FVec F S1x512 .f32) (main_arg4 : FVec F S8x128 .f32) : IVec S4097x512 1 :=
  let main_v0 : FVec F S4096x512 .bf16 := (extractStridedSlice S4096x512 ![0, 0] · slices_S4096x1024_S4096x512_0_0) main_arg1
  let main_v1 : FVec F S4096x512 .f32 := (extf .f32 · bitsLt_bf16_f32) main_v0
  let main_v2 : FVec F S4097x512 .f32 := (fun a b => concatenate S4097x512 0 [⟨S4096x512, a⟩, ⟨S1x512, b⟩] concatenates_S4096x512_S1x512_S4097x512_d0) main_v1 main_arg2
  let main_v3 : FVec F S4097x512 .f32 := Host.absf main_v2
  let main_cst : FVec F S_ .f32 := constant S_ .f32 0x7F800000#32
  let main_v4 : FVec F S4097x512 .f32 := broadcastInDim S4097x512 ![] bcast_S_S4097x512 main_cst
  let main_v5 : IVec S4097x512 1 := cmpf .olt main_v3 main_v4
  main_v5
-- ==== Kernel.lean ====
abbrev S4096x1024 : Shape := ⟨2, ![4096, 1024]⟩
abbrev S512x2048 : Shape := ⟨2, ![512, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 5
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .bf16⟩
  | .hbm, ⟨4, _⟩ => ⟨S512x2048, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v171 : BitVec 1 := Scalar.cmpi .eq arg1 c1_i32
  let v172 : BitVec 32 := Scalar.extui v171
  let c0_i32_104 : BitVec 32 := 0#32
  let v173 : BitVec 1 := Scalar.cmpi .ne v172 c0_i32_104
  v173

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S4096x1024 : Shape := ⟨2, ![4096, 1024]⟩
abbrev S512x2048 : Shape := ⟨2, ![512, 2048]⟩
abbrev S2x256x2048 : Shape := ⟨3, ![2, 256, 2048]⟩
abbrev S2x256x1024 : Shape := ⟨3, ![2, 256, 1024]⟩
abbrev S2x2048x1024 : Shape := ⟨3, ![2, 2048, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩
abbrev S2x4x256x256 : Shape := ⟨4, ![2, 4, 256, 256]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .hbm, ⟨3, _⟩ => ⟨S4096x1024, .f32⟩
  | .hbm, ⟨4, _⟩ => ⟨S512x2048, .f32⟩
  | .hbm, ⟨5, _⟩ => ⟨S2x256x2048, .f32⟩
  | .hbm, ⟨6, _⟩ => ⟨S2x256x1024, .f32⟩
  | .hbm, ⟨7, _⟩ => ⟨S2x256x1024, .f32⟩
  | .hbm, ⟨8, _⟩ => ⟨S2x2048x1024, .f32⟩
  | .hbm, ⟨9, _⟩ => ⟨S2x2048x4x256, .f32⟩
  | .hbm, ⟨10, _⟩ => ⟨S2x256x4x256, .f32⟩
  | .hbm, ⟨11, _⟩ => ⟨S2x256x4x256, .f32⟩
  | .hbm, ⟨12, _⟩ => ⟨S2x4x2048x256, .f32⟩
  | .hbm, ⟨13, _⟩ => ⟨S_, .f32⟩
  | .hbm, ⟨14, _⟩ => ⟨S2x4x2048x256, .f32⟩
  | .hbm, ⟨15, _⟩ => ⟨S2x4x2048x256, .f32⟩
  | .hbm, ⟨16, _⟩ => ⟨S_, .f32⟩
  | .hbm, ⟨17, _⟩ => ⟨S2x4x2048, .f32⟩
  | .hbm, ⟨18, _⟩ => ⟨S2x4x2048x1, .f32⟩
  | .hbm, ⟨19, _⟩ => ⟨S2x4x2048x256, .f32⟩
  | .hbm, ⟨20, _⟩ => ⟨S2x4x2048x256, .i1⟩
  | .hbm, ⟨21, _⟩ => ⟨S2x4x2048x256, .f32⟩
  | .hbm, ⟨22, _⟩ => ⟨S_, .f32⟩
  | .hbm, ⟨23, _⟩ => ⟨S2x4x2048, .f32⟩
  | .hbm, ⟨24, _⟩ => ⟨S_, .f32⟩
  | .hbm, ⟨25, _⟩ => ⟨S2x4x2048, .f32⟩
  | .hbm, ⟨26, _⟩ => ⟨S2x4x2048, .f32⟩
  | .hbm, ⟨27, _⟩ => ⟨S_, .f32⟩
  | .hbm, ⟨28, _⟩ => ⟨S2x4x2048, .f32⟩
  | .hbm, ⟨29, _⟩ => ⟨S2x4x2048, .i1⟩
  | .hbm, ⟨30, _⟩ => ⟨S_, .f32⟩
  | .hbm, ⟨31, _⟩ => ⟨S2x4x2048, .f32⟩
  | .hbm, ⟨32, _⟩ => ⟨S2x4x2048, .i1⟩
  | .hbm, ⟨33, _⟩ => ⟨S_, .f32⟩
  | .hbm, ⟨34, _⟩ => ⟨S2x4x2048, .f32⟩
  | .hbm, ⟨35, _⟩ => ⟨S_, .f32⟩
  | .hbm, ⟨36, _⟩ => ⟨S2x4x2048, .f32⟩
  | .hbm, ⟨37, _⟩ => ⟨S_, .f32⟩
  | .hbm, ⟨38, _⟩ => ⟨S2x4x2048, .f32⟩
  | .hbm, ⟨39, _⟩ => ⟨S2x4x2048, .f32⟩
  | .hbm, ⟨40, _⟩ => ⟨S2x4x2048, .f32⟩
  | .hbm, ⟨41, _⟩ => ⟨S2x4x2048x1, .f32⟩
  | .hbm, ⟨42, _⟩ => ⟨S2x4x2048x256, .f32⟩
  | .hbm, ⟨43, _⟩ => ⟨S2x4x2048x256, .f32⟩
  | .hbm, ⟨44, _⟩ => ⟨S2x4x2048x256, .f32⟩
  | .hbm, ⟨45, _⟩ => ⟨S_, .f32⟩
  | .hbm, ⟨46, _⟩ => ⟨S2x4x2048, .f32⟩
  | .hbm, ⟨47, _⟩ => ⟨S2x4x2048x1, .f32⟩
  | .hbm, ⟨48, _⟩ => ⟨S2x4x2048x256, .f32⟩
  | .hbm, ⟨49, _⟩ => ⟨S2x4x2048x256, .f32⟩
  | .hbm, ⟨50, _⟩ => ⟨S2x4x2048x1, .f32⟩
  | .hbm, ⟨51, _⟩ => ⟨S_, .f32⟩
  | .hbm, ⟨52, _⟩ => ⟨S2x4x2048x1, .f32⟩
  | .hbm, ⟨53, _⟩ => ⟨S2x4x2048x1, .f32⟩
  | .hbm, ⟨54, _⟩ => ⟨S2x4x256x2048, .f32⟩
  | .hbm, ⟨55, _⟩ => ⟨S2x2048x4x256, .f32⟩
  | .hbm, ⟨56, _⟩ => ⟨S2x2048x1024, .f32⟩
  | .hbm, ⟨57, _⟩ => ⟨S4096x1024, .f32⟩
  | .hbm, ⟨58, _⟩ => ⟨S4096x1024, .f32⟩
  | .hbm, ⟨59, _⟩ => ⟨S2x2048x1024, .f32⟩
  | .hbm, ⟨60, _⟩ => ⟨S2x2048x4x256, .f32⟩
  | .hbm, ⟨61, _⟩ => ⟨S2x4x256x2048, .f32⟩
  | .hbm, ⟨62, _⟩ => ⟨S2x4x2048x256, .f32⟩
  | .hbm, ⟨63, _⟩ => ⟨S2x4x256x256, .f32⟩
  | .hbm, ⟨64, _⟩ => ⟨S2x256x4x256, .f32⟩
  | .hbm, ⟨65, _⟩ => ⟨S2x4x2048x256, .f32⟩
  | .hbm, ⟨66, _⟩ => ⟨S2x4x2048x256, .f32⟩
  | .hbm, ⟨67, _⟩ => ⟨S2x4x2048x256, .f32⟩
  | .hbm, ⟨68, _⟩ => ⟨S_, .f32⟩
  | .hbm, ⟨69, _⟩ => ⟨S2x4x2048, .f32⟩
  | .hbm, ⟨70, _⟩ => ⟨S2x4x2048x1, .f32⟩
  | .hbm, ⟨71, _⟩ => ⟨S2x4x2048x1, .f32⟩
  | .hbm, ⟨72, _⟩ => ⟨S2x4x2048x256, .f32⟩
  | .hbm, ⟨73, _⟩ => ⟨S2x4x2048x256, .f32⟩
  | .hbm, ⟨74, _⟩ => ⟨S_, .f32⟩
  | .hbm, ⟨75, _⟩ => ⟨S2x4x2048, .f32⟩
  | .hbm, ⟨76, _⟩ => ⟨S2x4x2048x256, .f32⟩
  | .hbm, ⟨77, _⟩ => ⟨S2x4x2048x256, .f32⟩
  | .hbm, ⟨78, _⟩ => ⟨S2x4x2048x256, .f32⟩
  | .hbm, ⟨79, _⟩ => ⟨S_, .f32⟩
  | .hbm, ⟨80, _⟩ => ⟨S2x4x2048x256, .f32⟩
  | .hbm, ⟨81, _⟩ => ⟨S2x4x2048x256, .f32⟩
  | .hbm, ⟨82, _⟩ => ⟨S2x4x256x256, .f32⟩
  | .hbm, ⟨83, _⟩ => ⟨S2x256x4x256, .f32⟩
  | .hbm, ⟨84, _⟩ => ⟨S2x4x2048x256, .f32⟩
  | .hbm, ⟨85, _⟩ => ⟨S2x2048x4x256, .f32⟩
  | .hbm, ⟨86, _⟩ => ⟨S2x256x1024, .f32⟩
  | .hbm, ⟨87, _⟩ => ⟨S2x256x1024, .f32⟩
  | .hbm, ⟨88, _⟩ => ⟨S2x2048x1024, .f32⟩
  | .hbm, ⟨89, _⟩ => ⟨S4096x1024, .f32⟩
  | .hbm, ⟨90, _⟩ => ⟨S2x256x2048, .f32⟩
  | .hbm, ⟨91, _⟩ => ⟨S512x2048, .f32⟩
  | .hbm, ⟨92, _⟩ => ⟨S4096x1024, .bf16⟩
  | .hbm, ⟨93, _⟩ => ⟨S512x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_10 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_11 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩

abbrev nD : Nat := 1
abbrev τ : Topo := Topo.v7x

variable {F : FTy → Type} [FloatOps F]
-- ==== Kernel2.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S8x128 : Shape := ⟨2, ![8, 128]⟩
abbrev S2x512x2816 : Shape := ⟨3, ![2, 512, 2816]⟩
abbrev S512x1024 : Shape := ⟨2, ![512, 1024]⟩
abbrev S1x512x2816 : Shape := ⟨3, ![1, 512, 2816]⟩
abbrev S512x2816 : Shape := ⟨2, ![512, 2816]⟩
abbrev S1024x2816 : Shape := ⟨2, ![1024, 2816]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S2x512x2816, .bf16⟩
  | .local _ .vmem, ⟨1, _⟩ => ⟨S2x512x2816, .bf16⟩
  | .local _ .vmem, ⟨2, _⟩ => ⟨S1024x5632, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S2x4096x2816 : Shape := ⟨3, ![2, 4096, 2816]⟩
abbrev S1024x5632 : Shape := ⟨2, ![1024, 5632]⟩
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S1024x5632, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .f32⟩
  | .hbm, ⟨27, _⟩ => ⟨S4096x2816, .f32⟩
  | .hbm, ⟨28, _⟩ => ⟨S4096x2816, .f32⟩
  | .hbm, ⟨29, _⟩ => ⟨S1x4096x2816, .f32⟩
  | .hbm, ⟨30, _⟩ => ⟨S1x4096x2816, .f32⟩
  | .hbm, ⟨31, _⟩ => ⟨S2x4096x2816, .f32⟩
  | .hbm, ⟨32, _⟩ => ⟨S2x4096x2816, .f32⟩
  | .hbm, ⟨33, _⟩ => ⟨S1x4096x2816, .f32⟩
  | .hbm, ⟨34, _⟩ => ⟨S4096x2816, .f32⟩
  | .hbm, ⟨35, _⟩ => ⟨S1x4096x2816, .f32⟩
  | .hbm, ⟨36, _⟩ => ⟨S4096x2816, .f32⟩
  | .hbm, ⟨37, _⟩ => ⟨S4096x5632, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_cst_6 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel4.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S4096x1024, .f32⟩
  | .hbm, ⟨7, _⟩ => ⟨S1x1024, .f32⟩
  | .local _ .vmem, ⟨0, _⟩ => ⟨S1024x1536, .bf16⟩
  | .local _ .vmem, ⟨1, _⟩ => ⟨S1024x1536, .bf16⟩
  | .local _ .vmem, ⟨2, _⟩ => ⟨S1024x1536, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S4096x1536 : Shape := ⟨2, ![4096, 1536]⟩
abbrev S1024x1536 : Shape := ⟨2, ![1024, 1536]⟩
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1024x1536, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x128, .f32⟩
  | .hbm, ⟨6, _⟩ => ⟨S1024x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1536, .f32⟩
  | .hbm, ⟨27, _⟩ => ⟨S4096x1536, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel5.lean ====
abbrev S4096x1024 : Shape := ⟨2, ![4096, 1024]⟩
abbrev S2x4096x2816 : Shape := ⟨3, ![2, 4096, 2816]⟩
abbrev S8x512x1408 : Shape := ⟨3, ![8, 512, 1408]⟩
abbrev S4096x512 : Shape := ⟨2, ![4096, 512]⟩
abbrev S1x4096x1408 : Shape := ⟨3, ![1, 4096, 1408]⟩
abbrev S1x512x1408 : Shape := ⟨3, ![1, 512, 1408]⟩
abbrev S4096x1408 : Shape := ⟨2, ![4096, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S8x512x1408, .bf16⟩
  | .local _ .vmem, ⟨0, _⟩ => ⟨S4096x512, .bf16⟩
  | .local _ .vmem, ⟨1, _⟩ => ⟨S4096x512, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x512x1408, .bf16⟩
  | .local _ .vmem, ⟨5, _⟩ => ⟨S1x512x1408, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x1024 : Shape := ⟨2, ![4096, 1024]⟩
abbrev S2x4096x2816 : Shape := ⟨3, ![2, 4096, 2816]⟩
abbrev S_ : Shape := ⟨0, ![]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩
abbrev S8x512x1408 : Shape := ⟨3, ![8, 512, 1408]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S1x4096x2816, .f32⟩
  | .hbm, ⟨9, _⟩ => ⟨S1x4096x2816, .f32⟩
  | .hbm, ⟨10, _⟩ => ⟨S2x4096x2816, .f32⟩
  | .hbm, ⟨11, _⟩ => ⟨S2x4096x2816, .f32⟩
  | .hbm, ⟨12, _⟩ => ⟨S1x4096x2816, .f32⟩
  | .hbm, ⟨13, _⟩ => ⟨S4096x2816, .f32⟩
  | .hbm, ⟨14, _⟩ => ⟨S1x4096x2816, .f32⟩
  | .hbm, ⟨15, _⟩ => ⟨S4096x2816, .f32⟩
  | .hbm, ⟨16, _⟩ => ⟨S4096x5632, .f32⟩
  | .hbm, ⟨17, _⟩ => ⟨S5632x1024, .f32⟩
  | .hbm, ⟨18, _⟩ => ⟨S1024x5632, .f32⟩
  | .hbm, ⟨19, _⟩ => ⟨S2x512x4x1408, .f32⟩
  | .hbm, ⟨20, _⟩ => ⟨S4x2x512x1408, .f32⟩
  | .hbm, ⟨21, _⟩ => ⟨S8x512x1408, .f32⟩
  | .hbm, ⟨22, _⟩ => ⟨S8x512x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel6.lean ====
abbrev S4096x1024 : Shape := ⟨2, ![4096, 1024]⟩
abbrev S2816x1024 : Shape := ⟨2, ![2816, 1024]⟩
abbrev S4096x2816 : Shape := ⟨2, ![4096, 2816]⟩
abbrev S1024x1024 : Shape := ⟨2, ![1024, 1024]⟩
abbrev S1024x2816 : Shape := ⟨2, ![1024, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S2816x1024, .bf16⟩
  | .local _ .vmem, ⟨3, _⟩ => ⟨S1024x2816, .bf16⟩
  | .local _ .vmem, ⟨4, _⟩ => ⟨S1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2816x1024, .f32⟩
  | .hbm, ⟨3, _⟩ => ⟨S_, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x5632 : Shape := ⟨2, ![1024, 5632]⟩
abbrev S2x4096x2816 : Shape := ⟨3, ![2, 4096, 2816]⟩
abbrev S1024x1024 : Shape := ⟨2, ![1024, 1024]⟩
abbrev S1024x2816 : Shape := ⟨2, ![1024, 2816]⟩
abbrev S1x1024x2816 : Shape := ⟨3, ![1, 1024, 2816]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1x1024x2816, .bf16⟩
  | .local _ .vmem, ⟨5, _⟩ => ⟨S1x1024x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel9.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .bf16⟩
  | .hbm, ⟨2, _⟩ => ⟨S4096x1024, .f32⟩
  | .hbm, ⟨3, _⟩ => ⟨S1024x1536, .f32⟩
  | .hbm, ⟨4, _⟩ => ⟨S4096x1536, .f32⟩
  | .hbm, ⟨5, _⟩ => ⟨S4096x1536, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel10.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel11.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x2048, .bf16⟩
  | .local _ .vmem, ⟨0, _⟩ => ⟨S512x1024, .bf16⟩
  | .local _ .vmem, ⟨1, _⟩ => ⟨S1024x2048, .bf16⟩
  | .local _ .vmem, ⟨2, _⟩ => ⟨S512x2048, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference11Ideal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x1024, .f32⟩
  | .hbm, ⟨3, _⟩ => ⟨S1024x2048, .f32⟩
  | .hbm, ⟨4, _⟩ => ⟨S512x2048, .f32⟩
  | .hbm, ⟨5, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S512x1024, .f32⟩
  | .local _ .vmem, ⟨0, _⟩ => ⟨S512x2048, .bf16⟩
  | .local _ .vmem, ⟨1, _⟩ => ⟨S1024x2048, .bf16⟩
  | .local _ .vmem, ⟨2, _⟩ => ⟨S512x1024, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference13Ideal.lean ====
abbrev S512x2048 : Shape := ⟨2, ![512, 2048]⟩
abbrev S1024x2048 : Shape := ⟨2, ![1024, 2048]⟩
abbrev S_ : Shape := ⟨0, ![]⟩
abbrev S512x1024 : Shape := ⟨2, ![512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S1024x2048, .f32⟩
  | .hbm, ⟨3, _⟩ => ⟨S_, .f32⟩
  | .hbm, ⟨4, _⟩ => ⟨S512x1024, .f32⟩
  | .hbm, ⟨5, _⟩ => ⟨S512x2048, .f32⟩
  | .hbm, ⟨6, _⟩ => ⟨S512x2048, .f32⟩
  | .hbm, ⟨7, _⟩ => ⟨S512x1024, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S512x1024 : Shape := ⟨2, ![512, 1024]⟩
abbrev S512x2048 : Shape := ⟨2, ![512, 2048]⟩
abbrev S8x512x512 : Shape := ⟨3, ![8, 512, 512]⟩
abbrev S512x512 : Shape := ⟨2, ![512, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S8x512x512, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1x512x512, .bf16⟩
  | .local _ .vmem, ⟨5, _⟩ => ⟨S1x512x512, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S4x2x512x512 : Shape := ⟨4, ![4, 2, 512, 512]⟩
abbrev S8x512x512 : Shape := ⟨3, ![8, 512, 512]⟩

abbrev nBuf : Space → Nat
  | .hbm => 13
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S512x1024, .f32⟩
  | .hbm, ⟨3, _⟩ => ⟨S_, .f32⟩
  | .hbm, ⟨4, _⟩ => ⟨S1024x2048, .f32⟩
  | .hbm, ⟨5, _⟩ => ⟨S512x2048, .f32⟩
  | .hbm, ⟨6, _⟩ => ⟨S512x2048, .f32⟩
  | .hbm, ⟨7, _⟩ => ⟨S2048x1024, .f32⟩
  | .hbm, ⟨8, _⟩ => ⟨S1024x2048, .f32⟩
  | .hbm, ⟨9, _⟩ => ⟨S2x512x4x512, .f32⟩
  | .hbm, ⟨10, _⟩ => ⟨S4x2x512x512, .f32⟩
  | .hbm, ⟨11, _⟩ => ⟨S8x512x512, .f32⟩
  | .hbm, ⟨12, _⟩ => ⟨S8x512x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel16.lean ====
abbrev S4096x1024 : Shape := ⟨2, ![4096, 1024]⟩
abbrev S4096x1536 : Shape := ⟨2, ![4096, 1536]⟩
abbrev S8x512x384 : Shape := ⟨3, ![8, 512, 384]⟩
abbrev S4096x512 : Shape := ⟨2, ![4096, 512]⟩
abbrev S4096x384 : Shape := ⟨2, ![4096, 384]⟩
abbrev S1x512x384 : Shape := ⟨3, ![1, 512, 384]⟩
abbrev S512x384 : Shape := ⟨2, ![512, 384]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S8x512x384, .bf16⟩
  | .local _ .vmem, ⟨0, _⟩ => ⟨S4096x512, .bf16⟩
  | .local _ .vmem, ⟨1, _⟩ => ⟨S4096x512, .bf16⟩
  | .local _ .vmem, ⟨2, _⟩ => ⟨S4096x384, .bf16⟩
  | .local _ .vmem, ⟨3, _⟩ => ⟨S4096x384, .bf16⟩
  | .local _ .vmem, ⟨4, _⟩ => ⟨S1x512x384, .bf16⟩
  | .local _ .vmem, ⟨5, _⟩ => ⟨S1x512x384, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let v1 : BitVec 32 := Scalar.addi v0 arg0
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x1024 : Shape := ⟨2, ![4096, 1024]⟩
abbrev S4096x1536 : Shape := ⟨2, ![4096, 1536]⟩
abbrev S_ : Shape := ⟨0, ![]⟩
abbrev S1024x1536 : Shape := ⟨2, ![1024, 1536]⟩
abbrev S1536x1024 : Shape := ⟨2, ![1536, 1024]⟩
abbrev S2x512x4x384 : Shape := ⟨4, ![2, 512, 4, 384]⟩
abbrev S4x2x512x384 : Shape := ⟨4, ![4, 2, 512, 384]⟩
abbrev S8x512x384 : Shape := ⟨3, ![8, 512, 384]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S4096x1024, .f32⟩
  | .hbm, ⟨3, _⟩ => ⟨S_, .f32⟩
  | .hbm, ⟨4, _⟩ => ⟨S1024x1536, .f32⟩
  | .hbm, ⟨5, _⟩ => ⟨S4096x1536, .f32⟩
  | .hbm, ⟨6, _⟩ => ⟨S4096x1536, .f32⟩
  | .hbm, ⟨7, _⟩ => ⟨S1536x1024, .f32⟩
  | .hbm, ⟨8, _⟩ => ⟨S1024x1536, .f32⟩
  | .hbm, ⟨9, _⟩ => ⟨S2x512x4x384, .f32⟩
  | .hbm, ⟨10, _⟩ => ⟨S4x2x512x384, .f32⟩
  | .hbm, ⟨11, _⟩ => ⟨S8x512x384, .f32⟩
  | .hbm, ⟨12, _⟩ => ⟨S8x512x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference17Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel18.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x1 : Shape := ⟨2, ![1, 1]⟩
abbrev S1024x2816 : Shape := ⟨2, ![1024, 2816]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .hbm, ⟨8, _⟩ => ⟨S1x1, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S1x1, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x1 : Shape := ⟨2, ![1, 1]⟩

abbrev nBuf : Space → Nat
  | .hbm => 75
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S_, .f32⟩
  | .hbm, ⟨44, _⟩ => ⟨S4096, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x1024, .f32⟩
  | .hbm, ⟨61, _⟩ => ⟨S4096x1024, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S1x1, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel19.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference19Ideal.lean ====
abbrev S512x1024 : Shape := ⟨2, ![512, 1024]⟩
abbrev S_ : Shape := ⟨0, ![]⟩
abbrev S1x1024 : Shape := ⟨2, ![1, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S_, .f32⟩
  | .hbm, ⟨3, _⟩ => ⟨S1x1024, .f32⟩
  | .hbm, ⟨4, _⟩ => ⟨S512x1024, .f32⟩
  | .hbm, ⟨5, _⟩ => ⟨S_, .f32⟩
  | .hbm, ⟨6, _⟩ => ⟨S512, .f32⟩
  | .hbm, ⟨7, _⟩ => ⟨S512x1, .f32⟩
  | .hbm, ⟨8, _⟩ => ⟨S_, .f32⟩
  | .hbm, ⟨9, _⟩ => ⟨S512x1, .f32⟩
  | .hbm, ⟨10, _⟩ => ⟨S512x1, .f32⟩
  | .hbm, ⟨11, _⟩ => ⟨S_, .f32⟩
  | .hbm, ⟨12, _⟩ => ⟨S512x1, .f32⟩
  | .hbm, ⟨13, _⟩ => ⟨S512x1, .f32⟩
  | .hbm, ⟨14, _⟩ => ⟨S512x1, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S1024, .f32⟩
  | .hbm, ⟨22, _⟩ => ⟨S1x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel21.lean ====
abbrev S4096x1024 : Shape := ⟨2, ![4096, 1024]⟩
abbrev S512x2048 : Shape := ⟨2, ![512, 2048]⟩
abbrev S1024x1024 : Shape := ⟨2, ![1024, 1024]⟩
abbrev S256x2048 : Shape := ⟨2, ![256, 2048]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x1024 : Shape := ⟨2, ![4096, 1024]⟩
abbrev S512x2048 : Shape := ⟨2, ![512, 2048]⟩
abbrev S2x256x2048 : Shape := ⟨3, ![2, 256, 2048]⟩
abbrev S2x256x1024 : Shape := ⟨3, ![2, 256, 1024]⟩
abbrev S2x2048x1024 : Shape := ⟨3, ![2, 2048, 1024]⟩
abbrev S2x2048x4x256 : Shape := ⟨4, ![2, 2048, 4, 256]⟩
abbrev S2x256x4x256 : Shape := ⟨4, ![2, 256, 4, 256]⟩
abbrev S2x4x2048x256 : Shape := ⟨4, ![2, 4, 2048, 256]⟩
abbrev S_ : Shape := ⟨0, ![]⟩
abbrev S2x4x2048 : Shape := ⟨3, ![2, 4, 2048]⟩
abbrev S2x4x2048x1 : Shape := ⟨4, ![2, 4, 2048, 1]⟩
abbrev S2x4x256x2048 : Shape := ⟨4, ![2, 4, 256, 2048]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x2048, .bf16⟩
  | .hbm, ⟨2, _⟩ => ⟨S4096x1024, .f32⟩
  | .hbm, ⟨3, _⟩ => ⟨S512x2048, .f32⟩
  | .hbm, ⟨4, _⟩ => ⟨S2x256x2048, .f32⟩
  | .hbm, ⟨5, _⟩ => ⟨S2x256x1024, .f32⟩
  | .hbm, ⟨6, _⟩ => ⟨S2x256x1024, .f32⟩
  | .hbm, ⟨7, _⟩ => ⟨S2x2048x1024, .f32⟩
  | .hbm, ⟨8, _⟩ => ⟨S2x2048x4x256, .f32⟩
  | .hbm, ⟨9, _⟩ => ⟨S2x256x4x256, .f32⟩
  | .hbm, ⟨10, _⟩ => ⟨S2x256x4x256, .f32⟩
  | .hbm, ⟨11, _⟩ => ⟨S2x4x2048x256, .f32⟩
  | .hbm, ⟨12, _⟩ => ⟨S_, .f32⟩
  | .hbm, ⟨13, _⟩ => ⟨S2x4x2048x256, .f32⟩
  | .hbm, ⟨14, _⟩ => ⟨S2x4x2048x256, .f32⟩
  | .hbm, ⟨15, _⟩ => ⟨S_, .f32⟩
  | .hbm, ⟨16, _⟩ => ⟨S2x4x2048, .f32⟩
  | .hbm, ⟨17, _⟩ => ⟨S_, .f32⟩
  | .hbm, ⟨18, _⟩ => ⟨S2x4x2048, .f32⟩
  | .hbm, ⟨19, _⟩ => ⟨S2x4x2048, .f32⟩
  | .hbm, ⟨20, _⟩ => ⟨S2x4x2048x1, .f32⟩
  | .hbm, ⟨21, _⟩ => ⟨S2x4x2048x256, .f32⟩
  | .hbm, ⟨22, _⟩ => ⟨S2x4x2048x256, .f32⟩
  | .hbm, ⟨23, _⟩ => ⟨S2x4x2048x256, .f32⟩
  | .hbm, ⟨24, _⟩ => ⟨S_, .f32⟩
  | .hbm, ⟨25, _⟩ => ⟨S2x4x2048, .f32⟩
  | .hbm, ⟨26, _⟩ => ⟨S2x4x2048x1, .f32⟩
  | .hbm, ⟨27, _⟩ => ⟨S2x4x2048x256, .f32⟩
  | .hbm, ⟨28, _⟩ => ⟨S2x4x2048x256, .f32⟩
  | .hbm, ⟨29, _⟩ => ⟨S2x4x256x2048, .f32⟩
  | .hbm, ⟨30, _⟩ => ⟨S2x2048x4x256, .f32⟩
  | .hbm, ⟨31, _⟩ => ⟨S2x2048x1024, .f32⟩
  | .hbm, ⟨32, _⟩ => ⟨S4096x1024, .f32⟩
  | .hbm, ⟨33, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Kernel22.lean ====
abbrev S4096x1024 : Shape := ⟨2, ![4096, 1024]⟩
abbrev S1024x1024 : Shape := ⟨2, ![1024, 1024]⟩
abbrev S1x1024 : Shape := ⟨2, ![1, 1024]⟩
abbrev S8x128 : Shape := ⟨2, ![8, 128]⟩
abbrev S1024 : Shape := ⟨1, ![1024]⟩
abbrev S1024x1 : Shape := ⟨2, ![1024, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference22Ideal.lean ====
abbrev S4096x1024 : Shape := ⟨2, ![4096, 1024]⟩
abbrev S1024x1024 : Shape := ⟨2, ![1024, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S8x128, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== Kernel20.lean ====
abbrev S4096x512 : Shape := ⟨2, ![4096, 512]⟩
abbrev S4096x1024 : Shape := ⟨2, ![4096, 1024]⟩
abbrev S1x512 : Shape := ⟨2, ![1, 512]⟩
abbrev S8x128 : Shape := ⟨2, ![8, 128]⟩
abbrev S8x512 : Shape := ⟨2, ![8, 512]⟩
abbrev S1024x512 : Shape := ⟨2, ![1024, 512]⟩
abbrev S1024 : Shape := ⟨1, ![1024]⟩
abbrev S1024x1 : Shape := ⟨2, ![1024, 1]⟩
abbrev S512 : Shape := ⟨1, ![512]⟩

abbrev nBuf : Space → Nat
  | .hbm => 7
  | .vmem => 9
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S1x512, .f32⟩
  | .hbm, ⟨3, _⟩ => ⟨S1x512, .f32⟩
  | .hbm, ⟨4, _⟩ => ⟨S8x128, .f32⟩
  | .hbm, ⟨5, _⟩ => ⟨S4096x512, .f32⟩
  | .hbm, ⟨6, _⟩ => ⟨S8x512, .f32⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S8x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference20Ideal.lean ====
abbrev S4096x512 : Shape := ⟨2, ![4096, 512]⟩
abbrev S4096x1024 : Shape := ⟨2, ![4096, 1024]⟩
abbrev S1x512 : Shape := ⟨2, ![1, 512]⟩
abbrev S8x128 : Shape := ⟨2, ![8, 128]⟩
abbrev S_ : Shape := ⟨0, ![]⟩
abbrev S4096 : Shape := ⟨1, ![4096]⟩
abbrev S4096x1 : Shape := ⟨2, ![4096, 1]⟩
abbrev S512 : Shape := ⟨1, ![512]⟩
abbrev S5x512 : Shape := ⟨2, ![5, 512]⟩
abbrev S8x512 : Shape := ⟨2, ![8, 512]⟩

abbrev nBuf : Space → Nat
  | .hbm => 108
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S1x512, .f32⟩
  | .hbm, ⟨3, _⟩ => ⟨S1x512, .f32⟩
  | .hbm, ⟨4, _⟩ => ⟨S8x128, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S_, .f32⟩
  | .hbm, ⟨42, _⟩ => ⟨S4096x512, .f32⟩
  | .hbm, ⟨43, _⟩ => ⟨S4096x512, .f32⟩
  | .hbm, ⟨44, _⟩ => ⟨S_, .f32⟩
  | .hbm, ⟨45, _⟩ => ⟨S4096x512, .f32⟩
  | .hbm, ⟨46, _⟩ => ⟨S4096x512, .f32⟩
  | .hbm, ⟨47, _⟩ => ⟨S_, .f32⟩
  | .hbm, ⟨48, _⟩ => ⟨S4096x512, .f32⟩
  | .hbm, ⟨49, _⟩ => ⟨S4096x512, .f32⟩
  | .hbm, ⟨50, _⟩ => ⟨S4096x512, .f32⟩
  | .hbm, ⟨51, _⟩ => ⟨S4096x512, .f32⟩
  | .hbm, ⟨52, _⟩ => ⟨S4096x512, .bf16⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S_, .f32⟩
  | .hbm, ⟨59, _⟩ => ⟨S512, .f32⟩
  | .hbm, ⟨60, _⟩ => ⟨S1x512, .f32⟩
  | .hbm, ⟨61, _⟩ => ⟨S4096x512, .f32⟩
  | .hbm, ⟨62, _⟩ => ⟨S_, .f32⟩
  | .hbm, ⟨63, _⟩ => ⟨S512, .f32⟩
  | .hbm, ⟨64, _⟩ => ⟨S1x512, .f32⟩
  | .hbm, ⟨65, _⟩ => ⟨S4096x512, .f32⟩
  | .hbm, ⟨66, _⟩ => ⟨S4096x512, .f32⟩
  | .hbm, ⟨67, _⟩ => ⟨S4096x512, .f32⟩
  | .hbm, ⟨68, _⟩ => ⟨S_, .f32⟩
  | .hbm, ⟨69, _⟩ => ⟨S4096, .f32⟩
  | .hbm, ⟨70, _⟩ => ⟨S4096x1, .f32⟩
  | .hbm, ⟨71, _⟩ => ⟨S4096x512, .f32⟩
  | .hbm, ⟨72, _⟩ => ⟨S4096x512, .f32⟩
  | .hbm, ⟨73, _⟩ => ⟨S4096x1, .f32⟩
  | .hbm, ⟨74, _⟩ => ⟨S4096x512, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x512, .f32⟩
  | .hbm, ⟨84, _⟩ => ⟨S4096x512, .f32⟩
  | .hbm, ⟨85, _⟩ => ⟨S4096x512, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x512, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x512, .f32⟩
  | .hbm, ⟨97, _⟩ => ⟨S4096x512, .f32⟩
  | .hbm, ⟨98, _⟩ => ⟨S_, .f32⟩
  | .hbm, ⟨99, _⟩ => ⟨S1x512, .f32⟩
  | .hbm, ⟨100, _⟩ => ⟨S4096x512, .f32⟩
  | .hbm, ⟨101, _⟩ => ⟨S4096x512, .f32⟩
  | .hbm, ⟨102, _⟩ => ⟨S_, .f32⟩
  | .hbm, ⟨103, _⟩ => ⟨S512, .f32⟩
  | .hbm, ⟨104, _⟩ => ⟨S1x512, .f32⟩
  | .hbm, ⟨105, _⟩ => ⟨S_, .f32⟩
  | .hbm, ⟨106, _⟩ => ⟨S5x512, .f32⟩
  | .hbm, ⟨107, _⟩ => ⟨S8x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v27_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v27_1 : Ref sig .tc := ⟨.hbm, 50, rfl⟩
abbrev main_v27_0 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_cst_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_7 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_8 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_cst_9 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_12 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_13 : Ref sig .tc := ⟨.hbm, 91, rfl⟩
abbrev main_v57 : Ref sig .tc := ⟨.hbm, 92, rfl⟩
abbrev main_v58 : Ref sig .tc := ⟨.hbm, 93, rfl⟩
abbrev main_cst_14 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_15 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_cst_16 : Ref sig .tc := ⟨.hbm, 102, rfl⟩
abbrev main_v65 : Ref sig .tc := ⟨.hbm, 103, rfl⟩
abbrev main_v66 : Ref sig .tc := ⟨.hbm, 104, rfl⟩
abbrev main_cst_17 : Ref sig .tc := ⟨.hbm, 105, rfl⟩
abbrev main_v67 : Ref sig .tc := ⟨.hbm, 106, rfl⟩
abbrev main_v68 : Ref sig .tc := ⟨.hbm, 107, rfl⟩

abbrev nD : Nat := 1
abbrev τ : Topo := Topo.v7x

variable {F : FTy → Type} [FloatOps F]
-- ==== Kernel23.lean ====
abbrev S4096x1024 : Shape := ⟨2, ![4096, 1024]⟩
abbrev S1x1024 : Shape := ⟨2, ![1, 1024]⟩
abbrev S8x128 : Shape := ⟨2, ![8, 128]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x128, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S4096x1024 : Shape := ⟨2, ![4096, 1024]⟩
abbrev S1x1024 : Shape := ⟨2, ![1, 1024]⟩
abbrev S8x128 : Shape := ⟨2, ![8, 128]⟩
abbrev S_ : Shape := ⟨0, ![]⟩
abbrev S4096 : Shape := ⟨1, ![4096]⟩
abbrev S4096x1 : Shape := ⟨2, ![4096, 1]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S8x128, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel24.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference24Ideal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel25.lean ====
abbrev S2x4096x2816 : Shape := ⟨3, ![2, 4096, 2816]⟩
abbrev S8x5632 : Shape := ⟨2, ![8, 5632]⟩
abbrev S1x5632 : Shape := ⟨2, ![1, 5632]⟩
abbrev S4096x2816 : Shape := ⟨2, ![4096, 2816]⟩
abbrev S2x2048x256 : Shape := ⟨3, ![2, 2048, 256]⟩
abbrev S2x16x256 : Shape := ⟨3, ![2, 16, 256]⟩
abbrev S8x256 : Shape := ⟨2, ![8, 256]⟩
abbrev S1x256 : Shape := ⟨2, ![1, 256]⟩
abbrev S2048x256 : Shape := ⟨2, ![2048, 256]⟩
abbrev S1x16x256 : Shape := ⟨3, ![1, 16, 256]⟩
abbrev S16x256 : Shape := ⟨2, ![16, 256]⟩
abbrev S1x64x256 : Shape := ⟨3, ![1, 64, 256]⟩
abbrev S64x256 : Shape := ⟨2, ![64, 256]⟩
abbrev S80x256 : Shape := ⟨2, ![80, 256]⟩
abbrev S72x256 : Shape := ⟨2, ![72, 256]⟩
abbrev S1x80x256 : Shape := ⟨3, ![1, 80, 256]⟩

abbrev nBuf : Space → Nat
  | .hbm => 5
  | .vmem => 16
  | .smem => 0
  | _ => 0

abbrev bufTy : (tb : Table) → Fin (tcTables nBuf tb) → BufTy
  | .hbm, ⟨0, _⟩ => ⟨S2x4096x2816, .bf16⟩
  | .hbm, ⟨1, _⟩ => ⟨S8x5632, .f32⟩
  | .hbm, ⟨2, _⟩ => ⟨S1x5632, .f32⟩
  | .hbm, ⟨3, _⟩ => ⟨S4096x2816, .bf16⟩
  | .hbm, ⟨4, _⟩ => ⟨S2x4096x2816, .bf16⟩
  | .local _ .vmem, ⟨0, _⟩ => ⟨S2x2048x256, .bf16⟩
  | .local _ .vmem, ⟨1, _⟩ => ⟨S2x2048x256, .bf16⟩
  | .local _ .vmem, ⟨2, _⟩ => ⟨S2x16x256, .bf16⟩
  | .local _ .vmem, ⟨3, _⟩ => ⟨S2x16x256, .bf16⟩
  | .local _ .vmem, ⟨4, _⟩ => ⟨S8x256, .f32⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S2048x256, .bf16⟩
  | .local _ .vmem, ⟨13, _⟩ => ⟨S2048x256, .bf16⟩
  | .local _ .vmem, ⟨14, _⟩ => ⟨S2x2048x256, .bf16⟩
  | .local _ .vmem, ⟨15, _⟩ => ⟨S2x2048x256, .bf16⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![11, 2], ![false, false]⟩

@[reducible] def k0_t1_loop : Scf.Loop 32 :=
  let c1_i32_40 : BitVec 32 := 1#32
  let c31_i32 : BitVec 32 := 31#32
  let v85 : BitVec 32 := Scalar.addi c1_i32_40 c31_i32
  let c1_i32_41 : BitVec 32 := 1#32
  ⟨c1_i32_40, v85, c1_i32_41⟩
def k0_mult1 (k0_t1 : Fin k0_t1_loop.trips) : BitVec 32 :=
  let c1_i32_40 : BitVec 32 := 1#32
  let c1_i32_41 : BitVec 32 := 1#32
  let arg10 : BitVec 32 := Scf.iv c1_i32_40 c1_i32_41 k0_t1
  let c64_i32 : BitVec 32 := 64#32
  let v86 : BitVec 32 := Scalar.muli arg10 c64_i32
  v86
def k0_off1 (k0_t1 : Fin k0_t1_loop.trips) : Fin 3 → Nat :=
  let c0_43 : Index := 0#32
  let c1_i32_40 : BitVec 32 := 1#32
  let c1_i32_41 : BitVec 32 := 1#32
  let arg10 : BitVec 32 := Scf.iv c1_i32_40 c1_i32_41 k0_t1
  let c64_i32 : BitVec 32 := 64#32
  let v86 : BitVec 32 := Scalar.muli arg10 c64_i32
  let v87 : BitVec 32 := v86
  let c16_i32 : BitVec 32 := 16#32
  let v88 : BitVec 32 := Scalar.subi v87 c16_i32
  let v89 : Index := Scalar.indexCast v88
  let c0_44 : Index := 0#32
  ![0, v89.toNat, 0]
def k0_off2 (k0_t1 : Fin k0_t1_loop.trips) : Fin 3 → Nat :=
  let c1_46 : Index := 1#32
  let c1_i32_40 : BitVec 32 := 1#32
  let c1_i32_41 : BitVec 32 := 1#32
  let arg10 : BitVec 32 := Scf.iv c1_i32_40 c1_i32_41 k0_t1
  let c64_i32 : BitVec 32 := 64#32
  let v86 : BitVec 32 := Scalar.muli arg10 c64_i32
  let v87 : BitVec 32 := v86
  let c16_i32_45 : BitVec 32 := 16#32
  let v92 : BitVec 32 := Scalar.subi v87 c16_i32_45
  let v93 : Index := Scalar.indexCast v92
  let c0_47 : Index := 0#32
  ![1, v93.toNat, 0]
def k0_off3 (k0_t1 : Fin k0_t1_loop.trips) : Fin 3 → Nat :=
  let c0_58 : Index := 0#32
  let c1_i32_40 : BitVec 32 := 1#32
  let c1_i32_41 : BitVec 32 := 1#32
  let arg10 : BitVec 32 := Scf.iv c1_i32_40 c1_i32_41 k0_t1
  let c64_i32 : BitVec 32 := 64#32
  let v86 : BitVec 32 := Scalar.muli arg10 c64_i32
  let v87 : BitVec 32 := v86
  let v118 : Index := Scalar.indexCast v87
  let c0_59 : Index := 0#32
  ![0, v118.toNat, 0]
def k0_off4 (k0_t1 : Fin k0_t1_loop.trips) : Fin 3 → Nat :=
  let c1_70 : Index := 1#32
  let c1_i32_40 : BitVec 32 := 1#32
  let c1_i32_41 : BitVec 32 := 1#32
  let arg10 : BitVec 32 := Scf.iv c1_i32_40 c1_i32_41 k0_t1
  let c64_i32 : BitVec 32 := 64#32
  let v86 : BitVec 32 := Scalar.muli arg10 c64_i32
  let v87 : BitVec 32 := v86
  let v144 : Index := Scalar.indexCast v87
  let c0_71 : Index := 0#32
  ![1, v144.toNat, 0]
def k0_off5 (k0_t1 : Fin k0_t1_loop.trips) : Fin 2 → Nat :=
  let c1_i32_40 : BitVec 32 := 1#32
  let c1_i32_41 : BitVec 32 := 1#32
  let arg10 : BitVec 32 := Scf.iv c1_i32_40 c1_i32_41 k0_t1
  let c64_i32 : BitVec 32 := 64#32
  let v86 : BitVec 32 := Scalar.muli arg10 c64_i32
  let v87 : BitVec 32 := v86
  let v158 : Index := Scalar.indexCast v87
  let c0_75 : Index := 0#32
  ![v158.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S2x4096x2816 : Shape := ⟨3, ![2, 4096, 2816]⟩
abbrev S8x5632 : Shape := ⟨2, ![8, 5632]⟩
abbrev S1x5632 : Shape := ⟨2, ![1, 5632]⟩
abbrev S1x4096x2816 : Shape := ⟨3, ![1, 4096, 2816]⟩
abbrev S4096x2816 : Shape := ⟨2, ![4096, 2816]⟩
abbrev S3x2816 : Shape := ⟨2, ![3, 2816]⟩
abbrev S1x2816 : Shape := ⟨2, ![1, 2816]⟩
abbrev S2x2048x2816 : Shape := ⟨3, ![2, 2048, 2816]⟩
abbrev S_ : Shape := ⟨0, ![]⟩
abbrev S2x2050x2816 : Shape := ⟨3, ![2, 2050, 2816]⟩
abbrev S2816 : Shape := ⟨1, ![2816]⟩
abbrev S1x1x2816 : Shape := ⟨3, ![1, 1, 2816]⟩

abbrev nBuf : Space → Nat
  | .hbm => 89
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S8x5632, .f32⟩
  | .hbm, ⟨2, _⟩ => ⟨S1x5632, .f32⟩
  | .hbm, ⟨3, _⟩ => ⟨S2x4096x2816, .f32⟩
  | .hbm, ⟨4, _⟩ => ⟨S1x4096x2816, .f32⟩
  | .hbm, ⟨5, _⟩ => ⟨S4096x2816, .f32⟩
  | .hbm, ⟨6, _⟩ => ⟨S3x2816, .f32⟩
  | .hbm, ⟨7, _⟩ => ⟨S1x2816, .f32⟩
  | .hbm, ⟨8, _⟩ => ⟨S2x2048x2816, .f32⟩
  | .hbm, ⟨9, _⟩ => ⟨S_, .i32⟩
  | .hbm, ⟨10, _⟩ => ⟨S_, .f32⟩
  | .hbm, ⟨11, _⟩ => ⟨S2x2050x2816, .f32⟩
  | .hbm, ⟨12, _⟩ => ⟨S1x2816, .f32⟩
  | .hbm, ⟨13, _⟩ => ⟨S2816, .f32⟩
  | .hbm, ⟨14, _⟩ => ⟨S2x2048x2816, .f32⟩
  | .hbm, ⟨15, _⟩ => ⟨S1x1x2816, .f32⟩
  | .hbm, ⟨16, _⟩ => ⟨S2x2048x2816, .f32⟩
  | .hbm, ⟨17, _⟩ => ⟨S2x2048x2816, .f32⟩
  | .hbm, ⟨18, _⟩ => ⟨S_, .f32⟩
  | .hbm, ⟨19, _⟩ => ⟨S2x2048x2816, .f32⟩
  | .hbm, ⟨20, _⟩ => ⟨S2x2048x2816, .f32⟩
  | .hbm, ⟨21, _⟩ => ⟨S1x2816, .f32⟩
  | .hbm, ⟨22, _⟩ => ⟨S2816, .f32⟩
  | .hbm, ⟨23, _⟩ => ⟨S2x2048x2816, .f32⟩
  | .hbm, ⟨24, _⟩ => ⟨S1x1x2816, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S1x2816, .f32⟩
  | .hbm, ⟨29, _⟩ => ⟨S2816, .f32⟩
  | .hbm, ⟨30, _⟩ => ⟨S2x2048x2816, .f32⟩
  | .hbm, ⟨31, _⟩ => ⟨S1x1x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S1x1x2816, .f32⟩
  | .hbm, ⟨36, _⟩ => ⟨S2x2048x2816, .f32⟩
  | .hbm, ⟨37, _⟩ => ⟨S2x2048x2816, .f32⟩
  | .hbm, ⟨38, _⟩ => ⟨S4096x2816, .f32⟩
  | .hbm, ⟨39, _⟩ => ⟨S1x4096x2816, .f32⟩
  | .hbm, ⟨40, _⟩ => ⟨S4096x2816, .f32⟩
  | .hbm, ⟨41, _⟩ => ⟨S3x2816, .f32⟩
  | .hbm, ⟨42, _⟩ => ⟨S1x2816, .f32⟩
  | .hbm, ⟨43, _⟩ => ⟨S2x2048x2816, .f32⟩
  | .hbm, ⟨44, _⟩ => ⟨S_, .i32⟩
  | .hbm, ⟨45, _⟩ => ⟨S_, .f32⟩
  | .hbm, ⟨46, _⟩ => ⟨S2x2050x2816, .f32⟩
  | .hbm, ⟨47, _⟩ => ⟨S1x2816, .f32⟩
  | .hbm, ⟨48, _⟩ => ⟨S2816, .f32⟩
  | .hbm, ⟨49, _⟩ => ⟨S2x2048x2816, .f32⟩
  | .hbm, ⟨50, _⟩ => ⟨S1x1x2816, .f32⟩
  | .hbm, ⟨51, _⟩ => ⟨S2x2048x2816, .f32⟩
  | .hbm, ⟨52, _⟩ => ⟨S2x2048x2816, .f32⟩
  | .hbm, ⟨53, _⟩ => ⟨S_, .f32⟩
  | .hbm, ⟨54, _⟩ => ⟨S2x2048x2816, .f32⟩
  | .hbm, ⟨55, _⟩ => ⟨S2x2048x2816, .f32⟩
  | .hbm, ⟨56, _⟩ => ⟨S1x2816, .f32⟩
  | .hbm, ⟨57, _⟩ => ⟨S2816, .f32⟩
  | .hbm, ⟨58, _⟩ => ⟨S2x2048x2816, .f32⟩
  | .hbm, ⟨59, _⟩ => ⟨S1x1x2816, .f32⟩
  | .hbm, ⟨60, _⟩ => ⟨S2x2048x2816, .f32⟩
  | .hbm, ⟨61, _⟩ => ⟨S2x2048x2816, .f32⟩
  | .hbm, ⟨62, _⟩ => ⟨S2x2048x2816, .f32⟩
  | .hbm, ⟨63, _⟩ => ⟨S1x2816, .f32⟩
  | .hbm, ⟨64, _⟩ => ⟨S2816, .f32⟩
  | .hbm, ⟨65, _⟩ => ⟨S2x2048x2816, .f32⟩
  | .hbm, ⟨66, _⟩ => ⟨S1x1x2816, .f32⟩
  | .hbm, ⟨67, _⟩ => ⟨S2x2048x2816, .f32⟩
  | .hbm, ⟨68, _⟩ => ⟨S2x2048x2816, .f32⟩
  | .hbm, ⟨69, _⟩ => ⟨S2x2048x2816, .f32⟩
  | .hbm, ⟨70, _⟩ => ⟨S1x1x2816, .f32⟩
  | .hbm, ⟨71, _⟩ => ⟨S2x2048x2816, .f32⟩
  | .hbm, ⟨72, _⟩ => ⟨S2x2048x2816, .f32⟩
  | .hbm, ⟨73, _⟩ => ⟨S4096x2816, .f32⟩
  | .hbm, ⟨74, _⟩ => ⟨S4096x2816, .f32⟩
  | .hbm, ⟨75, _⟩ => ⟨S4096x2816, .f32⟩
  | .hbm, ⟨76, _⟩ => ⟨S_, .f32⟩
  | .hbm, ⟨77, _⟩ => ⟨S4096x2816, .f32⟩
  | .hbm, ⟨78, _⟩ => ⟨S4096x2816, .f32⟩
  | .hbm, ⟨79, _⟩ => ⟨S_, .f32⟩
  | .hbm, ⟨80, _⟩ => ⟨S4096x2816, .f32⟩
  | .hbm, ⟨81, _⟩ => ⟨S4096x2816, .f32⟩
  | .hbm, ⟨82, _⟩ => ⟨S4096x2816, .f32⟩
  | .hbm, ⟨83, _⟩ => ⟨S4096x2816, .f32⟩
  | .hbm, ⟨84, _⟩ => ⟨S4096x2816, .bf16⟩
  | .hbm, ⟨85, _⟩ => ⟨S1x4096x2816, .f32⟩
  | .hbm, ⟨86, _⟩ => ⟨S1x4096x2816, .f32⟩
  | .hbm, ⟨87, _⟩ => ⟨S2x4096x2816, .f32⟩
  | .hbm, ⟨88, _⟩ => ⟨S2x4096x2816, .bf16⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_c_0 : Ref sig .tc := ⟨.hbm, 44, rfl⟩
abbrev main_call1_v0 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_1 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_call2_v0 : Ref sig .tc := ⟨.hbm, 74, rfl⟩
abbrev main_call2_v1 : Ref sig .tc := ⟨.hbm, 75, rfl⟩
abbrev main_call2_cst : Ref sig .tc := ⟨.hbm, 76, rfl⟩
abbrev main_call2_v2 : Ref sig .tc := ⟨.hbm, 77, rfl⟩
abbrev main_call2_v3 : Ref sig .tc := ⟨.hbm, 78, rfl⟩
abbrev main_call2_cst_0 : Ref sig .tc := ⟨.hbm, 79, rfl⟩
abbrev main_call2_v4 : Ref sig .tc := ⟨.hbm, 80, rfl⟩
abbrev main_call2_v5 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩

abbrev nD : Nat := 1
abbrev τ : Topo := Topo.v7x

variable {F : FTy → Type} [FloatOps F]
-- ==== Proof.Attention.Maths.lean ====
/- The attention of one query row over one head's 256 memory rows, and its gradient, as functions of the rows alone.
   The kernel's spelling of the gradient and the reference's are equal where the scores are numbers. -/
module

public import Idealize.ShloMosaic.Lib.Pointwise

@[expose] public section

noncomputable section

namespace Cert.Attention

open Idealize.ShloMosaic

/-- One row of a head. -/
abbrev Row := Fin 256 → EReal

/-- 256 rows of a head. -/
abbrev Rows := Fin 256 → Fin 256 → EReal

/-- 1/16, the square root of the head width turned over. -/
def scale : EReal := Ideal.ofBits .f32 0x3D800000#32

def score (x : Row) (K : Rows) (j : Fin 256) : EReal := (∑ c : Fin 256, x c * K j c) * scale

def top (x : Row) (K : Rows) : EReal :=
  Finset.univ.fold max (Ideal.ofBits .f32 0xFF800000#32) (fun j : Fin 256 => score x K j)

def expo (x : Row) (K : Rows) (j : Fin 256) : EReal := Ideal.exp (score x K j - top x K)

def mass (x : Row) (K : Rows) : EReal := ∑ j : Fin 256, expo x K j

/-- The attention weight of memory row `j`. -/
def weight (x : Row) (K : Rows) (j : Fin 256) : EReal := Ideal.div (expo x K j) (mass x K)

/-- The gradient of the weight of row `j`, for the output's gradient `g`. -/
def dweight (g : Row) (V : Rows) (j : Fin 256) : EReal := ∑ c : Fin 256, g c * V j c

/-- The gradient of the score of row `j`, in the kernel's spelling. -/
def dscore (x : Row) (K V : Rows) (g : Row) (j : Fin 256) : EReal :=
  weight x K j * (dweight g V j - ∑ i : Fin 256, dweight g V i * weight x K i) * scale

/-- The same in the reference's spelling: the quotient rule of `expo / mass`. -/
def dscoreRef (x : Row) (K V : Rows) (g : Row) (j : Fin 256) : EReal :=
  (Ideal.div (dweight g V j) (mass x K)
    + -∑ i : Fin 256, dweight g V i * Ideal.div 1 (mass x K * mass x K) * expo x K i) * expo x K j * scale

theorem ofBits_neg_inf : Ideal.ofBits .f32 0xFF800000#32 = ⊥ := by
  simp [Ideal.ofBits, Ideal.ieee]

theorem ofBits_one : Ideal.ofBits .f32 0x3F800000#32 = 1 := by
  simp [Ideal.ofBits, Ideal.ieee, -EReal.coe_mul]; norm_num

theorem scale_eq : scale = ((1 / 16 : ℝ) : EReal) := by
  unfold scale
  simp [Ideal.ofBits, Ideal.ieee, -EReal.coe_mul]; norm_num

/-! ## The two spellings agree -/

/-- A sum times a number that is not negative is the sum of the products, whatever the terms. -/
theorem sum_mul_coe {n : ℕ} (f : Fin n → EReal) {r : ℝ} (hr : 0 ≤ r) : ∑ i, f i * (r : EReal) = (∑ i, f i) * (r : EReal) := by
  have : ∀ s : Finset (Fin n), ∑ i ∈ s, f i * (r : EReal) = (∑ i ∈ s, f i) * (r : EReal) := by
    intro s
    induction s using Finset.cons_induction with
    | empty => simp
    | cons a s ha ih =>
      rw [Finset.sum_cons, Finset.sum_cons, ih,
        EReal.right_distrib_of_nonneg_of_ne_top (EReal.coe_nonneg.mpr hr) (EReal.coe_ne_top r)]
  exact this _

theorem coe_sum {n : ℕ} (f : Fin n → ℝ) : ((∑ i, f i : ℝ) : EReal) = ∑ i, (f i : EReal) := by
  have : ∀ s : Finset (Fin n), ((∑ i ∈ s, f i : ℝ) : EReal) = ∑ i ∈ s, (f i : EReal) := by
    intro s
    induction s using Finset.cons_induction with
    | empty => simp
    | cons a s ha ih => rw [Finset.sum_cons, Finset.sum_cons, EReal.coe_add, ih]
  exact this _

/-- The scores of finite rows are numbers. -/
theorem score_real {x : Row} {K : Rows} (hx : ∀ c, ∃ r : ℝ, x c = r) (hK : ∀ j c, ∃ r : ℝ, K j c = r) (j : Fin 256) :
    ∃ s : ℝ, score x K j = s := by
  choose u hu using hx
  choose v hv using hK
  refine ⟨(∑ c, u c * v j c) * (1 / 16), ?_⟩
  unfold score
  rw [scale_eq, EReal.coe_mul, coe_sum]
  simp only [hu, hv, EReal.coe_mul]

/-- The exponentials of finite rows are numbers that are not negative, and their sum is a positive number. -/
theorem expo_real {x : Row} {K : Rows} (hx : ∀ c, ∃ r : ℝ, x c = r) (hK : ∀ j c, ∃ r : ℝ, K j c = r) :
    ∃ (e : Fin 256 → ℝ) (M : ℝ), (∀ j, expo x K j = e j) ∧ (∀ j, 0 ≤ e j) ∧ mass x K = M ∧ 0 < M := by
  choose s hs using score_real hx hK
  obtain ⟨i, -, hi⟩ := Finset.exists_mem_eq_sup (Finset.univ : Finset (Fin 256)) Finset.univ_nonempty (fun j => score x K j)
  have ht : top x K = (s i : EReal) := by
    rw [← hs i, ← hi]
    unfold top
    rw [ofBits_neg_inf]
    rfl
  have he : ∀ j, expo x K j = ((Real.exp (s j - s i) : ℝ) : EReal) := by
    intro j
    unfold expo
    rw [ht, hs j, ← EReal.coe_sub]
    rfl
  refine ⟨fun j => Real.exp (s j - s i), ∑ j, Real.exp (s j - s i), he, fun j => (Real.exp_pos _).le, ?_,
    Finset.sum_pos (fun j _ => Real.exp_pos _) Finset.univ_nonempty⟩
  unfold mass
  rw [coe_sum]
  exact Finset.sum_congr rfl fun j _ => he j

/-- Where queries and keys are finite, the quotient rule's gradient is the kernel's. -/
theorem dscoreRef_eq {x : Row} {K : Rows} (hx : ∀ c, ∃ r : ℝ, x c = r) (hK : ∀ j c, ∃ r : ℝ, K j c = r) (V : Rows) (g : Row) (j : Fin 256) :
    dscoreRef x K V g j = dscore x K V g j := by
  obtain ⟨e, M, he, he0, hM, hM0⟩ := expo_real hx hK
  have h1 : (0 : ℝ) ≤ 1 / M := by positivity
  have hw : ∀ i, weight x K i = ((e i * (1 / M) : ℝ) : EReal) := by
    intro i
    unfold weight
    rw [hM, he i, Ideal.div_coe hM0.ne', EReal.coe_mul]
  have hsum : ∑ i : Fin 256, dweight g V i * Ideal.div 1 (mass x K * mass x K) * expo x K i
      = (∑ i : Fin 256, dweight g V i * weight x K i) * ((1 / M : ℝ) : EReal) := by
    rw [← sum_mul_coe _ h1]
    refine Finset.sum_congr rfl fun i _ => ?_
    rw [hM, ← EReal.coe_mul, Ideal.div_coe (by positivity), one_mul, he i, hw i, mul_assoc, mul_assoc, ← EReal.coe_mul, ← EReal.coe_mul]
    congr 2
    field_simp
  unfold dscoreRef dscore
  rw [hsum, hM, Ideal.div_coe hM0.ne', ← neg_mul, ← EReal.right_distrib_of_nonneg_of_ne_top (EReal.coe_nonneg.mpr h1) (EReal.coe_ne_top _),
    ← sub_eq_add_neg, he j, hw j, EReal.coe_mul]
  ac_rfl

end Cert.Attention

end
-- ==== Proof.Attention.Payloads.lean ====
/- The arithmetic of one grid point of the attention gradient, head by head: the operands are one head's columns. -/
module

public import proofs.«01_k».proof.Proof.Gen.KernelIdeal.Value
public import proofs.«01_k».proof.Proof.Attention.Maths
public import Idealize.ShloMosaic.Lib.Pointwise

@[expose] public section

set_option maxRecDepth 16384

noncomputable section

namespace Cert.KernelIdeal.Attn

open Idealize.ShloMosaic Cert.KernelIdeal Cert.KernelIdeal.Gen Cert.Attention

/-- Row `r` of 1024 rows of one head. -/
def row (q : Vec Ideal S1024x256 .bf16) (r : Fin 1024) : Row := fun c => q (ix2 r c)

/-- The 256 memory rows of one head. -/
def rows (k : Vec Ideal S256x256 .bf16) : Rows := fun j c => k (ix2 j c)

/-- Row `r` of the queries' gradient. -/
def pdq (q : Vec Ideal S1024x256 .bf16) (k v : Vec Ideal S256x256 .bf16) (g : Vec Ideal S1024x256 .bf16) (r : Fin 1024) (l : Fin 256) : EReal :=
  ∑ j : Fin 256, dscore (row q r) (rows k) (rows v) (row g r) j * k (ix2 j l)

/-- What the 1024 rows add to the keys' gradient. -/
def pdk (q : Vec Ideal S1024x256 .bf16) (k v : Vec Ideal S256x256 .bf16) (g : Vec Ideal S1024x256 .bf16) (j l : Fin 256) : EReal :=
  ∑ r : Fin 1024, dscore (row q r) (rows k) (rows v) (row g r) j * q (ix2 r l)

/-- What the 1024 rows add to the values' gradient. -/
def pdv (q : Vec Ideal S1024x256 .bf16) (k : Vec Ideal S256x256 .bf16) (g : Vec Ideal S1024x256 .bf16) (j l : Fin 256) : EReal :=
  ∑ r : Fin 1024, weight (row q r) (rows k) j * g (ix2 r l)

variable (q : Vec Ideal S1024x256 .bf16) (k v : Vec Ideal S256x256 .bf16) (g : Vec Ideal S1024x256 .bf16) (a : Vec Ideal S256x256 .f32)

/-! ## Head 0 -/

theorem weight_head0 (r : Fin 1024) (j : Fin 256) : (k0_pay3 q k) (ix2 r j) = weight (row q r) (rows k) j := by
  pointwise! [k0_pay3, weight, mass, expo, top, score, scale, row, rows]

theorem dscore_head0 (r : Fin 1024) (j : Fin 256) :
    (k0_pay4 q k g v) (ix2 r j) = dscore (row q r) (rows k) (rows v) (row g r) j := by
  pointwise! [k0_pay4, weight_head0, dscore, dweight, scale, row, rows]

theorem dq_head0 (r : Fin 1024) (l : Fin 256) : (k0_pay5 q k g v) (ix2 r l) = pdq q k v g r l := by
  pointwise! [k0_pay5, dscore_head0, pdq]

theorem dk_head0 (j l : Fin 256) :
    (k0_pay6 q (k0_pay4 q k g v) a (constant S256x256 FTy.f32 0#32)) (ix2 j l) = a (ix2 j l) + pdk q k v g j l := by
  pointwise! [k0_pay6, dscore_head0, pdk]

theorem dv_head0 (j l : Fin 256) : (k0_pay7 g (k0_pay3 q k) a) (ix2 j l) = a (ix2 j l) + pdv q k g j l := by
  pointwise! [k0_pay7, weight_head0, pdv]

/-! ## Head 1 -/

theorem weight_head1 (r : Fin 1024) (j : Fin 256) : (k0_pay8 q k) (ix2 r j) = weight (row q r) (rows k) j := by
  pointwise! [k0_pay8, weight, mass, expo, top, score, scale, row, rows]

theorem dscore_head1 (r : Fin 1024) (j : Fin 256) :
    (k0_pay11 (k0_pay9 q k g v) k0_pay10) (ix2 r j) = dscore (row q r) (rows k) (rows v) (row g r) j := by
  pointwise! [k0_pay11, k0_pay9, k0_pay10, weight_head1, dscore, dweight, scale, row, rows]

theorem dq_head1 (r : Fin 1024) (l : Fin 256) : (k0_pay12 k (k0_pay9 q k g v) k0_pay10) (ix2 r l) = pdq q k v g r l := by
  pointwise! [k0_pay12, dscore_head1, pdq]

theorem dk_head1 (j l : Fin 256) :
    (k0_pay13 q (k0_pay9 q k g v) k0_pay10 a) (ix2 j l) = a (ix2 j l) + pdk q k v g j l := by
  pointwise! [k0_pay13, dscore_head1, pdk]

theorem dv_head1 (j l : Fin 256) : (k0_pay14 g (k0_pay8 q k) a) (ix2 j l) = a (ix2 j l) + pdv q k g j l := by
  pointwise! [k0_pay14, weight_head1, pdv]

/-! ## Head 2 -/

theorem weight_head2 (r : Fin 1024) (j : Fin 256) : (k0_pay15 q k) (ix2 r j) = weight (row q r) (rows k) j := by
  pointwise! [k0_pay15, weight, mass, expo, top, score, scale, row, rows]

theorem dscore_head2 (r : Fin 1024) (j : Fin 256) :
    (k0_pay16 g (k0_pay15 q k) v) (ix2 r j) = dscore (row q r) (rows k) (rows v) (row g r) j := by
  pointwise! [k0_pay16, weight_head2, dscore, dweight, scale, row, rows]

theorem dq_head2 (r : Fin 1024) (l : Fin 256) : (k0_pay17 k g (k0_pay15 q k) v) (ix2 r l) = pdq q k v g r l := by
  pointwise! [k0_pay17, dscore_head2, pdq]

theorem dk_head2 (j l : Fin 256) :
    (k0_pay18 q g (k0_pay15 q k) v a) (ix2 j l) = a (ix2 j l) + pdk q k v g j l := by
  pointwise! [k0_pay18, dscore_head2, pdk]

theorem dv_head2 (j l : Fin 256) : (k0_pay19 g (k0_pay15 q k) a) (ix2 j l) = a (ix2 j l) + pdv q k g j l := by
  pointwise! [k0_pay19, weight_head2, pdv]

/-! ## Head 3 -/

theorem weight_head3 (r : Fin 1024) (j : Fin 256) : (k0_pay22 (k0_pay20 q k) k0_pay21) (ix2 r j) = weight (row q r) (rows k) j := by
  pointwise! [k0_pay22, k0_pay20, k0_pay21, weight, mass, expo, top, score, scale, row, rows]

theorem dscore_head3 (r : Fin 1024) (j : Fin 256) :
    (k0_pay23 g (k0_pay20 q k) k0_pay21 v) (ix2 r j) = dscore (row q r) (rows k) (rows v) (row g r) j := by
  pointwise! [k0_pay23, weight_head3, dscore, dweight, scale, row, rows]

theorem dq_head3 (r : Fin 1024) (l : Fin 256) : (k0_pay24 k g (k0_pay20 q k) k0_pay21 v) (ix2 r l) = pdq q k v g r l := by
  pointwise! [k0_pay24, dscore_head3, pdq]

theorem dk_head3 (j l : Fin 256) :
    (k0_pay25 q g (k0_pay20 q k) k0_pay21 v a) (ix2 j l) = a (ix2 j l) + pdk q k v g j l := by
  pointwise! [k0_pay25, dscore_head3, pdk]

theorem dv_head3 (j l : Fin 256) : (k0_pay26 g (k0_pay20 q k) k0_pay21 a) (ix2 j l) = a (ix2 j l) + pdv q k g j l := by
  pointwise! [k0_pay26, weight_head3, pdv]

end Cert.KernelIdeal.Attn

end
-- ==== Proof.Attention.Block.lean ====
/- What one grid point of the attention gradient leaves: its rows of the queries' gradient, and what it adds to the keys'
   and values' gradient. -/
module

public import proofs.«01_k».proof.Proof.Gen.KernelIdeal.Value
public import proofs.«01_k».proof.Proof.Attention.Payloads
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Cert.KernelIdeal Cert.KernelIdeal.Gen Cert.Attention

/-- Head `h`'s columns of a block of queries, or of the output's gradient. -/
def qcols (Q : Vec Ideal S1024x1024 .bf16) (h : Fin 4) : Vec Ideal S1024x256 .bf16 :=
  fun x => Q (ix2 (x 0) ⟨256 * h + (x 1 : Fin 256), by have : (x 1).val < 256 := (x 1).isLt; omega⟩)

theorem qcols_at (Q : Vec Ideal S1024x1024 .bf16) (h : Fin 4) (r : Fin 1024) (l : Fin 256) :
    qcols Q h (ix2 r l) = Q (ix2 r ⟨256 * h + l, by omega⟩) := rfl

/-- Head `h`'s keys in a block of the memory. -/
def kcols (KV : Vec Ideal S256x2048 .bf16) (h : Fin 4) : Vec Ideal S256x256 .bf16 :=
  fun x => KV (ix2 (x 0) ⟨256 * h + (x 1 : Fin 256), by have : (x 1).val < 256 := (x 1).isLt; omega⟩)

theorem kcols_at (KV : Vec Ideal S256x2048 .bf16) (h : Fin 4) (r : Fin 256) (l : Fin 256) :
    kcols KV h (ix2 r l) = KV (ix2 r ⟨256 * h + l, by omega⟩) := rfl

/-- Head `h`'s values in a block of the memory. -/
def vcols (KV : Vec Ideal S256x2048 .bf16) (h : Fin 4) : Vec Ideal S256x256 .bf16 :=
  fun x => KV (ix2 (x 0) ⟨1024 + 256 * h + (x 1 : Fin 256), by have : (x 1).val < 256 := (x 1).isLt; omega⟩)

theorem vcols_at (KV : Vec Ideal S256x2048 .bf16) (h : Fin 4) (r : Fin 256) (l : Fin 256) :
    vcols KV h (ix2 r l) = KV (ix2 r ⟨1024 + 256 * h + l, by omega⟩) := rfl

variable (Q : Vec Ideal S1024x1024 .bf16) (KV : Vec Ideal S256x2048 .bf16) (G : Vec Ideal S1024x1024 .bf16)

def bdq (h : Fin 4) (r : Fin 1024) (l : Fin 256) : EReal := pdq (qcols Q h) (kcols KV h) (vcols KV h) (qcols G h) r l

def bdk (h : Fin 4) (j l : Fin 256) : EReal := pdk (qcols Q h) (kcols KV h) (vcols KV h) (qcols G h) j l

def bdv (h : Fin 4) (j l : Fin 256) : EReal := pdv (qcols Q h) (kcols KV h) (qcols G h) j l

theorem q_ld0 : View.ld Q (Rect.unit ![0, 0] ![1024, 256] inb_S1024x1024_S1024x256_0_0) = qcols Q 0 := by
  funext x
  idx_vars x
  pointwise! [qcols_at]

theorem k_ld0 : View.ld KV (Rect.unit ![0, 0] ![256, 256] inb_S256x2048_S256x256_0_0) = kcols KV 0 := by
  funext x
  idx_vars x
  pointwise! [kcols_at]

theorem v_ld0 : View.ld KV (Rect.unit ![0, 1024] ![256, 256] inb_S256x2048_S256x256_0_1024) = vcols KV 0 := by
  funext x
  idx_vars x
  pointwise! [vcols_at]

theorem q_ld1 : View.ld Q (Rect.unit ![0, 256] ![1024, 256] inb_S1024x1024_S1024x256_0_256) = qcols Q 1 := by
  funext x
  idx_vars x
  pointwise! [qcols_at]

theorem k_ld1 : View.ld KV (Rect.unit ![0, 256] ![256, 256] inb_S256x2048_S256x256_0_256) = kcols KV 1 := by
  funext x
  idx_vars x
  pointwise! [kcols_at]

theorem v_ld1 : View.ld KV (Rect.unit ![0, 1280] ![256, 256] inb_S256x2048_S256x256_0_1280) = vcols KV 1 := by
  funext x
  idx_vars x
  pointwise! [vcols_at]

theorem q_ld2 : View.ld Q (Rect.unit ![0, 512] ![1024, 256] inb_S1024x1024_S1024x256_0_512) = qcols Q 2 := by
  funext x
  idx_vars x
  pointwise! [qcols_at]

theorem k_ld2 : View.ld KV (Rect.unit ![0, 512] ![256, 256] inb_S256x2048_S256x256_0_512) = kcols KV 2 := by
  funext x
  idx_vars x
  pointwise! [kcols_at]

theorem v_ld2 : View.ld KV (Rect.unit ![0, 1536] ![256, 256] inb_S256x2048_S256x256_0_1536) = vcols KV 2 := by
  funext x
  idx_vars x
  pointwise! [vcols_at]

theorem q_ld3 : View.ld Q (Rect.unit ![0, 768] ![1024, 256] inb_S1024x1024_S1024x256_0_768) = qcols Q 3 := by
  funext x
  idx_vars x
  pointwise! [qcols_at]

theorem k_ld3 : View.ld KV (Rect.unit ![0, 768] ![256, 256] inb_S256x2048_S256x256_0_768) = kcols KV 3 := by
  funext x
  idx_vars x
  pointwise! [kcols_at]

theorem v_ld3 : View.ld KV (Rect.unit ![0, 1792] ![256, 256] inb_S256x2048_S256x256_0_1792) = vcols KV 3 := by
  funext x
  idx_vars x
  pointwise! [vcols_at]

/-- Pieces over an earlier fill, read where one of them lies. -/
theorem canon_over {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by simp at h
  | p :: L, h => by
    by_cases hp : y ∈ p.1.set
    · obtain ⟨x, rfl⟩ := p.1.exists_idx_of_mem hp
      rw [List.cons_append, show p.1.idx x = p.1.emb x from rfl, View.canon_cons_emb, View.canon_cons_emb]
    · rw [List.cons_append, View.canon_cons_of_not_mem _ _ hp, View.canon_cons_of_not_mem _ _ hp]
      refine canon_over L' y L ?_
      obtain ⟨q, hq, hy⟩ := h
      rcases List.mem_cons.mp hq with rfl | hq
      · exact absurd hy hp
      · exact ⟨q, hq, hy⟩

theorem canon_over8 {Val : EltTy → Type} [∀ e, Nonempty (Val e)] {S : Shape} {e : EltTy} (p0 p1 p2 p3 p4 p5 p6 p7 z : View.Piece Val S e) (y : S.Idx)
    (h : ∃ p ∈ [p0, p1, p2, p3, p4, p5, p6, p7], y ∈ p.1.set) :
    View.canon [p0, p1, p2, p3, p4, p5, p6, p7, z] y = View.canon [p0, p1, p2, p3, p4, p5, p6, p7] y :=
  canon_over [z] y [p0, p1, p2, p3, p4, p5, p6, p7] h

theorem ld_all (a : Vec Ideal S256x2048 .f32) : View.ld a (Rect.unit ![0, 0] ![256, 2048] inb_S256x2048_S256x2048_0_0) = a := by
  funext x
  idx_vars x
  pointwise!

theorem zeros_at (x : S256x2048.Idx) : k0_pay2 (F := Ideal) x = 0 := by
  idx_vars x
  pointwise [k0_pay2]

variable (c : Dev nD) (i : grid0.Coords) (arg2 : Memref sig .tc .vmem S1024x1024 .bf16) (harg2 : arg2.IsWhole) (arg3 : Memref sig .tc .vmem S256x2048 .bf16) (harg3 : arg3.IsWhole) (arg4 : Memref sig .tc .vmem S1024x1024 .bf16) (harg4 : arg4.IsWhole) (arg5 : Memref sig .tc .vmem S1024x1024 .bf16) (harg5 : arg5.IsWhole) (arg6 : Memref sig .tc .vmem S256x2048 .bf16) (harg6 : arg6.IsWhole) (arg7 : Memref sig .tc .vmem S256x2048 .f32) (harg7 : arg7.IsWhole)

variable (acc : Vec Ideal S256x2048 .f32)

theorem outA_dq (hc0 : cond0_0 i) (hc1 : ¬cond0_1 i) (r : Fin 1024) (h : Fin 4) (l : Fin 256) :
    out0_A_3 c i arg2 harg2 arg3 harg3 arg4 harg4 arg5 harg5 arg6 harg6 arg7 harg7 hc0 hc1 Q KV G (ix2 r ⟨256 * h + l, by omega⟩) = bdq Q KV G h r l := by
  frame_open
  simp (disch := decide) only [↓ View.readCov_skip, ↓ View.readCov_cons_toLoadRect, ↓ View.readCov_fill]
  frame_out
  canon_tiles x hx
  all_goals idx_vars x
  · obtain rfl : h = 3 := Fin.ext (by show (h : ℕ) = 3; omega)
    obtain rfl : r = x0 := Fin.ext hx0
    obtain rfl : l = x1 := Fin.ext (by change 256 * 3 + (l : ℕ) = _ at hx1; omega)
    simp only [q_ld3 Q, q_ld3 G, k_ld3 KV, v_ld3 KV]
    exact dq_head3 _ _ _ _ r l
  · obtain rfl : h = 2 := Fin.ext (by show (h : ℕ) = 2; omega)
    obtain rfl : r = x0 := Fin.ext hx0
    obtain rfl : l = x1 := Fin.ext (by change 256 * 2 + (l : ℕ) = _ at hx1; omega)
    simp only [q_ld2 Q, q_ld2 G, k_ld2 KV, v_ld2 KV]
    exact dq_head2 _ _ _ _ r l
  · obtain rfl : h = 1 := Fin.ext (by show (h : ℕ) = 1; omega)
    obtain rfl : r = x0 := Fin.ext hx0
    obtain rfl : l = x1 := Fin.ext (by change 256 * 1 + (l : ℕ) = _ at hx1; omega)
    simp only [q_ld1 Q, q_ld1 G, k_ld1 KV, v_ld1 KV]
    exact dq_head1 _ _ _ _ r l
  · obtain rfl : h = 0 := Fin.ext (by show (h : ℕ) = 0; omega)
    obtain rfl : r = x0 := Fin.ext hx0
    obtain rfl : l = x1 := Fin.ext (by change 256 * 0 + (l : ℕ) = _ at hx1; omega)
    simp only [q_ld0 Q, q_ld0 G, k_ld0 KV, v_ld0 KV]
    exact dq_head0 _ _ _ _ r l

theorem outB_dq (hc0 : ¬cond0_0 i) (hc1 : cond0_1 i) (r : Fin 1024) (h : Fin 4) (l : Fin 256) :
    out0_B_3 c i arg2 harg2 arg3 harg3 arg4 harg4 arg5 harg5 arg6 harg6 arg7 harg7 hc0 hc1 Q KV G acc (ix2 r ⟨256 * h + l, by omega⟩) = bdq Q KV G h r l := by
  frame_open
  simp (disch := decide) only [↓ View.readCov_skip, ↓ View.readCov_cons_toLoadRect, ↓ View.readCov_fill]
  frame_out
  canon_tiles x hx
  all_goals idx_vars x
  · obtain rfl : h = 3 := Fin.ext (by show (h : ℕ) = 3; omega)
    obtain rfl : r = x0 := Fin.ext hx0
    obtain rfl : l = x1 := Fin.ext (by change 256 * 3 + (l : ℕ) = _ at hx1; omega)
    simp only [q_ld3 Q, q_ld3 G, k_ld3 KV, v_ld3 KV]
    exact dq_head3 _ _ _ _ r l
  · obtain rfl : h = 2 := Fin.ext (by show (h : ℕ) = 2; omega)
    obtain rfl : r = x0 := Fin.ext hx0
    obtain rfl : l = x1 := Fin.ext (by change 256 * 2 + (l : ℕ) = _ at hx1; omega)
    simp only [q_ld2 Q, q_ld2 G, k_ld2 KV, v_ld2 KV]
    exact dq_head2 _ _ _ _ r l
  · obtain rfl : h = 1 := Fin.ext (by show (h : ℕ) = 1; omega)
    obtain rfl : r = x0 := Fin.ext hx0
    obtain rfl : l = x1 := Fin.ext (by change 256 * 1 + (l : ℕ) = _ at hx1; omega)
    simp only [q_ld1 Q, q_ld1 G, k_ld1 KV, v_ld1 KV]
    exact dq_head1 _ _ _ _ r l
  · obtain rfl : h = 0 := Fin.ext (by show (h : ℕ) = 0; omega)
    obtain rfl : r = x0 := Fin.ext hx0
    obtain rfl : l = x1 := Fin.ext (by change 256 * 0 + (l : ℕ) = _ at hx1; omega)
    simp only [q_ld0 Q, q_ld0 G, k_ld0 KV, v_ld0 KV]
    exact dq_head0 _ _ _ _ r l

theorem soutA_dk (hc0 : cond0_0 i) (hc1 : ¬cond0_1 i) (j : Fin 256) (h : Fin 4) (l : Fin 256) :
    sout0_A_0 c i arg2 harg2 arg3 harg3 arg4 harg4 arg5 harg5 arg6 harg6 arg7 harg7 hc0 hc1 Q KV G (ix2 j ⟨256 * h + l, by omega⟩) = k0_pay2 (F := Ideal) (ix2 j ⟨256 * h + l, by omega⟩) + bdk Q KV G h j l := by
  frame_open
  simp (disch := decide) only [↓ View.readCov_skip, ↓ View.readCov_cons_toLoadRect, ↓ View.readCov_fill]
  frame_out
  rw [canon_over8]
  rotate_left
  · exact View.cover_of_tiledL (s := S256x2048) _ ![256, 256] (by sl_kernel_rfl) _
  canon_tiles x hx
  all_goals idx_vars x
  · omega
  · obtain rfl : h = 3 := Fin.ext (by show (h : ℕ) = 3; omega)
    obtain rfl : j = x0 := Fin.ext hx0
    obtain rfl : l = x1 := Fin.ext (by change 256 * 3 + (l : ℕ) = _ at hx1; omega)
    simp only [q_ld3 Q, q_ld3 G, k_ld3 KV, v_ld3 KV]
    refine (dk_head3 _ _ _ _ _ j l).trans ?_
    congr 1 <;> pointwise!
  · omega
  · obtain rfl : h = 2 := Fin.ext (by show (h : ℕ) = 2; omega)
    obtain rfl : j = x0 := Fin.ext hx0
    obtain rfl : l = x1 := Fin.ext (by change 256 * 2 + (l : ℕ) = _ at hx1; omega)
    simp only [q_ld2 Q, q_ld2 G, k_ld2 KV, v_ld2 KV]
    refine (dk_head2 _ _ _ _ _ j l).trans ?_
    congr 1 <;> pointwise!
  · omega
  · obtain rfl : h = 1 := Fin.ext (by show (h : ℕ) = 1; omega)
    obtain rfl : j = x0 := Fin.ext hx0
    obtain rfl : l = x1 := Fin.ext (by change 256 * 1 + (l : ℕ) = _ at hx1; omega)
    simp only [q_ld1 Q, q_ld1 G, k_ld1 KV, v_ld1 KV]
    refine (dk_head1 _ _ _ _ _ j l).trans ?_
    congr 1 <;> pointwise!
  · omega
  · obtain rfl : h = 0 := Fin.ext (by show (h : ℕ) = 0; omega)
    obtain rfl : j = x0 := Fin.ext hx0
    obtain rfl : l = x1 := Fin.ext (by change 256 * 0 + (l : ℕ) = _ at hx1; omega)
    simp only [q_ld0 Q, q_ld0 G, k_ld0 KV, v_ld0 KV]
    refine (dk_head0 _ _ _ _ _ j l).trans ?_
    congr 1 <;> pointwise!

theorem soutA_dv (hc0 : cond0_0 i) (hc1 : ¬cond0_1 i) (j : Fin 256) (h : Fin 4) (l : Fin 256) :
    sout0_A_0 c i arg2 harg2 arg3 harg3 arg4 harg4 arg5 harg5 arg6 harg6 arg7 harg7 hc0 hc1 Q KV G (ix2 j ⟨1024 + 256 * h + l, by omega⟩) = k0_pay2 (F := Ideal) (ix2 j ⟨1024 + 256 * h + l, by omega⟩) + bdv Q KV G h j l := by
  frame_open
  simp (disch := decide) only [↓ View.readCov_skip, ↓ View.readCov_cons_toLoadRect, ↓ View.readCov_fill]
  frame_out
  rw [canon_over8]
  rotate_left
  · exact View.cover_of_tiledL (s := S256x2048) _ ![256, 256] (by sl_kernel_rfl) _
  canon_tiles x hx
  all_goals idx_vars x
  · obtain rfl : h = 3 := Fin.ext (by show (h : ℕ) = 3; omega)
    obtain rfl : j = x0 := Fin.ext hx0
    obtain rfl : l = x1 := Fin.ext (by change 1024 + 256 * 3 + (l : ℕ) = _ at hx1; omega)
    simp only [q_ld3 Q, q_ld3 G, k_ld3 KV, v_ld3 KV]
    refine (dv_head3 _ _ _ _ j l).trans ?_
    congr 1 <;> pointwise!
  · omega
  · obtain rfl : h = 2 := Fin.ext (by show (h : ℕ) = 2; omega)
    obtain rfl : j = x0 := Fin.ext hx0
    obtain rfl : l = x1 := Fin.ext (by change 1024 + 256 * 2 + (l : ℕ) = _ at hx1; omega)
    simp only [q_ld2 Q, q_ld2 G, k_ld2 KV, v_ld2 KV]
    refine (dv_head2 _ _ _ _ j l).trans ?_
    congr 1 <;> pointwise!
  · omega
  · obtain rfl : h = 1 := Fin.ext (by show (h : ℕ) = 1; omega)
    obtain rfl : j = x0 := Fin.ext hx0
    obtain rfl : l = x1 := Fin.ext (by change 1024 + 256 * 1 + (l : ℕ) = _ at hx1; omega)
    simp only [q_ld1 Q, q_ld1 G, k_ld1 KV, v_ld1 KV]
    refine (dv_head1 _ _ _ _ j l).trans ?_
    congr 1 <;> pointwise!
  · omega
  · obtain rfl : h = 0 := Fin.ext (by show (h : ℕ) = 0; omega)
    obtain rfl : j = x0 := Fin.ext hx0
    obtain rfl : l = x1 := Fin.ext (by change 1024 + 256 * 0 + (l : ℕ) = _ at hx1; omega)
    simp only [q_ld0 Q, q_ld0 G, k_ld0 KV, v_ld0 KV]
    refine (dv_head0 _ _ _ _ j l).trans ?_
    congr 1 <;> pointwise!
  · omega

theorem soutB_dk (hc0 : ¬cond0_0 i) (hc1 : cond0_1 i) (j : Fin 256) (h : Fin 4) (l : Fin 256) :
    sout0_B_0 c i arg2 harg2 arg3 harg3 arg4 harg4 arg5 harg5 arg6 harg6 arg7 harg7 hc0 hc1 Q KV G acc (ix2 j ⟨256 * h + l, by omega⟩) = acc (ix2 j ⟨256 * h + l, by omega⟩) + bdk Q KV G h j l := by
  frame_open
  simp (disch := decide) only [↓ View.readCov_skip, ↓ View.readCov_cons_toLoadRect, ↓ View.readCov_fill]
  frame_out
  canon_tiles x hx
  all_goals idx_vars x
  · omega
  · obtain rfl : h = 3 := Fin.ext (by show (h : ℕ) = 3; omega)
    obtain rfl : j = x0 := Fin.ext hx0
    obtain rfl : l = x1 := Fin.ext (by change 256 * 3 + (l : ℕ) = _ at hx1; omega)
    simp only [q_ld3 Q, q_ld3 G, k_ld3 KV, v_ld3 KV]
    refine (dk_head3 _ _ _ _ _ j l).trans ?_
    congr 1 <;> pointwise!
  · omega
  · obtain rfl : h = 2 := Fin.ext (by show (h : ℕ) = 2; omega)
    obtain rfl : j = x0 := Fin.ext hx0
    obtain rfl : l = x1 := Fin.ext (by change 256 * 2 + (l : ℕ) = _ at hx1; omega)
    simp only [q_ld2 Q, q_ld2 G, k_ld2 KV, v_ld2 KV]
    refine (dk_head2 _ _ _ _ _ j l).trans ?_
    congr 1 <;> pointwise!
  · omega
  · obtain rfl : h = 1 := Fin.ext (by show (h : ℕ) = 1; omega)
    obtain rfl : j = x0 := Fin.ext hx0
    obtain rfl : l = x1 := Fin.ext (by change 256 * 1 + (l : ℕ) = _ at hx1; omega)
    simp only [q_ld1 Q, q_ld1 G, k_ld1 KV, v_ld1 KV]
    refine (dk_head1 _ _ _ _ _ j l).trans ?_
    congr 1 <;> pointwise!
  · omega
  · obtain rfl : h = 0 := Fin.ext (by show (h : ℕ) = 0; omega)
    obtain rfl : j = x0 := Fin.ext hx0
    obtain rfl : l = x1 := Fin.ext (by change 256 * 0 + (l : ℕ) = _ at hx1; omega)
    simp only [q_ld0 Q, q_ld0 G, k_ld0 KV, v_ld0 KV]
    refine (dk_head0 _ _ _ _ _ j l).trans ?_
    congr 1 <;> pointwise!

theorem soutB_dv (hc0 : ¬cond0_0 i) (hc1 : cond0_1 i) (j : Fin 256) (h : Fin 4) (l : Fin 256) :
    sout0_B_0 c i arg2 harg2 arg3 harg3 arg4 harg4 arg5 harg5 arg6 harg6 arg7 harg7 hc0 hc1 Q KV G acc (ix2 j ⟨1024 + 256 * h + l, by omega⟩) = acc (ix2 j ⟨1024 + 256 * h + l, by omega⟩) + bdv Q KV G h j l := by
  frame_open
  simp (disch := decide) only [↓ View.readCov_skip, ↓ View.readCov_cons_toLoadRect, ↓ View.readCov_fill]
  frame_out
  canon_tiles x hx
  all_goals idx_vars x
  · obtain rfl : h = 3 := Fin.ext (by show (h : ℕ) = 3; omega)
    obtain rfl : j = x0 := Fin.ext hx0
    obtain rfl : l = x1 := Fin.ext (by change 1024 + 256 * 3 + (l : ℕ) = _ at hx1; omega)
    simp only [q_ld3 Q, q_ld3 G, k_ld3 KV, v_ld3 KV]
    refine (dv_head3 _ _ _ _ j l).trans ?_
    congr 1 <;> pointwise!
  · omega
  · obtain rfl : h = 2 := Fin.ext (by show (h : ℕ) = 2; omega)
    obtain rfl : j = x0 := Fin.ext hx0
    obtain rfl : l = x1 := Fin.ext (by change 1024 + 256 * 2 + (l : ℕ) = _ at hx1; omega)
    simp only [q_ld2 Q, q_ld2 G, k_ld2 KV, v_ld2 KV]
    refine (dv_head2 _ _ _ _ j l).trans ?_
    congr 1 <;> pointwise!
  · omega
  · obtain rfl : h = 1 := Fin.ext (by show (h : ℕ) = 1; omega)
    obtain rfl : j = x0 := Fin.ext hx0
    obtain rfl : l = x1 := Fin.ext (by change 1024 + 256 * 1 + (l : ℕ) = _ at hx1; omega)
    simp only [q_ld1 Q, q_ld1 G, k_ld1 KV, v_ld1 KV]
    refine (dv_head1 _ _ _ _ j l).trans ?_
    congr 1 <;> pointwise!
  · omega
  · obtain rfl : h = 0 := Fin.ext (by show (h : ℕ) = 0; omega)
    obtain rfl : j = x0 := Fin.ext hx0
    obtain rfl : l = x1 := Fin.ext (by change 1024 + 256 * 0 + (l : ℕ) = _ at hx1; omega)
    simp only [q_ld0 Q, q_ld0 G, k_ld0 KV, v_ld0 KV]
    refine (dv_head0 _ _ _ _ j l).trans ?_
    congr 1 <;> pointwise!
  · omega

/-- The second point of a pair writes out what it leaves in the accumulator. -/
theorem outB_dkv (hc0 : ¬cond0_0 i) (hc1 : cond0_1 i) :
    out0_B_4 c i arg2 harg2 arg3 harg3 arg4 harg4 arg5 harg5 arg6 harg6 arg7 harg7 hc0 hc1 Q KV G acc = sout0_B_0 c i arg2 harg2 arg3 harg3 arg4 harg4 arg5 harg5 arg6 harg6 arg7 harg7 hc0 hc1 Q KV G acc := by
  funext x
  have hs : sout0_B_0 c i arg2 harg2 arg3 harg3 arg4 harg4 arg5 harg5 arg6 harg6 arg7 harg7 hc0 hc1 Q KV G acc x = k0_pay1 (sout0_B_0 c i arg2 harg2 arg3 harg3 arg4 harg4 arg5 harg5 arg6 harg6 arg7 harg7 hc0 hc1 Q KV G acc) x := by
    idx_vars x
    pointwise [k0_pay1]
  rw [hs]
  unfold sout0_B_0
  frame_open
  simp (disch := decide) only [↓ View.readCov_skip, ↓ View.readCov_cons_toLoadRect, ↓ View.readCov_fill]
  frame_out
  rw [View.readCov_eq_canon']
  exact congrFun (congrArg _ (ld_all _)) x

end Cert.KernelIdeal.Attn

end
-- ==== Proof.Attention.Arrays.lean ====
/- The two arrays the attention gradient's call leaves, read at an index. -/
module

public import proofs.«01_k».proof.Proof.Attention.Block

@[expose] public section

set_option maxRecDepth 16384

noncomputable section

namespace Cert.KernelIdeal.Attn

open Idealize.ShloMosaic Idealize.ShloMosaic.TcCoe Cert.KernelIdeal Cert.KernelIdeal.Gen Cert.KernelIdeal.Value Cert.Attention

variable (m : (ℓ : Loc nD τ sig) → Buf (Elt Ideal) ℓ) (c : Dev nD)

/-- Where each point's blocks lie. -/
theorem idx : ∀ t : Fin cfg0.N, win0_0.index t = ![t.val, 0] ∧ win0_1.index t = ![t.val / 2, 0] ∧ win0_2.index t = ![t.val, 0] :=
  (by decide +kernel : ∀ t : Fin grid0.N, _)

theorem lt4 (t : Fin cfg0.N) : t.val < 4 := lt_of_lt_of_eq t.isLt (show cfg0.N = 4 from N_0)

theorem q_block (t : Fin cfg0.N) (r C : Fin 1024) :
    (iblk m c 0 t : Vec Ideal S1024x1024 .bf16) (ix2 r C) = m ((c : Thread nD τ).loc main_arg0) (ix2 ⟨1024 * t.val + r, by have := lt4 t; omega⟩ C) := by
  have := idx t
  blk_ext [iblk, V, idx t]

theorem kv_block (t : Fin cfg0.N) (j : Fin 256) (C : Fin 2048) :
    (iblk m c 1 t : Vec Ideal S256x2048 .bf16) (ix2 j C) = m ((c : Thread nD τ).loc main_arg1) (ix2 ⟨256 * (t.val / 2) + j, by have := lt4 t; omega⟩ C) := by
  blk_ext [iblk, V, idx t]

theorem g_block (t : Fin cfg0.N) (r C : Fin 1024) :
    (iblk m c 2 t : Vec Ideal S1024x1024 .bf16) (ix2 r C) = m ((c : Thread nD τ).loc main_arg2) (ix2 ⟨1024 * t.val + r, by have := lt4 t; omega⟩ C) := by
  blk_ext [iblk, V, idx t]

/-- Point `t` leaves its rows of the queries' gradient. -/
theorem outs_dq (t : Fin cfg0.N) (r : Fin 1024) (h : Fin 4) (l : Fin 256) :
    (outsAt0 m c t.val t.isLt).1 (ix2 r ⟨256 * h + l, by omega⟩) = bdq (iblk m c 0 t) (iblk m c 1 t) (iblk m c 2 t) h r l := by
  have hN := lt4 t
  by_cases h0 : t.val % 2 = 0
  · rw [outsAt0_A m c t h0 (by omega)]
    dsimp only
    apply outA_dq
  · rw [outsAt0_B m c t h0 (by omega)]
    dsimp only
    apply outB_dq

/-- The two points of sequence `b`. -/
def pt0 (b : Fin 2) : Fin cfg0.N := ⟨2 * b, by rw [show cfg0.N = 4 from N_0]; omega⟩

def pt1 (b : Fin 2) : Fin cfg0.N := ⟨2 * b + 1, by rw [show cfg0.N = 4 from N_0]; omega⟩

theorem acc_dk (b : Fin 2) (j : Fin 256) (h : Fin 4) (l : Fin 256) :
    (outsAt0 m c (pt0 b).val (pt0 b).isLt).2.2 (ix2 j ⟨256 * h + l, by omega⟩)
      = bdk (iblk m c 0 (pt0 b)) (iblk m c 1 (pt0 b)) (iblk m c 2 (pt0 b)) h j l := by
  have h0 : (pt0 b).val % 2 = 0 := by show (2 * (b : ℕ)) % 2 = 0; omega
  rw [outsAt0_A m c (pt0 b) h0 (by omega)]
  dsimp only
  rw [soutA_dk, zeros_at, zero_add]

theorem outs_dk (b : Fin 2) (j : Fin 256) (h : Fin 4) (l : Fin 256) :
    (outsAt0 m c (pt1 b).val (pt1 b).isLt).2.1 (ix2 j ⟨256 * h + l, by omega⟩)
      = bdk (iblk m c 0 (pt0 b)) (iblk m c 1 (pt0 b)) (iblk m c 2 (pt0 b)) h j l
        + bdk (iblk m c 0 (pt1 b)) (iblk m c 1 (pt1 b)) (iblk m c 2 (pt1 b)) h j l := by
  have h1 : (pt1 b).val % 2 = 1 := by show (2 * (b : ℕ) + 1) % 2 = 1; omega
  rw [outsAt0_B m c (pt1 b) (by omega) h1]
  dsimp only
  rw [outB_dkv, soutB_dk]
  exact congrArg (· + _) (acc_dk m c b j h l)

theorem acc_dv (b : Fin 2) (j : Fin 256) (h : Fin 4) (l : Fin 256) :
    (outsAt0 m c (pt0 b).val (pt0 b).isLt).2.2 (ix2 j ⟨1024 + 256 * h + l, by omega⟩)
      = bdv (iblk m c 0 (pt0 b)) (iblk m c 1 (pt0 b)) (iblk m c 2 (pt0 b)) h j l := by
  have h0 : (pt0 b).val % 2 = 0 := by show (2 * (b : ℕ)) % 2 = 0; omega
  rw [outsAt0_A m c (pt0 b) h0 (by omega)]
  dsimp only
  rw [soutA_dv, zeros_at, zero_add]

theorem outs_dv (b : Fin 2) (j : Fin 256) (h : Fin 4) (l : Fin 256) :
    (outsAt0 m c (pt1 b).val (pt1 b).isLt).2.1 (ix2 j ⟨1024 + 256 * h + l, by omega⟩)
      = bdv (iblk m c 0 (pt0 b)) (iblk m c 1 (pt0 b)) (iblk m c 2 (pt0 b)) h j l
        + bdv (iblk m c 0 (pt1 b)) (iblk m c 1 (pt1 b)) (iblk m c 2 (pt1 b)) h j l := by
  have h1 : (pt1 b).val % 2 = 1 := by show (2 * (b : ℕ) + 1) % 2 = 1; omega
  rw [outsAt0_B m c (pt1 b) (by omega) h1]
  dsimp only
  rw [outB_dkv, soutB_dv]
  exact congrArg (· + _) (acc_dv m c b j h l)

/-! ## The arrays -/

theorem G3_at (t : Fin cfg0.N) (r : Fin 1024) (h : Fin 4) (l : Fin 256) :
    G3 m c (ix2 ⟨1024 * t.val + r, by have := lt4 t; omega⟩ ⟨256 * h + l, by omega⟩)
      = bdq (iblk m c 0 t) (iblk m c 1 t) (iblk m c 2 t) h r l := by
  have hN := lt4 t
  have hp : pt3Of (ix2 ⟨1024 * t.val + r, by omega⟩ ⟨256 * h + l, by omega⟩ : S4096x1024.Idx) = t.val := by
    show 1 * ((1024 * t.val + r) / 1024 - 0) + 1 * ((256 * h + l : ℕ) / 1024 - 0) = t.val
    omega
  have hl : loc3Of (ix2 ⟨1024 * t.val + r, by omega⟩ ⟨256 * h + l, by omega⟩ : S4096x1024.Idx) = ix2 r ⟨256 * h + l, by omega⟩ := by
    funext a
    match a with
    | ⟨0, _⟩ => exact Fin.ext (by show (1024 * t.val + (r : ℕ)) % 1024 = r; omega)
    | ⟨1, _⟩ => exact Fin.ext (by show (256 * (h : ℕ) + l) % 1024 = 256 * h + l; omega)
  unfold G3
  rw [dif_pos (by rw [hp]; exact t.isLt), hl]
  rw [fold0_congr m c _ _ t.val (by rw [Nat.zero_add]; exact t.isLt) hp, ← outsAt0_sweep m c t.val t.isLt]
  exact outs_dq m c t r h l

theorem pt4_at (b : Fin 2) (j : Fin 256) (C : Fin 2048) :
    pt4Of (ix2 ⟨256 * b + j, by omega⟩ C : S512x2048.Idx) = (pt1 b).val
      ∧ loc4Of (ix2 ⟨256 * b + j, by omega⟩ C : S512x2048.Idx) = ix2 j C := by
  constructor
  · show 2 * (1 * ((256 * (b : ℕ) + j) / 256 - 0) + 1 * ((C : ℕ) / 2048 - 0)) + 1 = 2 * b + 1
    omega
  · funext a
    match a with
    | ⟨0, _⟩ => exact Fin.ext (by show (256 * (b : ℕ) + j) % 256 = j; omega)
    | ⟨1, _⟩ => exact Fin.ext (by show (C : ℕ) % 2048 = C; omega)

theorem G4_at (b : Fin 2) (j : Fin 256) (C : Fin 2048) :
    G4 m c (ix2 ⟨256 * b + j, by omega⟩ C) = (outsAt0 m c (pt1 b).val (pt1 b).isLt).2.1 (ix2 j C) := by
  obtain ⟨hp, hl⟩ := pt4_at b j C
  unfold G4
  rw [dif_pos (by rw [hp]; exact (pt1 b).isLt), hl]
  rw [fold0_congr m c _ _ (pt1 b).val (by rw [Nat.zero_add]; exact (pt1 b).isLt) hp, ← outsAt0_sweep m c (pt1 b).val (pt1 b).isLt]

end Cert.KernelIdeal.Attn

end
-- ==== Proof.Attention.Reference.lean ====
/- What the attention reference's two results hold at an index: its tensors named one after another, each read at an index. -/
module

public import proofs.«01_k».proof.Proof.Gen.ReferenceIdeal.Run
public import proofs.«01_k».proof.Proof.Attention.Maths
public import Idealize.ShloMosaic.Lib.Pointwise

@[expose] public section

set_option maxRecDepth 16384

noncomputable section

namespace Cert.ReferenceIdeal.Attn

open Idealize.ShloMosaic Cert.ReferenceIdeal Cert.ReferenceIdeal.Gen Cert.Attention

/-! ## The reference's tensors -/

/-- Queries, or the output's gradient, by sequence, position, head and lane. -/
def heads (q : FVec Ideal S4096x1024 .bf16) : FVec Ideal S2x2048x4x256 .f32 :=
  shapeCast _ (shapeCast _ (extf .f32 q bitsLt_bf16_f32) shapeCasts_S4096x1024_S2x2048x1024) shapeCasts_S2x2048x1024_S2x2048x4x256

def keys (kv : FVec Ideal S512x2048 .bf16) : FVec Ideal S2x256x4x256 .f32 :=
  shapeCast _ (extractStridedSlice S2x256x1024 ![0, 0, 0] (shapeCast _ (extf .f32 kv bitsLt_bf16_f32) shapeCasts_S512x2048_S2x256x2048) slices_S2x256x2048_S2x256x1024_0_0_0) shapeCasts_S2x256x1024_S2x256x4x256

def values (kv : FVec Ideal S512x2048 .bf16) : FVec Ideal S2x256x4x256 .f32 :=
  shapeCast _ (extractStridedSlice S2x256x1024 ![0, 0, 1024] (shapeCast _ (extf .f32 kv bitsLt_bf16_f32) shapeCasts_S512x2048_S2x256x2048) slices_S2x256x2048_S2x256x1024_0_0_1024) shapeCasts_S2x256x1024_S2x256x4x256

def scores (q : FVec Ideal S4096x1024 .bf16) (kv : FVec Ideal S512x2048 .bf16) : FVec Ideal S2x4x2048x256 .f32 :=
  mulf (Host.dotGeneral dot_S2x2048x4x256_S2x256x4x256_S2x4x2048x256_3_3_1_1_02_02 none (heads q) (keys kv)) (broadcastInDim S2x4x2048x256 ![] bcast_S_S2x4x2048x256 (constant S_ .f32 0x3D800000#32))

def tops (q : FVec Ideal S4096x1024 .bf16) (kv : FVec Ideal S512x2048 .bf16) : FVec Ideal S2x4x2048 .f32 :=
  maximumf (broadcastInDim S2x4x2048 ![] bcast_S_S2x4x2048 (constant S_ .f32 0xFF800000#32)) (Host.reduce FloatOps.maximumf (scores q kv) (constant S_ .f32 0xFF800000#32) reducesTo_S2x4x2048x256_S2x4x2048_d3 h_S_)

def expos (q : FVec Ideal S4096x1024 .bf16) (kv : FVec Ideal S512x2048 .bf16) : FVec Ideal S2x4x2048x256 .f32 :=
  Host.exp (subf (scores q kv) (broadcastInDim S2x4x2048x256 ![0, 1, 2, 3] bcast_S2x4x2048x1_S2x4x2048x256_0_1_2_3 (broadcastInDim S2x4x2048x1 ![0, 1, 2] bcast_S2x4x2048_S2x4x2048x1_0_1_2 (tops q kv))))

def masses (q : FVec Ideal S4096x1024 .bf16) (kv : FVec Ideal S512x2048 .bf16) : FVec Ideal S2x4x2048x1 .f32 :=
  broadcastInDim S2x4x2048x1 ![0, 1, 2] bcast_S2x4x2048_S2x4x2048x1_0_1_2 (Host.reduceAdd (expos q kv) (constant S_ .f32 0x00000000#32) reducesTo_S2x4x2048x256_S2x4x2048_d3 h_S_)

def weights (q : FVec Ideal S4096x1024 .bf16) (kv : FVec Ideal S512x2048 .bf16) : FVec Ideal S2x4x2048x256 .f32 :=
  Host.divf (expos q kv) (broadcastInDim S2x4x2048x256 ![0, 1, 2, 3] bcast_S2x4x2048x1_S2x4x2048x256_0_1_2_3 (masses q kv))

def turned (g : FVec Ideal S4096x1024 .bf16) : FVec Ideal S2x4x256x2048 .f32 :=
  transpose S2x4x256x2048 [0, 2, 3, 1] (heads g) transposes_S2x2048x4x256_S2x4x256x2048_0_2_3_1

def dweights (kv : FVec Ideal S512x2048 .bf16) (g : FVec Ideal S4096x1024 .bf16) : FVec Ideal S2x4x2048x256 .f32 :=
  Host.dotGeneral dot_S2x4x256x2048_S2x256x4x256_S2x4x2048x256_2_3_3_1_01_02 none (turned g) (values kv)

def dmasses (q : FVec Ideal S4096x1024 .bf16) (kv : FVec Ideal S512x2048 .bf16) (g : FVec Ideal S4096x1024 .bf16) : FVec Ideal S2x4x2048 .f32 :=
  Host.reduceAdd (Host.negf (shapeCast _ (Host.reduceAdd (mulf (mulf (dweights kv g) (broadcastInDim S2x4x2048x256 ![0, 1, 2, 3] bcast_S2x4x2048x1_S2x4x2048x256_0_1_2_3 (Host.divf (broadcastInDim S2x4x2048x1 ![] bcast_S_S2x4x2048x1 (constant S_ .f32 0x3F800000#32)) (mulf (masses q kv) (masses q kv))))) (expos q kv)) (constant S_ .f32 0x00000000#32) reducesTo_S2x4x2048x256_S2x4x2048_d3 h_S_) shapeCasts_S2x4x2048_S2x4x2048x1)) (constant S_ .f32 0x00000000#32) reducesTo_S2x4x2048x1_S2x4x2048_d3 h_S_

def dscores (q : FVec Ideal S4096x1024 .bf16) (kv : FVec Ideal S512x2048 .bf16) (g : FVec Ideal S4096x1024 .bf16) : FVec Ideal S2x4x2048x256 .f32 :=
  mulf (mulf (addf (Host.divf (dweights kv g) (broadcastInDim S2x4x2048x256 ![0, 1, 2, 3] bcast_S2x4x2048x1_S2x4x2048x256_0_1_2_3 (masses q kv))) (broadcastInDim S2x4x2048x256 ![0, 1, 2] bcast_S2x4x2048_S2x4x2048x256_0_1_2 (dmasses q kv g))) (expos q kv)) (broadcastInDim S2x4x2048x256 ![] bcast_S_S2x4x2048x256 (constant S_ .f32 0x3D800000#32))

/-- The queries' gradient. -/
def dq (q : FVec Ideal S4096x1024 .bf16) (kv : FVec Ideal S512x2048 .bf16) (g : FVec Ideal S4096x1024 .bf16) : FVec Ideal S4096x1024 .bf16 :=
  truncf .bf16 (shapeCast _ (shapeCast _ (transpose S2x2048x4x256 [0, 2, 1, 3] (Host.dotGeneral dot_S2x4x2048x256_S2x256x4x256_S2x4x2048x256_3_1_2_3_01_02 none (dscores q kv g) (keys kv)) transposes_S2x4x2048x256_S2x2048x4x256_0_2_1_3) shapeCasts_S2x2048x4x256_S2x2048x1024) shapeCasts_S2x2048x1024_S4096x1024) bitsLt_bf16_f32

/-- The keys' gradient, and the values', side by side. -/
def dkv (q : FVec Ideal S4096x1024 .bf16) (kv : FVec Ideal S512x2048 .bf16) (g : FVec Ideal S4096x1024 .bf16) : FVec Ideal S512x2048 .bf16 :=
  truncf .bf16 (shapeCast _ (concatenate S2x256x2048 2 [⟨S2x256x1024, (shapeCast _ (transpose S2x256x4x256 [0, 2, 1, 3] (Host.dotGeneral dot_S2x4x2048x256_S2x2048x4x256_S2x4x256x256_2_1_3_3_01_02 none (dscores q kv g) (heads q)) transposes_S2x4x256x256_S2x256x4x256_0_2_1_3) shapeCasts_S2x256x4x256_S2x256x1024)⟩, ⟨S2x256x1024, (shapeCast _ (transpose S2x256x4x256 [0, 3, 1, 2] (Host.dotGeneral dot_S2x4x256x2048_S2x4x2048x256_S2x4x256x256_3_2_2_3_01_01 none (turned g) (weights q kv)) transposes_S2x4x256x256_S2x256x4x256_0_3_1_2) shapeCasts_S2x256x4x256_S2x256x1024)⟩] concatenates_S2x256x1024_S2x256x1024_S2x256x2048_d2) shapeCasts_S2x256x2048_S512x2048) bitsLt_bf16_f32

/-- The reference's two results are these. -/
theorem out0_eq (m : (ℓ : Loc nD τ sig) → Buf (Elt Ideal) ℓ) (c : Dev nD) :
    Value.res_out0 m c = dq (m ((c.tc : Thread nD τ).loc main_arg0)) (m ((c.tc : Thread nD τ).loc main_arg1)) (m ((c.tc : Thread nD τ).loc main_arg2)) := rfl

theorem out1_eq (m : (ℓ : Loc nD τ sig) → Buf (Elt Ideal) ℓ) (c : Dev nD) :
    Value.res_out1 m c = dkv (m ((c.tc : Thread nD τ).loc main_arg0)) (m ((c.tc : Thread nD τ).loc main_arg1)) (m ((c.tc : Thread nD τ).loc main_arg2)) := rfl

/-! ## At an index -/

variable (q : FVec Ideal S4096x1024 .bf16) (kv : FVec Ideal S512x2048 .bf16) (g : FVec Ideal S4096x1024 .bf16)
  (b : Fin 2) (h : Fin 4) (i : Fin 2048) (j : Fin 256) (c : Fin 256)

/-- One row of a head of the queries, or of the output's gradient. -/
def qrow (i : Fin 2048) : Row := fun c => q (ix2 ⟨2048 * b + i, by omega⟩ ⟨256 * h + c, by omega⟩)

/-- The keys of a head. -/
def krows : Rows := fun j c => kv (ix2 ⟨256 * b + j, by omega⟩ ⟨256 * h + c, by omega⟩)

/-- The values of a head. -/
def vrows : Rows := fun j c => kv (ix2 ⟨256 * b + j, by omega⟩ ⟨1024 + 256 * h + c, by omega⟩)

theorem heads_at : heads q (ix4 b i h c) = qrow q b h i c := by
  pointwise [heads, qrow]
  simp only [Nat.mul_comm]

theorem keys_at : keys kv (ix4 b j h c) = krows kv b h j c := by
  pointwise [keys, krows]
  simp only [Nat.mul_comm]

theorem values_at : values kv (ix4 b j h c) = vrows kv b h j c := by
  pointwise [values, vrows]
  simp only [Nat.mul_comm, Nat.add_assoc]

theorem scores_at : scores q kv (ix4 b h i j) = score (qrow q b h i) (krows kv b h) j := by
  pointwise [scores, heads_at, keys_at, score, scale]

/-- A row's maximum, as the fold over the row. -/
theorem rowMax_at (x : FVec Ideal S2x4x2048x256 .f32) :
    Host.reduce FloatOps.maximumf x (constant S_ .f32 0xFF800000#32) reducesTo_S2x4x2048x256_S2x4x2048_d3 h_S_ (ix3 b h i)
      = Finset.univ.fold max (Ideal.ofBits .f32 0xFF800000#32) (fun j : Fin 256 => x (ix4 b h i j)) := by
  have hr : S2x4x2048x256.Reduces [3] S2x4x2048 := by decide
  refine (Host.reduce_eq_fold_single FloatOps.maximumf x _ _ hr _ _).trans ?_
  refine congrArg (Finset.fold max _ · Finset.univ) (funext fun k => congrArg x (funext fun a => Fin.ext ?_))
  rw [hr.lift_val]
  match a with
  | ⟨0, _⟩ => rfl
  | ⟨1, _⟩ => rfl
  | ⟨2, _⟩ => rfl
  | ⟨3, _⟩ => rfl

theorem tops_at : tops q kv (ix3 b h i) = top (qrow q b h i) (krows kv b h) := by
  unfold tops
  rw [maximumf_apply, rowMax_at, Ideal.maximumf_def, show broadcastInDim S2x4x2048 ![] bcast_S_S2x4x2048 (constant (F := Ideal) S_ .f32 0xFF800000#32) (ix3 b h i) = (⊥ : EReal) from ofBits_neg_inf,
    max_eq_right bot_le]
  simp only [scores_at]
  rfl

theorem expos_at : expos q kv (ix4 b h i j) = expo (qrow q b h i) (krows kv b h) j := by
  pointwise [expos, scores_at, tops_at, expo]

theorem masses_at (u : Fin 1) : masses q kv (ix4 b h i u) = mass (qrow q b h i) (krows kv b h) := by
  pointwise [masses, expos_at, mass]

theorem weights_at : weights q kv (ix4 b h i j) = weight (qrow q b h i) (krows kv b h) j := by
  pointwise [weights, expos_at, masses_at, weight]

theorem dweights_at : dweights kv g (ix4 b h i j) = dweight (qrow g b h i) (vrows kv b h) j := by
  pointwise [dweights, turned, heads_at, values_at, dweight]

theorem dscores_at : dscores q kv g (ix4 b h i j) = dscoreRef (qrow q b h i) (krows kv b h) (vrows kv b h) (qrow g b h i) j := by
  pointwise [dscores, dmasses, dweights_at, masses_at, expos_at, dscoreRef, scale, ofBits_one]
  rw [Fin.sum_univ_one]

theorem dq_at (h : Fin 4) (c : Fin 256) : dq q kv g (ix2 ⟨2048 * b + i, by omega⟩ ⟨256 * h + c, by omega⟩)
    = ∑ j : Fin 256, dscoreRef (qrow q b h i) (krows kv b h) (vrows kv b h) (qrow g b h i) j * krows kv b h j c := by
  pointwise [dq, dscores_at, keys_at]

theorem dk_at (h : Fin 4) (c : Fin 256) : dkv q kv g (ix2 ⟨256 * b + j, by omega⟩ ⟨256 * h + c, by omega⟩)
    = ∑ i : Fin 2048, dscoreRef (qrow q b h i) (krows kv b h) (vrows kv b h) (qrow g b h i) j * qrow q b h i c := by
  pointwise [dkv, dscores_at, heads_at]
  rw [dif_pos (by omega)]

theorem dv_at (h : Fin 4) (c : Fin 256) : dkv q kv g (ix2 ⟨256 * b + j, by omega⟩ ⟨1024 + 256 * h + c, by omega⟩)
    = ∑ i : Fin 2048, qrow g b h i c * weight (qrow q b h i) (krows kv b h) j := by
  pointwise [dkv, weights_at]
  rw [dif_neg (by omega)]
  have eh : (⟨(1024 + 256 * h.val + c.val - 1024) / 256, by omega⟩ : Fin 4) = h := Fin.ext (by simp only []; omega)
  have ec : (⟨(1024 + 256 * h.val + c.val - 1024) % 256, by omega⟩ : Fin 256) = c := Fin.ext (by simp only []; omega)
  simp only [eh, ec]
  pointwise [turned, heads_at]

end Cert.ReferenceIdeal.Attn

end
-- ==== Proof.Attention.Equation.lean ====
/- The attention gradient: the kernel's two arrays are the reference's, where the queries and the keys are finite. -/
module

public import proofs.«01_k».proof.Proof.Attention.Arrays
public import proofs.«01_k».proof.Proof.Attention.Reference

@[expose] public section

set_option maxRecDepth 16384

noncomputable section

namespace Cert.KernelIdeal.Attn

open Idealize.ShloMosaic Idealize.ShloMosaic.TcCoe Cert.KernelIdeal Cert.KernelIdeal.Gen Cert.KernelIdeal.Value Cert.Attention
open Cert.ReferenceIdeal.Attn (qrow krows vrows dq dkv dq_at dk_at dv_at)

variable (m : (ℓ : Loc nD τ sig) → Buf (Elt Ideal) ℓ) (c : Dev nD)

/-- The three arguments. -/
abbrev argQ : FVec Ideal S4096x1024 .bf16 := m ((c : Thread nD τ).loc main_arg0)
abbrev argKV : FVec Ideal S512x2048 .bf16 := m ((c : Thread nD τ).loc main_arg1)
abbrev argG : FVec Ideal S4096x1024 .bf16 := m ((c : Thread nD τ).loc main_arg2)

/-- Point `s` of sequence `b`. -/
def pt (b s : Fin 2) : Fin cfg0.N := ⟨2 * b + s, by rw [show cfg0.N = 4 from N_0]; omega⟩

/-! ## The blocks' heads are the arrays' -/

theorem q_col (b s : Fin 2) (h : Fin 4) (r : Fin 1024) (l : Fin 256) :
    qcols (iblk m c 0 (pt b s)) h (ix2 r l) = qrow (argQ m c) b h ⟨1024 * s + r, by omega⟩ l := by
  rw [qcols_at, q_block]
  refine congrArg (argQ m c) (congrArg₂ ix2 (Fin.ext ?_) rfl)
  show 1024 * (2 * (b : ℕ) + s) + r = 2048 * b + (1024 * s + r)
  omega

theorem g_col (b s : Fin 2) (h : Fin 4) (r : Fin 1024) (l : Fin 256) :
    qcols (iblk m c 2 (pt b s)) h (ix2 r l) = qrow (argG m c) b h ⟨1024 * s + r, by omega⟩ l := by
  rw [qcols_at, g_block]
  refine congrArg (argG m c) (congrArg₂ ix2 (Fin.ext ?_) rfl)
  show 1024 * (2 * (b : ℕ) + s) + r = 2048 * b + (1024 * s + r)
  omega

theorem k_col (b s : Fin 2) (h : Fin 4) (j l : Fin 256) :
    kcols (iblk m c 1 (pt b s)) h (ix2 j l) = krows (argKV m c) b h j l := by
  rw [kcols_at, kv_block]
  refine congrArg (argKV m c) (congrArg₂ ix2 (Fin.ext ?_) rfl)
  show 256 * ((2 * (b : ℕ) + s) / 2) + j = 256 * b + j
  omega

theorem v_col (b s : Fin 2) (h : Fin 4) (j l : Fin 256) :
    vcols (iblk m c 1 (pt b s)) h (ix2 j l) = vrows (argKV m c) b h j l := by
  rw [vcols_at, kv_block]
  refine congrArg (argKV m c) (congrArg₂ ix2 (Fin.ext ?_) rfl)
  show 256 * ((2 * (b : ℕ) + s) / 2) + j = 256 * b + j
  omega

theorem q_row (b s : Fin 2) (h : Fin 4) (r : Fin 1024) :
    row (qcols (iblk m c 0 (pt b s)) h) r = qrow (argQ m c) b h ⟨1024 * s + r, by omega⟩ := funext fun l => q_col m c b s h r l

theorem g_row (b s : Fin 2) (h : Fin 4) (r : Fin 1024) :
    row (qcols (iblk m c 2 (pt b s)) h) r = qrow (argG m c) b h ⟨1024 * s + r, by omega⟩ := funext fun l => g_col m c b s h r l

theorem k_rows (b s : Fin 2) (h : Fin 4) :
    rows (kcols (iblk m c 1 (pt b s)) h) = krows (argKV m c) b h := funext fun j => funext fun l => k_col m c b s h j l

theorem v_rows (b s : Fin 2) (h : Fin 4) :
    rows (vcols (iblk m c 1 (pt b s)) h) = vrows (argKV m c) b h := funext fun j => funext fun l => v_col m c b s h j l

/-- The scores' gradient of row `i` of sequence `b`. -/
def ds (b : Fin 2) (h : Fin 4) (i : Fin 2048) (j : Fin 256) : EReal :=
  dscore (qrow (argQ m c) b h i) (krows (argKV m c) b h) (vrows (argKV m c) b h) (qrow (argG m c) b h i) j

theorem bdq_eq (b s : Fin 2) (h : Fin 4) (r : Fin 1024) (l : Fin 256) :
    bdq (iblk m c 0 (pt b s)) (iblk m c 1 (pt b s)) (iblk m c 2 (pt b s)) h r l
      = ∑ j : Fin 256, ds m c b h ⟨1024 * s + r, by omega⟩ j * krows (argKV m c) b h j l := by
  unfold bdq pdq ds
  refine Finset.sum_congr rfl fun j _ => ?_
  rw [q_row, g_row, k_rows, v_rows, k_col]

theorem bdk_eq (b s : Fin 2) (h : Fin 4) (j l : Fin 256) :
    bdk (iblk m c 0 (pt b s)) (iblk m c 1 (pt b s)) (iblk m c 2 (pt b s)) h j l
      = ∑ r : Fin 1024, ds m c b h ⟨1024 * s + r, by omega⟩ j * qrow (argQ m c) b h ⟨1024 * s + r, by omega⟩ l := by
  unfold bdk pdk ds
  refine Finset.sum_congr rfl fun r _ => ?_
  rw [q_row, g_row, k_rows, v_rows, q_col]

theorem bdv_eq (b s : Fin 2) (h : Fin 4) (j l : Fin 256) :
    bdv (iblk m c 0 (pt b s)) (iblk m c 1 (pt b s)) (iblk m c 2 (pt b s)) h j l
      = ∑ r : Fin 1024, qrow (argG m c) b h ⟨1024 * s + r, by omega⟩ l
          * weight (qrow (argQ m c) b h ⟨1024 * s + r, by omega⟩) (krows (argKV m c) b h) j := by
  unfold bdv pdv
  refine Finset.sum_congr rfl fun r _ => ?_
  rw [q_row, k_rows, g_col, mul_comm]

/-- A sum over a sequence's rows is the sum over its two points'. -/
theorem sum_rows (f : Fin 2048 → EReal) :
    (∑ r : Fin 1024, f ⟨1024 * (0 : Fin 2) + r, by omega⟩) + ∑ r : Fin 1024, f ⟨1024 * (1 : Fin 2) + r, by omega⟩ = ∑ i : Fin 2048, f i := by
  rw [Fin.sum_univ_two_halves 1024 1024 rfl f]
  congr 1

theorem key_col (C : Fin 2048) (hC : C.val < 1024) : ∃ (h : Fin 4) (l : Fin 256) (p : 256 * (h : ℕ) + l < 2048), C = ⟨256 * h + l, p⟩ :=
  ⟨⟨C / 256, by omega⟩, ⟨C % 256, by omega⟩, by dsimp only; omega, Fin.ext (by dsimp only; omega)⟩

theorem value_col (C : Fin 2048) (hC : ¬C.val < 1024) : ∃ (h : Fin 4) (l : Fin 256) (p : 1024 + 256 * (h : ℕ) + l < 2048), C = ⟨1024 + 256 * h + l, p⟩ :=
  ⟨⟨(C - 1024) / 256, by omega⟩, ⟨C % 256, by omega⟩, by dsimp only; omega, Fin.ext (by dsimp only; omega)⟩

/-! ## The equation -/

section Eq

variable (hq : ∀ x, ∃ r : ℝ, argQ m c x = r) (hk : ∀ (j : Fin 512) (C : Fin 2048), C.val < 1024 → ∃ r : ℝ, argKV m c (ix2 j C) = r)

include hq hk

theorem ds_eq (b : Fin 2) (h : Fin 4) (i : Fin 2048) (j : Fin 256) :
    ds m c b h i j = dscoreRef (qrow (argQ m c) b h i) (krows (argKV m c) b h) (vrows (argKV m c) b h) (qrow (argG m c) b h i) j :=
  (dscoreRef_eq (fun l => hq _) (fun j l => hk _ _ (by show 256 * (h : ℕ) + l < 1024; omega)) _ _ _).symm

theorem dq_eq : G3 m c = dq (argQ m c) (argKV m c) (argG m c) := by
  funext x
  obtain ⟨R, C, rfl⟩ : ∃ (R : Fin 4096) (C : Fin 1024), x = ix2 R C := ⟨x 0, x 1, by idx_vars x⟩
  obtain ⟨b, s, r, rfl⟩ : ∃ (b s : Fin 2) (r : Fin 1024), R = ⟨2048 * b + (1024 * s + r), by omega⟩ :=
    ⟨⟨R / 2048, by omega⟩, ⟨R % 2048 / 1024, by omega⟩, ⟨R % 1024, by omega⟩, Fin.ext (by dsimp only; omega)⟩
  obtain ⟨h, l, rfl⟩ : ∃ (h : Fin 4) (l : Fin 256), C = ⟨256 * h + l, by omega⟩ :=
    ⟨⟨C / 256, by omega⟩, ⟨C % 256, by omega⟩, Fin.ext (by dsimp only; omega)⟩
  refine Eq.trans ?_ (dq_at (argQ m c) (argKV m c) (argG m c) b ⟨1024 * s + r, by omega⟩ h l).symm
  have e : (⟨2048 * b + (1024 * s + r), by omega⟩ : Fin 4096) = ⟨1024 * (pt b s).val + r, by have := lt4 (pt b s); omega⟩ :=
    Fin.ext (by show 2048 * (b : ℕ) + (1024 * s + r) = 1024 * (2 * b + s) + r; omega)
  rw [e, G3_at, bdq_eq]
  have key : (∑ j : Fin 256, ds m c b h ⟨1024 * s + r, by omega⟩ j * krows (argKV m c) b h j l) = _ :=
    Finset.sum_congr rfl fun j _ => congrArg (· * _) (ds_eq m c hq hk b h _ j)
  exact key

theorem dkv_eq : G4 m c = dkv (argQ m c) (argKV m c) (argG m c) := by
  funext x
  obtain ⟨R, C, rfl⟩ : ∃ (R : Fin 512) (C : Fin 2048), x = ix2 R C := ⟨x 0, x 1, by idx_vars x⟩
  obtain ⟨b, j, rfl⟩ : ∃ (b : Fin 2) (j : Fin 256), R = ⟨256 * b + j, by omega⟩ :=
    ⟨⟨R / 256, by omega⟩, ⟨R % 256, by omega⟩, Fin.ext (by dsimp only; omega)⟩
  rw [G4_at]
  by_cases hC : C.val < 1024
  · obtain ⟨h, l, _, rfl⟩ := key_col C hC
    rw [outs_dk, show pt0 b = pt b 0 from rfl, show pt1 b = pt b 1 from rfl, bdk_eq, bdk_eq,
      sum_rows fun i => ds m c b h i j * qrow (argQ m c) b h i l]
    refine Eq.trans ?_ (dk_at (argQ m c) (argKV m c) (argG m c) b j h l).symm
    have key : (∑ i : Fin 2048, ds m c b h i j * qrow (argQ m c) b h i l) = _ :=
      Finset.sum_congr rfl fun i _ => congrArg (· * _) (ds_eq m c hq hk b h i j)
    exact key
  · obtain ⟨h, l, _, rfl⟩ := value_col C hC
    rw [outs_dv, show pt0 b = pt b 0 from rfl, show pt1 b = pt b 1 from rfl, bdv_eq, bdv_eq,
      sum_rows fun i => qrow (argG m c) b h i l * weight (qrow (argQ m c) b h i) (krows (argKV m c) b h) j]
    exact (dv_at (argQ m c) (argKV m c) (argG m c) b j h l).symm

end Eq

end Cert.KernelIdeal.Attn

end
-- ==== Proof.Attention.Finite.lean ====
/- What the precondition says of the arguments: the queries and the keys are numbers. -/
module

public import proofs.«01_k».proof.Pre_finite
public import Idealize.ShloMosaic.Lib.Pointwise

@[expose] public section

noncomputable section

namespace Cert.Pre_finite

open Idealize.ShloMosaic

theorem facts : Facts where
  slices_S512x2048_S512x1024_0_0 := by decide
  concatenates_S4096x1024_S512x1024_S4608x1024_d0 := by decide
  bitsLt_bf16_f32 := by decide
  bcast_S_S4608x1024 := by decide

variable [Facts] (q : FVec Ideal S4096x1024 .bf16) (kv : FVec Ideal S512x2048 .bf16) (g : FVec Ideal S4096x1024 .bf16)

theorem finite_of {φ : FTy} (x : EReal) (h : BitVec.ofBool (decide (FloatOps.absf (F := Ideal) (φ := φ) x < Ideal.ofBits FTy.f32 2139095040#32)) = 1#1) : ∃ r : ℝ, x = r := by
  have e : Ideal.ofBits FTy.f32 2139095040#32 = ⊤ := by simp [Ideal.ofBits, Ideal.ieee]
  rw [e] at h
  induction x using EReal.rec with
  | coe r => exact ⟨r, rfl⟩
  | bot => exact absurd h (by simp [FloatOps.absf])
  | top => exact absurd h (by simp [FloatOps.absf])

theorem q_finite (h : fn q kv g = fun _ => 1#1) (R : Fin 4096) (C : Fin 1024) : ∃ r : ℝ, q (ix2 R C) = r := by
  have h := congrFun h (ix2 ⟨R, by omega⟩ C)
  pointwise [fn] at h
  exact finite_of _ h

theorem k_finite (h : fn q kv g = fun _ => 1#1) (R : Fin 512) (C : Fin 2048) (hC : C.val < 1024) : ∃ r : ℝ, kv (ix2 R C) = r := by
  have h := congrFun h (ix2 ⟨4096 + R, by omega⟩ ⟨C, hC⟩)
  pointwise [fn] at h
  exact finite_of _ h

end Cert.Pre_finite

end
-- ==== Proof.Attention.Claims.lean ====
/- The claims about the attention gradient: the frames of the kernel and of the reference, and the
   equality of their results for finite queries and keys. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Attention.Equation
public import proofs.«01_k».proof.Proof.Attention.Finite
public import Idealize.ShloMosaic.Adequacy

@[expose] public section

noncomputable section

namespace Cert.Attention

open Idealize.ShloMosaic Idealize.SL.Sem

local instance : Cert.Pre_finite.Facts := Cert.Pre_finite.facts

/-- The reference ends with its arguments unchanged; it declares no semaphore, so all read zero. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2, sem_eq_zero_of_no_sems (by decide) r.2⟩)
    (Cert.ReferenceIdeal.Value.run m ρ)

/-- For finite queries and keys, the kernel's two gradients are the reference's. -/
theorem algebraic : Cert.algebraic_KernelIdeal_ReferenceIdeal_pre_finite
    (hKernelIdeal := Cert.KernelIdeal.Gen.facts) (hReferenceIdeal := Cert.ReferenceIdeal.Gen.facts) (hPre_finite := Cert.Pre_finite.facts) := by
  intro m ρ m' ρ' hpre hag
  have hq : ∀ c x, ∃ r : ℝ, Cert.KernelIdeal.Attn.argQ m c x = r := fun c x => by
    rw [show x = ix2 (x 0) (x 1) from by funext a; fin_cases a <;> rfl]
    exact Cert.Pre_finite.q_finite _ _ _ (hpre c) (x 0) (x 1)
  have hk : ∀ c (j : Fin 512) (C : Fin 2048), C.val < 1024 → ∃ r : ℝ, Cert.KernelIdeal.Attn.argKV m c (ix2 j C) = r :=
    fun c => Cert.Pre_finite.k_finite _ _ _ (hpre c)
  refine ⟨fun c => Cert.KernelIdeal.Value.G3 m c, fun c => Cert.KernelIdeal.Value.G4 m c,
    Cert.KernelIdeal.Value.run m ρ, (θ_run _ _ _).mono (fun r h c => ?_) (Cert.ReferenceIdeal.Value.run m' ρ')⟩
  obtain ⟨h0, h1, hargs⟩ := h c
  obtain ⟨a0, a1, a2⟩ := hag c
  refine ⟨h0.trans ?_, h1.trans ?_, hargs⟩
  · refine (Cert.ReferenceIdeal.Attn.out0_eq m' c).trans ?_
    rw [a0, a1, a2]
    exact (Cert.KernelIdeal.Attn.dq_eq m c (hq c) (hk c)).symm
  · refine (Cert.ReferenceIdeal.Attn.out1_eq m' c).trans ?_
    rw [a0, a1, a2]
    exact (Cert.KernelIdeal.Attn.dkv_eq m c (hq c) (hk c)).symm

end Cert.Attention

end
-- ==== Proof.Norm.Maths.lean ====
/- The gradient of one row of the root-mean-square norm, as a function of the row alone.
   The kernels' spelling of it and the references' are equal. -/
module

public import proofs.«01_k».proof.Proof.Attention.Maths

@[expose] public section

noncomputable section

namespace Cert.Norm

open Idealize.ShloMosaic

/-- One row. -/
abbrev Row := Fin 1024 → EReal

/-- 1024, the length of a row. -/
def len : EReal := Ideal.ofBits .f32 0x44800000#32

/-- The number added to the mean square. -/
def eps : EReal := Ideal.ofBits .f32 0x358637BD#32

/-- The mean square of a row, with `eps` added. -/
def square (x : Row) : EReal := Ideal.div (∑ c : Fin 1024, x c * x c) len + eps

/-- One over its root. -/
def rinv (x : Row) : EReal := Ideal.rsqrt (square x)

/-- The normed row. -/
def normed (x : Row) (c : Fin 1024) : EReal := x c * rinv x

/-- The row's gradient, for the gradient `p` of the normed row, in the kernels' spelling. -/
def grad (x p : Row) (c : Fin 1024) : EReal :=
  rinv x * (p c - normed x c * Ideal.div (∑ i : Fin 1024, p i * normed x i) len)

/-- What the mean square's gradient gives every entry of the row, in the references' spelling. -/
def back (x p : Row) : EReal :=
  Ideal.div ((∑ i : Fin 1024, x i * p i) * (Ideal.ofBits .f32 0xBF000000#32 * Ideal.div (rinv x) (square x))) len

/-- The row's gradient in the references' spelling. -/
def gradRef (x p : Row) (c : Fin 1024) : EReal := p c * rinv x + x c * back x p + back x p * x c

theorem len_eq : len = ((1024 : ℝ) : EReal) := by
  unfold len
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem eps_pos : ∃ e : ℝ, 0 < e ∧ eps = e := by
  refine ⟨8796093 * 2 ^ (-43 : ℤ), by positivity, ?_⟩
  unfold eps
  simp [Ideal.ofBits, Ideal.ieee, -EReal.coe_mul]

/-- A number added to itself is twice the number. -/
theorem add_self (a : EReal) : a + a = a * ((2 : ℝ) : EReal) := by
  rw [show (2 : ℝ) = 1 + 1 by norm_num, EReal.coe_add, mul_comm, EReal.right_distrib_of_nonneg (by norm_num) (by norm_num), EReal.coe_one, one_mul]

/-- The two spellings agree on finite rows. -/
theorem gradRef_eq_of_real {x : Row} (hx : ∀ c, ∃ r : ℝ, x c = r) (p : Row) (c : Fin 1024) : gradRef x p c = grad x p c := by
  choose u hu using hx
  obtain ⟨e, he, hE⟩ := eps_pos
  set q : ℝ := (∑ c, u c * u c) * (1 / 1024) + e with hq
  have q0 : 0 < q := by
    have : 0 ≤ ∑ c, u c * u c := Finset.sum_nonneg fun c _ => mul_self_nonneg _
    positivity
  have hs : square x = (q : EReal) := by
    have hsum : ∑ c : Fin 1024, x c * x c = ((∑ c, u c * u c : ℝ) : EReal) := by
      rw [Cert.Attention.coe_sum]
      exact Finset.sum_congr rfl fun c _ => by rw [hu c, EReal.coe_mul]
    unfold square
    rw [hsum, len_eq, Ideal.div_coe (by norm_num), hE, ← EReal.coe_mul, ← EReal.coe_add]
  have hi : rinv x = ((Real.sqrt q)⁻¹ : ℝ) := by
    unfold rinv
    rw [hs, Ideal.rsqrt_coe, if_neg q0.not_gt, if_neg q0.ne']
  set i : ℝ := (Real.sqrt q)⁻¹ with hidef
  have i0 : 0 ≤ i := by positivity
  have iq : i * i = 1 / q := by
    rw [hidef, ← mul_inv, Real.mul_self_sqrt q0.le, one_div]
  have hS : ∑ j : Fin 1024, p j * normed x j = (∑ j : Fin 1024, x j * p j) * (i : EReal) := by
    rw [← Cert.Attention.sum_mul_coe _ i0]
    refine Finset.sum_congr rfl fun j _ => ?_
    unfold normed
    rw [hi, mul_comm (x j) (p j), mul_assoc]
  unfold gradRef grad back
  rw [hS]
  generalize (∑ j : Fin 1024, x j * p j) = S
  unfold normed
  rw [hi, hs, len_eq, half_eq, Ideal.div_coe q0.ne', Ideal.div_coe (by norm_num), Ideal.div_coe (by norm_num), hu c, add_assoc]
  rw [sub_eq_add_neg, mul_comm (i : EReal) (p c + _), EReal.right_distrib_of_nonneg_of_ne_top (EReal.coe_nonneg.mpr i0) (EReal.coe_ne_top _)]
  congr 1
  rw [mul_comm (_ * ((1 / 1024 : ℝ) : EReal)) ((u c : ℝ) : EReal), add_self]
  have hl : (u c : EReal) * (S * (((-(1 / 2) : ℝ) : EReal) * ((i : EReal) * ((1 / q : ℝ) : EReal))) * ((1 / 1024 : ℝ) : EReal)) * ((2 : ℝ) : EReal)
      = S * ((u c * (-(1 / 2) * (i * (1 / q))) * (1 / 1024) * 2 : ℝ) : EReal) := by
    simp only [EReal.coe_mul]; ac_rfl
  have hr : -((u c : EReal) * (i : EReal) * (S * (i : EReal) * ((1 / 1024 : ℝ) : EReal))) * (i : EReal)
      = S * ((-(u c * i * i * (1 / 1024) * i) : ℝ) : EReal) := by
    rw [EReal.coe_neg, mul_neg, neg_mul]
    simp only [EReal.coe_mul]
    congr 1
    ac_rfl
  rw [hl, hr, ← iq]
  congr 2
  ring

/-- A square is not negative. -/
theorem square_nonneg (a : EReal) : 0 ≤ a * a := by
  cases a using EReal.rec with
  | coe r => exact EReal.coe_mul r r ▸ EReal.coe_nonneg.mpr (mul_self_nonneg r)
  | bot => simp
  | top => simp

/-- A sum of values that are not negative is infinite where one of them is. -/
theorem sum_top {n : ℕ} (f : Fin n → EReal) (h0 : ∀ c, 0 ≤ f c) (c : Fin n) (hc : f c = ⊤) : ∑ i : Fin n, f i = ⊤ :=
  top_le_iff.1 (hc ▸ Finset.single_le_sum (fun i _ => h0 i) (Finset.mem_univ c))

/-- The square of a value that is not a number is infinite. -/
theorem square_top {a : EReal} (h : ¬ ∃ r : ℝ, a = r) : a * a = ⊤ := by
  cases a using EReal.rec with
  | coe r => exact absurd ⟨r, rfl⟩ h
  | bot => simp
  | top => simp

/-- On a row that is not finite the mean square is infinite. -/
theorem square_eq_top {x : Row} {c : Fin 1024} (h : ¬ ∃ r : ℝ, x c = r) : square x = ⊤ := by
  obtain ⟨e, _, hE⟩ := eps_pos
  unfold square
  rw [sum_top _ (fun i => square_nonneg (x i)) c (square_top h), len_eq, Ideal.div_coe (by norm_num), EReal.top_mul_coe_of_pos (by norm_num), hE, EReal.top_add_coe]

/-- The two spellings agree: on a row that is not finite, both are zero. -/
theorem gradRef_eq (x p : Row) (c : Fin 1024) : gradRef x p c = grad x p c := by
  by_cases hx : ∀ c, ∃ r : ℝ, x c = r
  · exact gradRef_eq_of_real hx p c
  · obtain ⟨d, hd⟩ := not_forall.1 hx
    have hs := square_eq_top hd
    have hi : rinv x = 0 := by
      unfold rinv
      rw [hs]
      rfl
    have hb : back x p = 0 := by
      unfold back
      rw [hi, hs, len_eq, Ideal.div_coe (by norm_num)]
      simp [Ideal.div]
    unfold gradRef grad
    rw [hi, hb]
    simp

/-- A value whose absolute value is below `∞` is a number. -/
theorem real_of_lt (x : EReal) (h : BitVec.ofBool (decide (FloatOps.absf (F := Ideal) (φ := .f32) x < Ideal.ofBits FTy.f32 2139095040#32)) = 1#1) : ∃ r : ℝ, x = r := by
  rw [show Ideal.ofBits FTy.f32 2139095040#32 = (⊤ : EReal) by simp [Ideal.ofBits, Ideal.ieee]] at h
  cases x using EReal.rec with
  | coe r => exact ⟨r, rfl⟩
  | bot => exact absurd h (by simp [FloatOps.absf])
  | top => exact absurd h (by simp [FloatOps.absf])

end Cert.Norm

end
-- ==== Proof.Norm.UpBlock.lean ====
/- The up-projection's argument gradient and the norm before it: what one grid point of the call leaves. -/
module

public import proofs.«01_k».proof.Proof.Gen.Kernel2Ideal.Value
public import proofs.«01_k».proof.Proof.Norm.Maths
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel2Ideal.Norm

open Idealize.ShloMosaic Cert.Kernel2Ideal Cert.Kernel2Ideal.Gen Cert.Norm

variable (a : Vec Ideal S2x512x2816 .bf16) (b : Vec Ideal S1024x5632 .bf16) (x : Vec Ideal S512x1024 .f32) (g : Vec Ideal S1x1024 .f32) (dres : Vec Ideal S512x1024 .f32) (acc : Vec Ideal S1x1024 .f32)
  (r : Fin 512) (j : Fin 1024) (z : Fin 1)

/-- Row `r` of a block. -/
def brow : Row := fun i => x (ix2 r i)

theorem brow_at : brow x r j = x (ix2 r j) := rfl

/-- The product of a block's row `r`, over the two halves of the columns. -/
def bprod : Row := fun j => (∑ k : Fin 2816, a (ix3 0 r k) * b (ix2 j ⟨k, by have := k.isLt; omega⟩)) + ∑ k : Fin 2816, a (ix3 1 r k) * b (ix2 j ⟨2816 + k, by have := k.isLt; omega⟩)

theorem bprod_at : bprod a b r j = (∑ k : Fin 2816, a (ix3 0 r k) * b (ix2 j ⟨k, by have := k.isLt; omega⟩)) + ∑ k : Fin 2816, a (ix3 1 r k) * b (ix2 j ⟨2816 + k, by have := k.isLt; omega⟩) := rfl

/-- The gradient of the normed row `r`. -/
def bpre : Row := fun i => bprod a b r i * g (ix2 0 i)

theorem bpre_at : bpre a b g r j = bprod a b r j * g (ix2 0 j) := rfl

/-- The halves of the block of gradients and of the weights. -/
abbrev lo : Vec Ideal S1x512x2816 .bf16 := View.ld a (Rect.unit ![0, 0, 0] ![1, 512, 2816] inb_S2x512x2816_S1x512x2816_0_0_0)
abbrev hi : Vec Ideal S1x512x2816 .bf16 := View.ld a (Rect.unit ![1, 0, 0] ![1, 512, 2816] inb_S2x512x2816_S1x512x2816_1_0_0)
abbrev left : Vec Ideal S1024x2816 .bf16 := View.ld b (Rect.unit ![0, 0] ![1024, 2816] inb_S1024x5632_S1024x2816_0_0)
abbrev right : Vec Ideal S1024x2816 .bf16 := View.ld b (Rect.unit ![0, 2816] ![1024, 2816] inb_S1024x5632_S1024x2816_0_2816)

theorem pay4_at : k0_pay4 (lo a) (left b) (hi a) (right b) (ix2 r j) = bprod a b r j := by
  pointwise [k0_pay4, bprod_at]
  congr 1
  all_goals
    refine Finset.sum_congr rfl fun k _ => ?_
    pointwise [lo, hi, left, right]

theorem pay6_at : k0_pay6 x (ix2 r z) = rinv (brow x r) := by
  pointwise [k0_pay6, rinv, square, brow_at, len, eps]

theorem pay7_at : k0_pay7 x (ix2 r j) = normed (brow x r) j := by
  pointwise [k0_pay7, normed, pay6_at, brow_at]

theorem pay9_at : k0_pay9 x (ix2 r j) = rinv (brow x r) := by
  pointwise [k0_pay9, pay6_at]

theorem pay1_at : k0_pay1 (k0_pay8 (lo a) (left b) (hi a) (right b) x g) (k0_pay9 x) dres (ix2 r j) = grad (brow x r) (bpre a b g r) j + dres (ix2 r j) := by
  pointwise [k0_pay1, k0_pay8, grad, pay4_at, pay7_at, pay9_at, bpre_at, len]

theorem pay2_at : k0_pay2 (k0_pay8 (lo a) (left b) (hi a) (right b) x g) (k0_pay9 x) dres (ix2 r j) = grad (brow x r) (bpre a b g r) j + dres (ix2 r j) := by
  pointwise [k0_pay2, pay1_at]

/-- What a point adds to the gain's gradient. -/
def bgain : EReal := ∑ r : Fin 512, bprod a b r j * normed (brow x r) j

theorem pay3_at : k0_pay3 (k0_pay4 (lo a) (left b) (hi a) (right b)) (k0_pay7 x) acc (ix2 z j) = acc (ix2 z j) + bgain a b x j := by
  pointwise [k0_pay3, bgain, pay4_at, pay7_at]

theorem zeros_at : k0_pay5 (F := Ideal) (ix2 z j) = 0 := by
  pointwise [k0_pay5]

/-! ## The point's outputs -/

variable (c : Dev nD) (i : grid0.Coords) (arg1 : Memref sig .tc .vmem S2x512x2816 .bf16) (harg1 : arg1.IsWhole) (arg2 : Memref sig .tc .vmem S1024x5632 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg7 : Memref sig .tc .vmem S512x1024 .f32) (harg7 : arg7.IsWhole) (arg8 : Memref sig .tc .vmem S512x1024 .bf16) (harg8 : arg8.IsWhole) (arg9 : Memref sig .tc .vmem S1x1024 .f32) (harg9 : arg9.IsWhole)

theorem outA_dx (hc0 : cond0_0 i) :
    out0_A_5 c i arg1 harg1 arg2 harg2 arg3 harg3 arg4 harg4 arg5 harg5 arg7 harg7 arg8 harg8 arg9 harg9 hc0 a b x g dres (ix2 r j) = grad (brow x r) (bpre a b g r) j + dres (ix2 r j) := by
  frame_open
  simp (disch := decide) only [↓ View.readCov_skip, ↓ View.readCov_cons_toLoadRect, ↓ View.readCov_fill]
  frame_out
  exact pay1_at ..

theorem outA_dxb (hc0 : cond0_0 i) :
    out0_A_6 c i arg1 harg1 arg2 harg2 arg3 harg3 arg4 harg4 arg5 harg5 arg7 harg7 arg8 harg8 arg9 harg9 hc0 a b x g dres (ix2 r j) = grad (brow x r) (bpre a b g r) j + dres (ix2 r j) := by
  frame_open
  simp (disch := decide) only [↓ View.readCov_skip, ↓ View.readCov_cons_toLoadRect, ↓ View.readCov_fill]
  frame_out
  exact pay2_at ..

theorem outA_dg (hc0 : cond0_0 i) :
    out0_A_7 c i arg1 harg1 arg2 harg2 arg3 harg3 arg4 harg4 arg5 harg5 arg7 harg7 arg8 harg8 arg9 harg9 hc0 a b x g dres (ix2 z j) = bgain a b x j := by
  frame_open
  simp (disch := decide) only [↓ View.readCov_skip, ↓ View.readCov_cons_toLoadRect, ↓ View.readCov_fill]
  frame_out
  rw [pay3_at, zeros_at, zero_add]

theorem outB_dx (hc0 : ¬cond0_0 i) :
    out0_B_5 c i arg1 harg1 arg2 harg2 arg3 harg3 arg4 harg4 arg5 harg5 arg7 harg7 arg8 harg8 arg9 harg9 hc0 a b x g dres acc (ix2 r j) = grad (brow x r) (bpre a b g r) j + dres (ix2 r j) := by
  frame_open
  simp (disch := decide) only [↓ View.readCov_skip, ↓ View.readCov_cons_toLoadRect, ↓ View.readCov_fill]
  frame_out
  exact pay1_at ..

theorem outB_dxb (hc0 : ¬cond0_0 i) :
    out0_B_6 c i arg1 harg1 arg2 harg2 arg3 harg3 arg4 harg4 arg5 harg5 arg7 harg7 arg8 harg8 arg9 harg9 hc0 a b x g dres acc (ix2 r j) = grad (brow x r) (bpre a b g r) j + dres (ix2 r j) := by
  frame_open
  simp (disch := decide) only [↓ View.readCov_skip, ↓ View.readCov_cons_toLoadRect, ↓ View.readCov_fill]
  frame_out
  exact pay2_at ..

theorem outB_dg (hc0 : ¬cond0_0 i) :
    out0_B_7 c i arg1 harg1 arg2 harg2 arg3 harg3 arg4 harg4 arg5 harg5 arg7 harg7 arg8 harg8 arg9 harg9 hc0 a b x g dres acc (ix2 z j) = acc (ix2 z j) + bgain a b x j := by
  frame_open
  simp (disch := decide) only [↓ View.readCov_skip, ↓ View.readCov_cons_toLoadRect, ↓ View.readCov_fill]
  frame_out
  exact pay3_at ..

end Cert.Kernel2Ideal.Norm

end
-- ==== Proof.Norm.UpArray.lean ====
/- The up-projection's argument gradient and the norm before it: the arrays the call leaves. -/
module

public import proofs.«01_k».proof.Proof.Norm.UpBlock

@[expose] public section

set_option maxRecDepth 16384

noncomputable section

namespace Cert.Kernel2Ideal.Norm

open Idealize.ShloMosaic Idealize.ShloMosaic.TcCoe Cert.Kernel2Ideal Cert.Kernel2Ideal.Gen Cert.Kernel2Ideal.Value Cert.Norm

/-- Row `R` of the product. -/
def rprod (a : FVec Ideal S2x4096x2816 .bf16) (b : FVec Ideal S1024x5632 .bf16) (R : Fin 4096) : Row := fun j => (∑ k : Fin 2816, a (ix3 0 R k) * b (ix2 j ⟨k, by have := k.isLt; omega⟩)) + ∑ k : Fin 2816, a (ix3 1 R k) * b (ix2 j ⟨2816 + k, by have := k.isLt; omega⟩)

theorem rprod_at (a : FVec Ideal S2x4096x2816 .bf16) (b : FVec Ideal S1024x5632 .bf16) (R : Fin 4096) (j : Fin 1024) : rprod a b R j = (∑ k : Fin 2816, a (ix3 0 R k) * b (ix2 j ⟨k, by have := k.isLt; omega⟩)) + ∑ k : Fin 2816, a (ix3 1 R k) * b (ix2 j ⟨2816 + k, by have := k.isLt; omega⟩) := rfl

/-- Row `R` of an array. -/
def rrow (x : FVec Ideal S4096x1024 .f32) (R : Fin 4096) : Row := fun i => x (ix2 R i)

/-- The gradient of the normed row `R`. -/
def rpre (a : FVec Ideal S2x4096x2816 .bf16) (b : FVec Ideal S1024x5632 .bf16) (g : FVec Ideal S1x1024 .f32) (R : Fin 4096) : Row := fun i => rprod a b R i * g (ix2 0 i)

/-- The rows' gradient. -/
def dx (a : FVec Ideal S2x4096x2816 .bf16) (b : FVec Ideal S1024x5632 .bf16) (x : FVec Ideal S4096x1024 .f32) (g : FVec Ideal S1x1024 .f32) (dres : FVec Ideal S4096x1024 .f32) : FVec Ideal S4096x1024 .f32 :=
  fun y => grad (rrow x (y 0)) (rpre a b g (y 0)) (y 1) + dres y

theorem dx_at (a : FVec Ideal S2x4096x2816 .bf16) (b : FVec Ideal S1024x5632 .bf16) (x : FVec Ideal S4096x1024 .f32) (g : FVec Ideal S1x1024 .f32) (dres : FVec Ideal S4096x1024 .f32) (R : Fin 4096) (j : Fin 1024) :
    dx a b x g dres (ix2 R j) = grad (rrow x R) (rpre a b g R) j + dres (ix2 R j) := rfl

/-- The gain's gradient. -/
def dgain (a : FVec Ideal S2x4096x2816 .bf16) (b : FVec Ideal S1024x5632 .bf16) (x : FVec Ideal S4096x1024 .f32) : FVec Ideal S1x1024 .f32 :=
  fun y => ∑ R : Fin 4096, rprod a b R (y 1) * normed (rrow x R) (y 1)

theorem dgain_at (a : FVec Ideal S2x4096x2816 .bf16) (b : FVec Ideal S1024x5632 .bf16) (x : FVec Ideal S4096x1024 .f32) (z : Fin 1) (j : Fin 1024) :
    dgain a b x (ix2 z j) = ∑ R : Fin 4096, rprod a b R j * normed (rrow x R) j := rfl

variable (m : (ℓ : Loc nD τ sig) → Buf (Elt Ideal) ℓ) (c : Dev nD)

/-- Where each point's blocks lie. -/
theorem idx : ∀ t : Fin cfg0.N, win0_0.index t = ![0, t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] :=
  (by decide +kernel : ∀ t : Fin grid0.N, _)

theorem lt8 (t : Fin cfg0.N) : t.val < 8 := lt_of_lt_of_eq t.isLt (show cfg0.N = 8 from N_0)

theorem prod_block (t : Fin cfg0.N) (r : Fin 512) (j : Fin 1024) :
    bprod (iblk m c 0 t) (iblk m c 1 t) r j = rprod (m ((c : Thread nD τ).loc main_arg0)) (m ((c : Thread nD τ).loc main_arg1)) ⟨t.val * 512 + r, by have := lt8 t; omega⟩ j := by
  rw [bprod_at, rprod_at]
  congr 1
  all_goals
    refine Finset.sum_congr rfl fun k _ => ?_
    congr 1 <;> blk_ext [iblk, V, idx t]

theorem row_block (t : Fin cfg0.N) (r : Fin 512) :
    brow (iblk m c 2 t) r = rrow (m ((c : Thread nD τ).loc main_arg2)) ⟨t.val * 512 + r, by have := lt8 t; omega⟩ := by
  funext i
  show (iblk m c 2 t : Vec Ideal S512x1024 .f32) (ix2 r i) = (m ((c : Thread nD τ).loc main_arg2)) (ix2 ⟨t.val * 512 + r, by have := lt8 t; omega⟩ i)
  blk_ext [iblk, V, idx t]

theorem gain_block (t : Fin cfg0.N) (j : Fin 1024) :
    (iblk m c 3 t : Vec Ideal S1x1024 .f32) (ix2 0 j) = (m ((c : Thread nD τ).loc main_arg3)) (ix2 0 j) := by
  blk_ext [iblk, V, idx t]

theorem res_block (t : Fin cfg0.N) (r : Fin 512) (j : Fin 1024) :
    (iblk m c 4 t : Vec Ideal S512x1024 .f32) (ix2 r j) = (m ((c : Thread nD τ).loc main_arg4)) (ix2 ⟨t.val * 512 + r, by have := lt8 t; omega⟩ j) := by
  blk_ext [iblk, V, idx t]

theorem pre_block (t : Fin cfg0.N) (r : Fin 512) :
    bpre (iblk m c 0 t) (iblk m c 1 t) (iblk m c 3 t) r = rpre (m ((c : Thread nD τ).loc main_arg0)) (m ((c : Thread nD τ).loc main_arg1)) (m ((c : Thread nD τ).loc main_arg3)) ⟨t.val * 512 + r, by have := lt8 t; omega⟩ := by
  funext i
  exact congrArg₂ (· * ·) (prod_block m c t r i) (gain_block m c t i)

/-- Point `t` leaves its rows of the gradient. -/
theorem outs_dx (t : Fin cfg0.N) (r : Fin 512) (j : Fin 1024) :
    (outsAt0 m c t.val t.isLt).1 (ix2 r j) = grad (brow (iblk m c 2 t) r) (bpre (iblk m c 0 t) (iblk m c 1 t) (iblk m c 3 t) r) j + (iblk m c 4 t : Vec Ideal S512x1024 .f32) (ix2 r j) := by
  by_cases h0 : t.val % 8 = 0
  · rw [outsAt0_A m c t h0]
    dsimp only
    apply outA_dx
  · rw [outsAt0_B m c t h0]
    dsimp only
    apply outB_dx

theorem final_dx : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (outs_dx m c t y0 y1).trans ?_
  rw [row_block, pre_block, res_block, ← dx_at]
  blk_ext [idx t]

/-- Point `t` leaves its rows of the gradient. -/
theorem outs_dxb (t : Fin cfg0.N) (r : Fin 512) (j : Fin 1024) :
    (outsAt0 m c t.val t.isLt).2.1 (ix2 r j) = grad (brow (iblk m c 2 t) r) (bpre (iblk m c 0 t) (iblk m c 1 t) (iblk m c 3 t) r) j + (iblk m c 4 t : Vec Ideal S512x1024 .f32) (ix2 r j) := by
  by_cases h0 : t.val % 8 = 0
  · rw [outsAt0_A m c t h0]
    dsimp only
    apply outA_dxb
  · rw [outsAt0_B m c t h0]
    dsimp only
    apply outB_dxb

theorem final_dxb : (dats m 0 c).arrAt 6 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  refine (outs_dxb m c t y0 y1).trans ?_
  rw [row_block, pre_block, res_block, ← dx_at]
  blk_ext [idx t]

theorem outs_dg_first (t : Fin cfg0.N) (h0 : t.val % 8 = 0) (y : S1x1024.Idx) :
    (outsAt0 m c t.val t.isLt).2.2 y = 0 + bgain (iblk m c 0 t) (iblk m c 1 t) (iblk m c 2 t) (y 1) := by
  idx_vars y
  rw [outsAt0_A m c t h0, zero_add]
  dsimp only
  apply outA_dg

theorem outs_dg_next (t : Fin cfg0.N) (h0 : ¬t.val % 8 = 0) (y : S1x1024.Idx) :
    (outsAt0 m c t.val t.isLt).2.2 y = (outsAt0 m c (t.val - 1) (Nat.lt_of_le_of_lt (Nat.sub_le _ _) t.isLt)).2.2 y + bgain (iblk m c 0 t) (iblk m c 1 t) (iblk m c 2 t) (y 1) := by
  idx_vars y
  rw [outsAt0_B m c t h0]
  dsimp only
  apply outB_dg

/-- The last point. -/
def tlast : Fin cfg0.N := ⟨7, by rw [show cfg0.N = 8 from N_0]; omega⟩

/-- After the last point the gain's gradient is whole. -/
theorem outs_dg (y : S1x1024.Idx) :
    (outsAt0 m c tlast.val tlast.isLt).2.2 y = dgain (m ((c : Thread nD τ).loc main_arg0)) (m ((c : Thread nD τ).loc main_arg1)) (m ((c : Thread nD τ).loc main_arg2)) y := by
  rw [Pipeline.eq_sum_fin_of_reset_step_apply_last (fun n h => (outsAt0 m c n h).2.2) 8 (fun _ => (0 : EReal))
    (fun t (y : S1x1024.Idx) => bgain (iblk m c 0 t) (iblk m c 1 t) (iblk m c 2 t) (y 1)) (outs_dg_first m c) (outs_dg_next m c)
    (le_of_eq N_0) tlast (show 8 = cfg0.N from N_0.symm) y, zero_add]
  idx_vars y
  rw [dgain_at]
  unfold bgain
  refine Eq.trans ?_ (Fin.sum_mul_add_fin 8 512 (fun R : Fin 4096 => rprod (m ((c : Thread nD τ).loc main_arg0)) (m ((c : Thread nD τ).loc main_arg1)) R y1 * normed (rrow (m ((c : Thread nD τ).loc main_arg2)) R) y1) rfl)
  refine Finset.sum_congr rfl fun t _ => Finset.sum_congr rfl fun r _ => ?_
  rw [row_block]
  exact congrArg (· * _) (prod_block m c t r y1)

theorem final_dg : (dats m 0 c).arrAt 7 cfg0.N = dgain (m ((c : Thread nD τ).loc main_arg0)) (m ((c : Thread nD τ).loc main_arg1)) (m ((c : Thread nD τ).loc main_arg2)) := by
  refine (dats m 0 c).arrAt_eq_of_after_last 7 tlast (by decide +kernel) _ fun y => ?_
  blk_simp
  rw [after0_7]
  exact outs_dg m c y

end Cert.Kernel2Ideal.Norm

end
-- ==== Proof.Norm.Reference.lean ====
/- What the references of the norm gradients hold at an index: their tensors named one after another. -/
module

public import proofs.«01_k».proof.Proof.Gen.Reference2Ideal.Run
public import proofs.«01_k».proof.Proof.Norm.Maths
public import Idealize.ShloMosaic.Lib.Pointwise

@[expose] public section

set_option maxRecDepth 16384

noncomputable section

namespace Cert.Norm

open Idealize.ShloMosaic Cert.Reference2Ideal Cert.Reference2Ideal.Gen

/-! ## The tensors -/

/-- The rows' mean squares, with `eps` added. -/
def squares (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

def invs (x : FVec Ideal S4096x1024 .f32) : FVec Ideal S4096x1 .f32 := Host.rsqrt (squares x)

/-- The normed rows' gradient. -/
def pres (dh : FVec Ideal S4096x1024 .f32) (g : FVec Ideal S1x1024 .f32) : FVec Ideal S4096x1024 .f32 :=
  mulf dh (broadcastInDim S4096x1024 ![0, 1] bcast_S1x1024_S4096x1024_0_1 g)

def backs (dh x : FVec Ideal S4096x1024 .f32) (g : FVec Ideal S1x1024 .f32) : FVec Ideal S4096 .f32 :=
  Host.reduceAdd (Host.divf (mulf (shapeCast _ (Host.reduceAdd (mulf x (pres dh g)) (constant S_ .f32 0x00000000#32) reducesTo_S4096x1024_S4096_d1 h_S_) shapeCasts_S4096_S4096x1) (mulf (broadcastInDim S4096x1 ![] bcast_S_S4096x1 (constant S_ .f32 0xBF000000#32)) (Host.divf (invs x) (squares x)))) (broadcastInDim S4096x1 ![] bcast_S_S4096x1 (constant S_ .f32 0x44800000#32))) (constant S_ .f32 0x00000000#32) reducesTo_S4096x1_S4096_d1 h_S_

/-- The rows' gradient, and the residual connection's. -/
def dx (dh x : FVec Ideal S4096x1024 .f32) (g : FVec Ideal S1x1024 .f32) (dres : FVec Ideal S4096x1024 .f32) : FVec Ideal S4096x1024 .f32 :=
  addf (addf (addf (mulf (pres dh g) (broadcastInDim S4096x1024 ![0, 1] bcast_S4096x1_S4096x1024_0_1 (invs x))) (mulf x (broadcastInDim S4096x1024 ![0] bcast_S4096_S4096x1024_0 (backs dh x g)))) (mulf (broadcastInDim S4096x1024 ![0] bcast_S4096_S4096x1024_0 (backs dh x g)) x)) dres

/-- The gain's gradient. -/
def dgain (dh x : FVec Ideal S4096x1024 .f32) : FVec Ideal S1x1024 .f32 :=
  shapeCast _ (Host.reduceAdd (mulf (mulf x (broadcastInDim S4096x1024 ![0, 1] bcast_S4096x1_S4096x1024_0_1 (invs x))) dh) (constant S_ .f32 0x00000000#32) reducesTo_S4096x1024_S1024_d0 h_S_) shapeCasts_S1024_S1x1024

/-! ## At an index -/

variable (dh x dres : FVec Ideal S4096x1024 .f32) (g : FVec Ideal S1x1024 .f32) (r : Fin 4096) (c : Fin 1024) (z : Fin 1)

/-- Row `r`. -/
def row : Row := fun i => x (ix2 r i)

theorem row_at : row x r c = x (ix2 r c) := rfl

/-- The normed row `r`'s gradient. -/
def pre : Row := fun i => dh (ix2 r i) * g (ix2 0 i)

theorem pre_at : pre dh g r c = dh (ix2 r c) * g (ix2 0 c) := rfl

theorem squares_at : squares x (ix2 r z) = square (row x r) := by
  pointwise [squares, square, row_at, eps, len]

theorem invs_at : invs x (ix2 r z) = rinv (row x r) := by
  pointwise [invs, rinv, squares_at]

theorem backs_at : backs dh x g (ix1 r) = back (row x r) (pre dh g r) := by
  pointwise [backs, back, pres, squares_at, invs_at, row_at, pre_at, len]
  exact Fin.sum_univ_one _

theorem dx_at : dx dh x g dres (ix2 r c) = gradRef (row x r) (pre dh g r) c + dres (ix2 r c) := by
  pointwise [dx, gradRef, backs_at, pres, invs_at, row_at, pre_at]

theorem dgain_at : dgain dh x (ix2 z c) = ∑ r : Fin 4096, normed (row x r) c * dh (ix2 r c) := by
  pointwise [dgain, normed, invs_at, row_at]

end Cert.Norm

end
-- ==== Proof.Norm.UpClaims.lean ====
/- The up-projection's argument gradient and the norm before it: the claims. -/
module

public import proofs.«01_k».proof.Defs
public import proofs.«01_k».proof.Proof.Gen.Reference2Ideal.Run
public import proofs.«01_k».proof.Proof.Norm.UpArray
public import proofs.«01_k».proof.Proof.Norm.Reference
public import Idealize.ShloMosaic.Adequacy

@[expose] public section

set_option maxRecDepth 16384

noncomputable section

namespace Cert.Reference2Ideal.Norm

open Idealize.ShloMosaic Idealize.ShloMosaic.TcCoe Cert.Reference2Ideal Cert.Reference2Ideal.Gen

/-- The product that the reference takes the gradient of the norm at. -/
def dh (a : FVec Ideal S2x4096x2816 .bf16) (b : FVec Ideal S1024x5632 .bf16) : FVec Ideal S4096x1024 .f32 :=
  Host.dotGeneral dot_S4096x5632_S1024x5632_S4096x1024_1_1_0_0_n_n none (concatenate S4096x5632 1 [⟨S4096x2816, (shapeCast S4096x2816 (extractStridedSlice S1x4096x2816 ![0, 0, 0] (extf .f32 a bitsLt_bf16_f32) slices_S2x4096x2816_S1x4096x2816_0_0_0) shapeCasts_S1x4096x2816_S4096x2816)⟩, ⟨S4096x2816, (shapeCast S4096x2816 (extractStridedSlice S1x4096x2816 ![1, 0, 0] (extf .f32 a bitsLt_bf16_f32) slices_S2x4096x2816_S1x4096x2816_1_0_0) shapeCasts_S1x4096x2816_S4096x2816)⟩] concatenates_S4096x2816_S4096x2816_S4096x5632_d1) (extf .f32 b bitsLt_bf16_f32)

variable (a : FVec Ideal S2x4096x2816 .bf16) (b : FVec Ideal S1024x5632 .bf16) (x : FVec Ideal S4096x1024 .f32) (g : FVec Ideal S1x1024 .f32) (dres : FVec Ideal S4096x1024 .f32)

theorem dh_at (R : Fin 4096) (j : Fin 1024) : dh a b (ix2 R j) = Cert.Kernel2Ideal.Norm.rprod a b R j := by
  rw [Cert.Kernel2Ideal.Norm.rprod_at]
  pointwise [dh]

theorem pre_eq (R : Fin 4096) : Cert.Norm.pre (dh a b) g R = Cert.Kernel2Ideal.Norm.rpre a b g R := by
  funext i
  exact congrArg (· * _) (dh_at a b R i)

theorem dx_eq : Cert.Norm.dx (dh a b) x g dres = Cert.Kernel2Ideal.Norm.dx a b x g dres := by
  funext y
  idx_vars y
  rw [Cert.Norm.dx_at, pre_eq, Cert.Norm.gradRef_eq]
  rfl

theorem dgain_eq : Cert.Norm.dgain (dh a b) x = Cert.Kernel2Ideal.Norm.dgain a b x := by
  funext y
  idx_vars y
  rw [Cert.Norm.dgain_at, Cert.Kernel2Ideal.Norm.dgain_at]
  refine Finset.sum_congr rfl fun R _ => ?_
  rw [dh_at, mul_comm]
  rfl

variable (m : (ℓ : Loc nD τ sig) → Buf (Elt Ideal) ℓ) (c : Dev nD)

theorem out0_eq : Value.res_out0 m c = Cert.Norm.dx (dh (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := rfl

theorem out1_eq : Value.res_out1 m c = Cert.Norm.dx (dh (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := rfl

end Cert.Reference2Ideal.Norm

namespace Cert.Norm.K2

open Idealize.ShloMosaic Idealize.ShloMosaic.TcCoe Idealize.SL.Sem

/-- The reference ends with its arguments unchanged; it declares no semaphore, so all read zero. -/
theorem frame_reference (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0) :=
  (θ_run _ _ _).mono (fun r h => ⟨fun c => (h c).2.2.2, sem_eq_zero_of_no_sems (by decide) r.2⟩) (Cert.Reference2Ideal.Value.run m ρ)

/-- The kernel's gradients are the reference's. -/
theorem algebraic : Cert.algebraic_Kernel2Ideal_Reference2Ideal
    (hKernel2Ideal := Cert.Kernel2Ideal.Gen.facts) (hReference2Ideal := Cert.Reference2Ideal.Gen.facts) := by
  intro m ρ m' ρ' _ hag
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N,
    Cert.Kernel2Ideal.Value.run_blocks m ρ, (θ_run _ _ _).mono (fun r h c => ?_) (Cert.Reference2Ideal.Value.run m' ρ')⟩
  obtain ⟨h0, h1, h2, hargs⟩ := h c
  obtain ⟨a0, a1, a2, a3, a4, a5⟩ := hag c
  refine ⟨h0.trans ?_, h1.trans ?_, h2.trans ?_, hargs⟩
  · refine (Cert.Reference2Ideal.Norm.out0_eq m' c).trans ?_
    rw [a0, a1, a2, a3, a4]
    exact (Cert.Reference2Ideal.Norm.dx_eq _ _ _ _ _).trans (Cert.Kernel2Ideal.Norm.final_dx m c).symm
  · refine (Cert.Reference2Ideal.Norm.out1_eq m' c).trans ?_
    rw [a0, a1, a2, a3, a4]
    exact (Cert.Reference2Ideal.Norm.dx_eq _ _ _ _ _).trans (Cert.Kernel2Ideal.Norm.final_dxb m c).symm
  · rw [a0, a1, a2]
    exact (Cert.Reference2Ideal.Norm.dgain_eq _ _ _).trans (Cert.Kernel2Ideal.Norm.final_dg m c).symm

end Cert.Norm.K2

end
-- ==== Proof.Norm.QueryBlock.lean ====
/- The query projection's argument gradient and the norm before it: what one grid point of the call leaves. -/
module

public import proofs.«01_k».proof.Proof.Gen.Kernel3Ideal.Value
public import proofs.«01_k».proof.Proof.Norm.Maths
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel3Ideal.Norm

open Idealize.ShloMosaic Cert.Kernel3Ideal Cert.Kernel3Ideal.Gen Cert.Norm

variable (a : Vec Ideal S1024x1024 .bf16) (b : Vec Ideal S1024x1024 .bf16) (x : Vec Ideal S1024x1024 .f32) (g : Vec Ideal S1x1024 .f32) (dres : Vec Ideal S1024x1024 .f32) (acc : Vec Ideal S1x1024 .f32)
  (r : Fin 1024) (j : Fin 1024) (z : Fin 1)

/-- Row `r` of a block. -/
def brow : Row := fun i => x (ix2 r i)

theorem brow_at : brow x r j = x (ix2 r j) := rfl

/-- The product of a block's row `r`. -/
def bprod : Row := fun j => ∑ k : Fin 1024, a (ix2 r k) * b (ix2 j k)

theorem bprod_at : bprod a b r j = ∑ k : Fin 1024, a (ix2 r k) * b (ix2 j k) := rfl

/-- The gradient of the normed row `r`. -/
def bpre : Row := fun i => bprod a b r i * g (ix2 0 i)

theorem bpre_at : bpre a b g r j = bprod a b r j * g (ix2 0 j) := rfl

theorem pay2_at : k0_pay2 a b (ix2 r j) = bprod a b r j := by
  pointwise [k0_pay2, bprod_at]

theorem pay4_at : k0_pay4 x (ix2 r z) = rinv (brow x r) := by
  pointwise [k0_pay4, rinv, square, brow_at, len, eps]

theorem pay5_at : k0_pay5 x (ix2 r j) = normed (brow x r) j := by
  pointwise [k0_pay5, normed, pay4_at, brow_at]

theorem pay6_at : k0_pay6 a b x g dres (ix2 r j) = grad (brow x r) (bpre a b g r) j + dres (ix2 r j) := by
  pointwise [k0_pay6, grad, pay2_at, pay4_at, pay5_at, bpre_at, len]

/-- What a point adds to the gain's gradient. -/
def bgain : EReal := ∑ r : Fin 1024, bprod a b r j * normed (brow x r) j

theorem pay1_at : k0_pay1 (k0_pay2 a b) (k0_pay5 x) acc (ix2 z j) = acc (ix2 z j) + bgain a b x j := by
  pointwise [k0_pay1, bgain, pay2_at, pay5_at]

theorem zeros_at : k0_pay3 (F := Ideal) (ix2 z j) = 0 := by
  pointwise [k0_pay3]

/-! ## The point's outputs -/

variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1x1024 .f32) (harg8 : arg8.IsWhole)

theorem outA_dx (hc0 : cond0_0 i) :
    out0_A_5 c i arg1 harg1 arg2 harg2 arg3 harg3 arg4 harg4 arg5 harg5 arg6 harg6 arg7 harg7 arg8 harg8 hc0 a b x g dres (ix2 r j) = grad (brow x r) (bpre a b g r) j + dres (ix2 r j) := by
  frame_open
  simp (disch := decide) only [↓ View.readCov_skip, ↓ View.readCov_cons_toLoadRect, ↓ View.readCov_fill]
  frame_out
  exact pay6_at ..

theorem outA_dxb (hc0 : cond0_0 i) :
    out0_A_6 c i arg1 harg1 arg2 harg2 arg3 harg3 arg4 harg4 arg5 harg5 arg6 harg6 arg7 harg7 arg8 harg8 hc0 a b x g dres (ix2 r j) = grad (brow x r) (bpre a b g r) j + dres (ix2 r j) := by
  frame_open
  simp (disch := decide) only [↓ View.readCov_skip, ↓ View.readCov_cons_toLoadRect, ↓ View.readCov_fill]
  frame_out
  exact pay6_at ..

theorem outA_dg (hc0 : cond0_0 i) :
    out0_A_7 c i arg1 harg1 arg2 harg2 arg3 harg3 arg4 harg4 arg5 harg5 arg6 harg6 arg7 harg7 arg8 harg8 hc0 a b x g dres (ix2 z j) = bgain a b x j := by
  frame_open
  simp (disch := decide) only [↓ View.readCov_skip, ↓ View.readCov_cons_toLoadRect, ↓ View.readCov_fill]
  frame_out
  rw [pay1_at, zeros_at, zero_add]

theorem outB_dx (hc0 : ¬cond0_0 i) :
    out0_B_5 c i arg1 harg1 arg2 harg2 arg3 harg3 arg4 harg4 arg5 harg5 arg6 harg6 arg7 harg7 arg8 harg8 hc0 a b x g dres acc (ix2 r j) = grad (brow x r) (bpre a b g r) j + dres (ix2 r j) := by
  frame_open
  simp (disch := decide) only [↓ View.readCov_skip, ↓ View.readCov_cons_toLoadRect, ↓ View.readCov_fill]
  frame_out
  exact pay6_at ..

theorem outB_dxb (hc0 : ¬cond0_0 i) :
    out0_B_6 c i arg1 harg1 arg2 harg2 arg3 harg3 arg4 harg4 arg5 harg5 arg6 harg6 arg7 harg7 arg8 harg8 hc0 a b x g dres acc (ix2 r j) = grad (brow x r) (bpre a b g r) j + dres (ix2 r j) := by
  frame_open
  simp (disch := decide) only [↓ View.readCov_skip, ↓ View.readCov_cons_toLoadRect, ↓ View.readCov_fill]
  frame_out
  exact pay6_at ..

theorem outB_dg (hc0 : ¬cond0_0 i) :
    out0_B_7 c i arg1 harg1 arg2 harg2 arg3 harg3 arg4 harg4 arg5 harg5 arg6 harg6 arg7 harg7 arg8 harg8 hc0 a b x g dres acc (ix2 z j) = acc (ix2 z j) + bgain a b x j := by
  frame_open
  simp (disch := decide) only [↓ View.readCov_skip, ↓ View.readCov_cons_toLoadRect, ↓ View.readCov_fill]
  frame_out
  exact pay1_at ..

end Cert.Kernel3Ideal.Norm

end
-- ==== Proof.Norm.QueryArray.lean ====
/- The query projection's argument gradient and the norm before it: the arrays the call leaves. -/
module

public import proofs.«01_k».proof.Proof.Norm.QueryBlock

@[expose] public section

set_option maxRecDepth 16384

noncomputable section

namespace Cert.Kernel3Ideal.Norm

open Idealize.ShloMosaic Idealize.ShloMosaic.TcCoe Cert.Kernel3Ideal Cert.Kernel3Ideal.Gen Cert.Kernel3Ideal.Value Cert.Norm

/-- Row `R` of the product. -/
def rprod (a : FVec Ideal S4096x1024 .bf16) (b : FVec Ideal S1024x1024 .bf16) (R : Fin 4096) : Row := fun j => ∑ k : Fin 1024, a (ix2 R k) * b (ix2 j k)

theorem rprod_at (a : FVec Ideal S4096x1024 .bf16) (b : FVec Ideal S1024x1024 .bf16) (R : Fin 4096) (j : Fin 1024) : rprod a b R j = ∑ k : Fin 1024, a (ix2 R k) * b (ix2 j k) := rfl

/-- Row `R` of an array. -/
def rrow (x : FVec Ideal S4096x1024 .f32) (R : Fin 4096) : Row := fun i => x (ix2 R i)

/-- The gradient of the normed row `R`. -/
def rpre (a : FVec Ideal S4096x1024 .bf16) (b : FVec Ideal S1024x1024 .bf16) (g : FVec Ideal S1x1024 .f32) (R : Fin 4096) : Row := fun i => rprod a b R i * g (ix2 0 i)

/-- The rows' gradient. -/
def dx (a : FVec Ideal S4096x1024 .bf16) (b : FVec Ideal S1024x1024 .bf16) (x : FVec Ideal S4096x1024 .f32) (g : FVec Ideal S1x1024 .f32) (dres : FVec Ideal S4096x1024 .f32) : FVec Ideal S4096x1024 .f32 :=
  fun y => grad (rrow x (y 0)) (rpre a b g (y 0)) (y 1) + dres y

theorem dx_at (a : FVec Ideal S4096x1024 .bf16) (b : FVec Ideal S1024x1024 .bf16) (x : FVec Ideal S4096x1024 .f32) (g : FVec Ideal S1x1024 .f32) (dres : FVec Ideal S4096x1024 .f32) (R : Fin 4096) (j : Fin 1024) :
    dx a b x g dres (ix2 R j) = grad (rrow x R) (rpre a b g R) j + dres (ix2 R j) := rfl

/-- The gain's gradient. -/
def dgain (a : FVec Ideal S4096x1024 .bf16) (b : FVec Ideal S1024x1024 .bf16) (x : FVec Ideal S4096x1024 .f32) : FVec Ideal S1x1024 .f32 :=
  fun y => ∑ R : Fin 4096, rprod a b R (y 1) * normed (rrow x R) (y 1)

theorem dgain_at (a : FVec Ideal S4096x1024 .bf16) (b : FVec Ideal S1024x1024 .bf16) (x : FVec Ideal S4096x1024 .f32) (z : Fin 1) (j : Fin 1024) :
    dgain a b x (ix2 z j) = ∑ R : Fin 4096, rprod a b R j * normed (rrow x R) j := rfl

variable (m : (ℓ : Loc nD τ sig) → Buf (Elt Ideal) ℓ) (c : Dev nD)

/-- Where each point's blocks lie. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] :=
  (by decide +kernel : ∀ t : Fin grid0.N, _)

theorem lt4 (t : Fin cfg0.N) : t.val < 4 := lt_of_lt_of_eq t.isLt (show cfg0.N = 4 from N_0)

theorem prod_block (t : Fin cfg0.N) (r : Fin 1024) (j : Fin 1024) :
    bprod (iblk m c 0 t) (iblk m c 1 t) r j = rprod (m ((c : Thread nD τ).loc main_arg0)) (m ((c : Thread nD τ).loc main_arg1)) ⟨t.val * 1024 + r, by have := lt4 t; omega⟩ j := by
  rw [bprod_at, rprod_at]
  skip
  all_goals
    refine Finset.sum_congr rfl fun k _ => ?_
    congr 1 <;> blk_ext [iblk, V, idx t]

theorem row_block (t : Fin cfg0.N) (r : Fin 1024) :
    brow (iblk m c 2 t) r = rrow (m ((c : Thread nD τ).loc main_arg2)) ⟨t.val * 1024 + r, by have := lt4 t; omega⟩ := by
  funext i
  show (iblk m c 2 t : Vec Ideal S1024x1024 .f32) (ix2 r i) = (m ((c : Thread nD τ).loc main_arg2)) (ix2 ⟨t.val * 1024 + r, by have := lt4 t; omega⟩ i)
  blk_ext [iblk, V, idx t]

theorem gain_block (t : Fin cfg0.N) (j : Fin 1024) :
    (iblk m c 3 t : Vec Ideal S1x1024 .f32) (ix2 0 j) = (m ((c : Thread nD τ).loc main_arg3)) (ix2 0 j) := by
  blk_ext [iblk, V, idx t]

theorem res_block (t : Fin cfg0.N) (r : Fin 1024) (j : Fin 1024) :
    (iblk m c 4 t : Vec Ideal S1024x1024 .f32) (ix2 r j) = (m ((c : Thread nD τ).loc main_arg4)) (ix2 ⟨t.val * 1024 + r, by have := lt4 t; omega⟩ j) := by
  blk_ext [iblk, V, idx t]

theorem pre_block (t : Fin cfg0.N) (r : Fin 1024) :
    bpre (iblk m c 0 t) (iblk m c 1 t) (iblk m c 3 t) r = rpre (m ((c : Thread nD τ).loc main_arg0)) (m ((c : Thread nD τ).loc main_arg1)) (m ((c : Thread nD τ).loc main_arg3)) ⟨t.val * 1024 + r, by have := lt4 t; omega⟩ := by
  funext i
  exact congrArg₂ (· * ·) (prod_block m c t r i) (gain_block m c t i)

/-- Point `t` leaves its rows of the gradient. -/
theorem outs_dx (t : Fin cfg0.N) (r : Fin 1024) (j : Fin 1024) :
    (outsAt0 m c t.val t.isLt).1 (ix2 r j) = grad (brow (iblk m c 2 t) r) (bpre (iblk m c 0 t) (iblk m c 1 t) (iblk m c 3 t) r) j + (iblk m c 4 t : Vec Ideal S1024x1024 .f32) (ix2 r j) := by
  by_cases h0 : t.val % 4 = 0
  · rw [outsAt0_A m c t h0]
    dsimp only
    apply outA_dx
  · rw [outsAt0_B m c t h0]
    dsimp only
    apply outB_dx

theorem final_dx : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (outs_dx m c t y0 y1).trans ?_
  rw [row_block, pre_block, res_block, ← dx_at]
  blk_ext [idx t]

/-- Point `t` leaves its rows of the gradient. -/
theorem outs_dxb (t : Fin cfg0.N) (r : Fin 1024) (j : Fin 1024) :
    (outsAt0 m c t.val t.isLt).2.1 (ix2 r j) = grad (brow (iblk m c 2 t) r) (bpre (iblk m c 0 t) (iblk m c 1 t) (iblk m c 3 t) r) j + (iblk m c 4 t : Vec Ideal S1024x1024 .f32) (ix2 r j) := by
  by_cases h0 : t.val % 4 = 0
  · rw [outsAt0_A m c t h0]
    dsimp only
    apply outA_dxb
  · rw [outsAt0_B m c t h0]
    dsimp only
    apply outB_dxb

theorem final_dxb : (dats m 0 c).arrAt 6 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  refine (outs_dxb m c t y0 y1).trans ?_
  rw [row_block, pre_block, res_block, ← dx_at]
  blk_ext [idx t]

theorem outs_dg_first (t : Fin cfg0.N) (h0 : t.val % 4 = 0) (y : S1x1024.Idx) :
    (outsAt0 m c t.val t.isLt).2.2 y = 0 + bgain (iblk m c 0 t) (iblk m c 1 t) (iblk m c 2 t) (y 1) := by
  idx_vars y
  rw [outsAt0_A m c t h0, zero_add]
  dsimp only
  apply outA_dg

theorem outs_dg_next (t : Fin cfg0.N) (h0 : ¬t.val % 4 = 0) (y : S1x1024.Idx) :
    (outsAt0 m c t.val t.isLt).2.2 y = (outsAt0 m c (t.val - 1) (Nat.lt_of_le_of_lt (Nat.sub_le _ _) t.isLt)).2.2 y + bgain (iblk m c 0 t) (iblk m c 1 t) (iblk m c 2 t) (y 1) := by
  idx_vars y
  rw [outsAt0_B m c t h0]
  dsimp only
  apply outB_dg

/-- The last point. -/
def tlast : Fin cfg0.N := ⟨3, by rw [show cfg0.N = 4 from N_0]; omega⟩

/-- After the last point the gain's gradient is whole. -/
theorem outs_dg (y : S1x1024.Idx) :
    (outsAt0 m c tlast.val tlast.isLt).2.2 y = dgain (m ((c : Thread nD τ).loc main_arg0)) (m ((c : Thread nD τ).loc main_arg1)) (m ((c : Thread nD τ).loc main_arg2)) y := by
  rw [Pipeline.eq_sum_fin_of_reset_step_apply_last (fun n h => (outsAt0 m c n h).2.2) 4 (fun _ => (0 : EReal))
    (fun t (y : S1x1024.Idx) => bgain (iblk m c 0 t) (iblk m c 1 t) (iblk m c 2 t) (y 1)) (outs_dg_first m c) (outs_dg_next m c)
    (le_of_eq N_0) tlast (show 4 = cfg0.N from N_0.symm) y, zero_add]
  idx_vars y
  rw [dgain_at]
  unfold bgain
  refine Eq.trans ?_ (Fin.sum_mul_add_fin 4 1024 (fun R : Fin 4096 => rprod (m ((c : Thread nD τ).loc main_arg0)) (m ((c : Thread nD τ).loc main_arg1)) R y1 * normed (rrow (m ((c : Thread nD τ).loc main_arg2)) R) y1) rfl)
  refine Finset.sum_congr rfl fun t _ => Finset.sum_congr rfl fun r _ => ?_
  rw [row_block]
  exact congrArg (· * _) (prod_block m c t r y1)

theorem final_dg : (dats m 0 c).arrAt 7 cfg0.N = dgain (m ((c : Thread nD τ).loc main_arg0)) (m ((c : Thread nD τ).loc main_arg1)) (m ((c : Thread nD τ).loc main_arg2)) := by
  refine (dats m 0 c).arrAt_eq_of_after_last 7 tlast (by decide +kernel) _ fun y => ?_
  blk_simp
  rw [after0_7]
  exact outs_dg m c y

end Cert.Kernel3Ideal.Norm

end
-- ==== Proof.Norm.QueryClaims.lean ====
/- The query projection's argument gradient and the norm before it: the claims. -/
module

public import proofs.«01_k».proof.Defs
public import proofs.«01_k».proof.Proof.Gen.Reference3Ideal.Run
public import proofs.«01_k».proof.Proof.Norm.QueryArray
public import proofs.«01_k».proof.Proof.Norm.Reference
public import Idealize.ShloMosaic.Adequacy

@[expose] public section

set_option maxRecDepth 16384

noncomputable section

namespace Cert.Reference3Ideal.Norm

open Idealize.ShloMosaic Idealize.ShloMosaic.TcCoe Cert.Reference3Ideal Cert.Reference3Ideal.Gen

/-- The product that the reference takes the gradient of the norm at. -/
def dh (a : FVec Ideal S4096x1024 .bf16) (b : FVec Ideal S1024x1024 .bf16) : FVec Ideal S4096x1024 .f32 :=
  Host.dotGeneral dot_S4096x1024_S1024x1024_S4096x1024_1_1_0_0_n_n none (extf .f32 a bitsLt_bf16_f32) (extf .f32 b bitsLt_bf16_f32)

variable (a : FVec Ideal S4096x1024 .bf16) (b : FVec Ideal S1024x1024 .bf16) (x : FVec Ideal S4096x1024 .f32) (g : FVec Ideal S1x1024 .f32) (dres : FVec Ideal S4096x1024 .f32)

theorem dh_at (R : Fin 4096) (j : Fin 1024) : dh a b (ix2 R j) = Cert.Kernel3Ideal.Norm.rprod a b R j := by
  rw [Cert.Kernel3Ideal.Norm.rprod_at]
  pointwise [dh]

theorem pre_eq (R : Fin 4096) : Cert.Norm.pre (dh a b) g R = Cert.Kernel3Ideal.Norm.rpre a b g R := by
  funext i
  exact congrArg (· * _) (dh_at a b R i)

theorem dx_eq : Cert.Norm.dx (dh a b) x g dres = Cert.Kernel3Ideal.Norm.dx a b x g dres := by
  funext y
  idx_vars y
  rw [Cert.Norm.dx_at, pre_eq, Cert.Norm.gradRef_eq]
  rfl

theorem dgain_eq : Cert.Norm.dgain (dh a b) x = Cert.Kernel3Ideal.Norm.dgain a b x := by
  funext y
  idx_vars y
  rw [Cert.Norm.dgain_at, Cert.Kernel3Ideal.Norm.dgain_at]
  refine Finset.sum_congr rfl fun R _ => ?_
  rw [dh_at, mul_comm]
  rfl

variable (m : (ℓ : Loc nD τ sig) → Buf (Elt Ideal) ℓ) (c : Dev nD)

theorem out0_eq : Value.res_out0 m c = Cert.Norm.dx (dh (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := rfl

theorem out1_eq : Value.res_out1 m c = Cert.Norm.dx (dh (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := rfl

end Cert.Reference3Ideal.Norm

namespace Cert.Norm.K3

open Idealize.ShloMosaic Idealize.ShloMosaic.TcCoe Idealize.SL.Sem

/-- The reference ends with its arguments unchanged; it declares no semaphore, so all read zero. -/
theorem frame_reference (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run _ _ _).mono (fun r h => ⟨fun c => (h c).2.2.2, sem_eq_zero_of_no_sems (by decide) r.2⟩) (Cert.Reference3Ideal.Value.run m ρ)

/-- The kernel's gradients are the reference's. -/
theorem algebraic : Cert.algebraic_Kernel3Ideal_Reference3Ideal
    (hKernel3Ideal := Cert.Kernel3Ideal.Gen.facts) (hReference3Ideal := Cert.Reference3Ideal.Gen.facts) := by
  intro m ρ m' ρ' _ hag
  refine ⟨fun c => (Cert.Kernel3Ideal.Gen.dats m 0 c).arrAt 5 Cert.Kernel3Ideal.cfg0.N, fun c => (Cert.Kernel3Ideal.Gen.dats m 0 c).arrAt 6 Cert.Kernel3Ideal.cfg0.N, fun c => (Cert.Kernel3Ideal.Gen.dats m 0 c).arrAt 7 Cert.Kernel3Ideal.cfg0.N,
    Cert.Kernel3Ideal.Value.run_blocks m ρ, (θ_run _ _ _).mono (fun r h c => ?_) (Cert.Reference3Ideal.Value.run m' ρ')⟩
  obtain ⟨h0, h1, h2, hargs⟩ := h c
  obtain ⟨a0, a1, a2, a3, a4⟩ := hag c
  refine ⟨h0.trans ?_, h1.trans ?_, h2.trans ?_, hargs⟩
  · refine (Cert.Reference3Ideal.Norm.out0_eq m' c).trans ?_
    rw [a0, a1, a2, a3, a4]
    exact (Cert.Reference3Ideal.Norm.dx_eq _ _ _ _ _).trans (Cert.Kernel3Ideal.Norm.final_dx m c).symm
  · refine (Cert.Reference3Ideal.Norm.out1_eq m' c).trans ?_
    rw [a0, a1, a2, a3, a4]
    exact (Cert.Reference3Ideal.Norm.dx_eq _ _ _ _ _).trans (Cert.Kernel3Ideal.Norm.final_dxb m c).symm
  · rw [a0, a1, a2]
    exact (Cert.Reference3Ideal.Norm.dgain_eq _ _ _).trans (Cert.Kernel3Ideal.Norm.final_dg m c).symm

end Cert.Norm.K3

end
-- ==== Proof.Norm.InBlock.lean ====
/- The mixer projection's argument gradient and the norm before it: what one grid point of the call leaves. -/
module

public import proofs.«01_k».proof.Proof.Gen.Kernel4Ideal.Value
public import proofs.«01_k».proof.Proof.Norm.Maths
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel4Ideal.Norm

open Idealize.ShloMosaic Cert.Kernel4Ideal Cert.Kernel4Ideal.Gen Cert.Norm

variable (a : Vec Ideal S1024x1536 .bf16) (b : Vec Ideal S1024x1536 .bf16) (x : Vec Ideal S1024x1024 .f32) (g : Vec Ideal S1x1024 .f32) (dres : Vec Ideal S1024x1024 .f32) (acc : Vec Ideal S1x1024 .f32)
  (r : Fin 1024) (j : Fin 1024) (z : Fin 1)

/-- Row `r` of a block. -/
def brow : Row := fun i => x (ix2 r i)

theorem brow_at : brow x r j = x (ix2 r j) := rfl

/-- The product of a block's row `r`. -/
def bprod : Row := fun j => ∑ k : Fin 1536, a (ix2 r k) * b (ix2 j k)

theorem bprod_at : bprod a b r j = ∑ k : Fin 1536, a (ix2 r k) * b (ix2 j k) := rfl

/-- The gradient of the normed row `r`. -/
def bpre : Row := fun i => bprod a b r i * g (ix2 0 i)

theorem bpre_at : bpre a b g r j = bprod a b r j * g (ix2 0 j) := rfl

theorem pay2_at : k0_pay2 a b (ix2 r j) = bprod a b r j := by
  pointwise [k0_pay2, bprod_at]

theorem pay4_at : k0_pay4 x (ix2 r z) = rinv (brow x r) := by
  pointwise [k0_pay4, rinv, square, brow_at, len, eps]

theorem pay5_at : k0_pay5 x (ix2 r j) = normed (brow x r) j := by
  pointwise [k0_pay5, normed, pay4_at, brow_at]

theorem pay6_at : k0_pay6 a b x g dres (ix2 r j) = grad (brow x r) (bpre a b g r) j + dres (ix2 r j) := by
  pointwise [k0_pay6, grad, pay2_at, pay4_at, pay5_at, bpre_at, len]

/-- What a point adds to the gain's gradient. -/
def bgain : EReal := ∑ r : Fin 1024, bprod a b r j * normed (brow x r) j

theorem pay1_at : k0_pay1 (k0_pay2 a b) (k0_pay5 x) acc (ix2 z j) = acc (ix2 z j) + bgain a b x j := by
  pointwise [k0_pay1, bgain, pay2_at, pay5_at]

theorem zeros_at : k0_pay3 (F := Ideal) (ix2 z j) = 0 := by
  pointwise [k0_pay3]

theorem pay7_at : k0_pay7 acc (ix2 z j) = acc (ix2 z j) := by
  pointwise [k0_pay7]

/-! ## The point's outputs -/

variable (c : Dev nD) (i : grid0.Coords) (arg1 : Memref sig .tc .vmem S1024x1536 .bf16) (harg1 : arg1.IsWhole) (arg2 : Memref sig .tc .vmem S1024x1536 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg7 : Memref sig .tc .vmem S1024x1024 .f32) (harg7 : arg7.IsWhole) (arg8 : Memref sig .tc .vmem S1x1024 .f32) (harg8 : arg8.IsWhole)

theorem outA_dx (hc0 : cond0_0 i) :
    out0_A_5 c i arg1 harg1 arg2 harg2 arg3 harg3 arg4 harg4 arg5 harg5 arg7 harg7 arg8 harg8 hc0 a b x g dres (ix2 r j) = grad (brow x r) (bpre a b g r) j + dres (ix2 r j) := by
  frame_open
  simp (disch := decide) only [↓ View.readCov_skip, ↓ View.readCov_cons_toLoadRect, ↓ View.readCov_fill]
  frame_out
  exact pay6_at ..

theorem outA_dg (hc0 : cond0_0 i) :
    out0_A_6 c i arg1 harg1 arg2 harg2 arg3 harg3 arg4 harg4 arg5 harg5 arg7 harg7 arg8 harg8 hc0 a b x g dres (ix2 z j) = bgain a b x j := by
  frame_open
  simp (disch := decide) only [↓ View.readCov_skip, ↓ View.readCov_cons_toLoadRect, ↓ View.readCov_fill]
  frame_out
  rw [pay1_at, pay7_at, zeros_at, zero_add]

theorem outB_dx (hc0 : ¬cond0_0 i) :
    out0_B_5 c i arg1 harg1 arg2 harg2 arg3 harg3 arg4 harg4 arg5 harg5 arg7 harg7 arg8 harg8 hc0 a b x g dres acc (ix2 r j) = grad (brow x r) (bpre a b g r) j + dres (ix2 r j) := by
  frame_open
  simp (disch := decide) only [↓ View.readCov_skip, ↓ View.readCov_cons_toLoadRect, ↓ View.readCov_fill]
  frame_out
  exact pay6_at ..

theorem outB_dg (hc0 : ¬cond0_0 i) :
    out0_B_6 c i arg1 harg1 arg2 harg2 arg3 harg3 arg4 harg4 arg5 harg5 arg7 harg7 arg8 harg8 hc0 a b x g dres acc (ix2 z j) = acc (ix2 z j) + bgain a b x j := by
  frame_open
  simp (disch := decide) only [↓ View.readCov_skip, ↓ View.readCov_cons_toLoadRect, ↓ View.readCov_fill]
  frame_out
  rw [pay1_at, pay7_at]

end Cert.Kernel4Ideal.Norm

end
-- ==== Proof.Norm.InArray.lean ====
/- The mixer projection's argument gradient and the norm before it: the arrays the call leaves. -/
module

public import proofs.«01_k».proof.Proof.Norm.InBlock

@[expose] public section

set_option maxRecDepth 16384

noncomputable section

namespace Cert.Kernel4Ideal.Norm

open Idealize.ShloMosaic Idealize.ShloMosaic.TcCoe Cert.Kernel4Ideal Cert.Kernel4Ideal.Gen Cert.Kernel4Ideal.Value Cert.Norm

/-- Row `R` of the product. -/
def rprod (a : FVec Ideal S4096x1536 .bf16) (b : FVec Ideal S1024x1536 .bf16) (R : Fin 4096) : Row := fun j => ∑ k : Fin 1536, a (ix2 R k) * b (ix2 j k)

theorem rprod_at (a : FVec Ideal S4096x1536 .bf16) (b : FVec Ideal S1024x1536 .bf16) (R : Fin 4096) (j : Fin 1024) : rprod a b R j = ∑ k : Fin 1536, a (ix2 R k) * b (ix2 j k) := rfl

/-- Row `R` of an array. -/
def rrow (x : FVec Ideal S4096x1024 .f32) (R : Fin 4096) : Row := fun i => x (ix2 R i)

/-- The gradient of the normed row `R`. -/
def rpre (a : FVec Ideal S4096x1536 .bf16) (b : FVec Ideal S1024x1536 .bf16) (g : FVec Ideal S1x1024 .f32) (R : Fin 4096) : Row := fun i => rprod a b R i * g (ix2 0 i)

/-- The rows' gradient. -/
def dx (a : FVec Ideal S4096x1536 .bf16) (b : FVec Ideal S1024x1536 .bf16) (x : FVec Ideal S4096x1024 .f32) (g : FVec Ideal S1x1024 .f32) (dres : FVec Ideal S4096x1024 .f32) : FVec Ideal S4096x1024 .f32 :=
  fun y => grad (rrow x (y 0)) (rpre a b g (y 0)) (y 1) + dres y

theorem dx_at (a : FVec Ideal S4096x1536 .bf16) (b : FVec Ideal S1024x1536 .bf16) (x : FVec Ideal S4096x1024 .f32) (g : FVec Ideal S1x1024 .f32) (dres : FVec Ideal S4096x1024 .f32) (R : Fin 4096) (j : Fin 1024) :
    dx a b x g dres (ix2 R j) = grad (rrow x R) (rpre a b g R) j + dres (ix2 R j) := rfl

/-- The gain's gradient. -/
def dgain (a : FVec Ideal S4096x1536 .bf16) (b : FVec Ideal S1024x1536 .bf16) (x : FVec Ideal S4096x1024 .f32) : FVec Ideal S1x1024 .f32 :=
  fun y => ∑ R : Fin 4096, rprod a b R (y 1) * normed (rrow x R) (y 1)

theorem dgain_at (a : FVec Ideal S4096x1536 .bf16) (b : FVec Ideal S1024x1536 .bf16) (x : FVec Ideal S4096x1024 .f32) (z : Fin 1) (j : Fin 1024) :
    dgain a b x (ix2 z j) = ∑ R : Fin 4096, rprod a b R j * normed (rrow x R) j := rfl

variable (m : (ℓ : Loc nD τ sig) → Buf (Elt Ideal) ℓ) (c : Dev nD)

/-- Where each point's blocks lie. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem lt4 (t : Fin cfg0.N) : t.val < 4 := lt_of_lt_of_eq t.isLt (show cfg0.N = 4 from N_0)

theorem prod_block (t : Fin cfg0.N) (r : Fin 1024) (j : Fin 1024) :
    bprod (iblk m c 0 t) (iblk m c 1 t) r j = rprod (m ((c : Thread nD τ).loc main_arg0)) (m ((c : Thread nD τ).loc main_arg1)) ⟨t.val * 1024 + r, by have := lt4 t; omega⟩ j := by
  rw [bprod_at, rprod_at]
  skip
  all_goals
    refine Finset.sum_congr rfl fun k _ => ?_
    congr 1 <;> blk_ext [iblk, V, idx t]

theorem row_block (t : Fin cfg0.N) (r : Fin 1024) :
    brow (iblk m c 2 t) r = rrow (m ((c : Thread nD τ).loc main_arg2)) ⟨t.val * 1024 + r, by have := lt4 t; omega⟩ := by
  funext i
  show (iblk m c 2 t : Vec Ideal S1024x1024 .f32) (ix2 r i) = (m ((c : Thread nD τ).loc main_arg2)) (ix2 ⟨t.val * 1024 + r, by have := lt4 t; omega⟩ i)
  blk_ext [iblk, V, idx t]

theorem gain_block (t : Fin cfg0.N) (j : Fin 1024) :
    (iblk m c 3 t : Vec Ideal S1x1024 .f32) (ix2 0 j) = (m ((c : Thread nD τ).loc main_arg3)) (ix2 0 j) := by
  blk_ext [iblk, V, idx t]

theorem res_block (t : Fin cfg0.N) (r : Fin 1024) (j : Fin 1024) :
    (iblk m c 4 t : Vec Ideal S1024x1024 .f32) (ix2 r j) = (m ((c : Thread nD τ).loc main_arg4)) (ix2 ⟨t.val * 1024 + r, by have := lt4 t; omega⟩ j) := by
  blk_ext [iblk, V, idx t]

theorem pre_block (t : Fin cfg0.N) (r : Fin 1024) :
    bpre (iblk m c 0 t) (iblk m c 1 t) (iblk m c 3 t) r = rpre (m ((c : Thread nD τ).loc main_arg0)) (m ((c : Thread nD τ).loc main_arg1)) (m ((c : Thread nD τ).loc main_arg3)) ⟨t.val * 1024 + r, by have := lt4 t; omega⟩ := by
  funext i
  exact congrArg₂ (· * ·) (prod_block m c t r i) (gain_block m c t i)

/-- Point `t` leaves its rows of the gradient. -/
theorem outs_dx (t : Fin cfg0.N) (r : Fin 1024) (j : Fin 1024) :
    (outsAt0 m c t.val t.isLt).1 (ix2 r j) = grad (brow (iblk m c 2 t) r) (bpre (iblk m c 0 t) (iblk m c 1 t) (iblk m c 3 t) r) j + (iblk m c 4 t : Vec Ideal S1024x1024 .f32) (ix2 r j) := by
  by_cases h0 : t.val % 4 = 0
  · rw [outsAt0_A m c t h0]
    dsimp only
    apply outA_dx
  · rw [outsAt0_B m c t h0]
    dsimp only
    apply outB_dx

theorem final_dx : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (outs_dx m c t y0 y1).trans ?_
  rw [row_block, pre_block, res_block, ← dx_at]
  blk_ext [idx t]

theorem outs_dg_first (t : Fin cfg0.N) (h0 : t.val % 4 = 0) (y : S1x1024.Idx) :
    (outsAt0 m c t.val t.isLt).2 y = 0 + bgain (iblk m c 0 t) (iblk m c 1 t) (iblk m c 2 t) (y 1) := by
  idx_vars y
  rw [outsAt0_A m c t h0, zero_add]
  dsimp only
  apply outA_dg

theorem outs_dg_next (t : Fin cfg0.N) (h0 : ¬t.val % 4 = 0) (y : S1x1024.Idx) :
    (outsAt0 m c t.val t.isLt).2 y = (outsAt0 m c (t.val - 1) (Nat.lt_of_le_of_lt (Nat.sub_le _ _) t.isLt)).2 y + bgain (iblk m c 0 t) (iblk m c 1 t) (iblk m c 2 t) (y 1) := by
  idx_vars y
  rw [outsAt0_B m c t h0]
  dsimp only
  apply outB_dg

/-- The last point. -/
def tlast : Fin cfg0.N := ⟨3, by rw [show cfg0.N = 4 from N_0]; omega⟩

/-- After the last point the gain's gradient is whole. -/
theorem outs_dg (y : S1x1024.Idx) :
    (outsAt0 m c tlast.val tlast.isLt).2 y = dgain (m ((c : Thread nD τ).loc main_arg0)) (m ((c : Thread nD τ).loc main_arg1)) (m ((c : Thread nD τ).loc main_arg2)) y := by
  rw [Pipeline.eq_sum_fin_of_reset_step_apply_last (fun n h => (outsAt0 m c n h).2) 4 (fun _ => (0 : EReal))
    (fun t (y : S1x1024.Idx) => bgain (iblk m c 0 t) (iblk m c 1 t) (iblk m c 2 t) (y 1)) (outs_dg_first m c) (outs_dg_next m c)
    (le_of_eq N_0) tlast (show 4 = cfg0.N from N_0.symm) y, zero_add]
  idx_vars y
  rw [dgain_at]
  unfold bgain
  refine Eq.trans ?_ (Fin.sum_mul_add_fin 4 1024 (fun R : Fin 4096 => rprod (m ((c : Thread nD τ).loc main_arg0)) (m ((c : Thread nD τ).loc main_arg1)) R y1 * normed (rrow (m ((c : Thread nD τ).loc main_arg2)) R) y1) rfl)
  refine Finset.sum_congr rfl fun t _ => Finset.sum_congr rfl fun r _ => ?_
  rw [row_block]
  exact congrArg (· * _) (prod_block m c t r y1)

theorem final_dg : (dats m 0 c).arrAt 6 cfg0.N = dgain (m ((c : Thread nD τ).loc main_arg0)) (m ((c : Thread nD τ).loc main_arg1)) (m ((c : Thread nD τ).loc main_arg2)) := by
  refine (dats m 0 c).arrAt_eq_of_after_last 6 tlast (by decide +kernel) _ fun y => ?_
  blk_simp
  rw [after0_6]
  exact outs_dg m c y

end Cert.Kernel4Ideal.Norm

end
-- ==== Proof.Norm.InClaims.lean ====
/- The mixer projection's argument gradient and the norm before it: the claims. -/
module

public import proofs.«01_k».proof.Defs
public import proofs.«01_k».proof.Proof.Gen.Reference4Ideal.Run
public import proofs.«01_k».proof.Proof.Norm.InArray
public import proofs.«01_k».proof.Proof.Norm.Reference
public import Idealize.ShloMosaic.Adequacy

@[expose] public section

set_option maxRecDepth 16384

noncomputable section

namespace Cert.Reference4Ideal.Norm

open Idealize.ShloMosaic Idealize.ShloMosaic.TcCoe Cert.Reference4Ideal Cert.Reference4Ideal.Gen

/-- The product that the reference takes the gradient of the norm at. -/
def dh (a : FVec Ideal S4096x1536 .bf16) (b : FVec Ideal S1024x1536 .bf16) : FVec Ideal S4096x1024 .f32 :=
  Host.dotGeneral dot_S4096x1536_S1024x1536_S4096x1024_1_1_0_0_n_n none (extf .f32 a bitsLt_bf16_f32) (extf .f32 b bitsLt_bf16_f32)

variable (a : FVec Ideal S4096x1536 .bf16) (b : FVec Ideal S1024x1536 .bf16) (x : FVec Ideal S4096x1024 .f32) (g : FVec Ideal S1x1024 .f32) (dres : FVec Ideal S4096x1024 .f32)

theorem dh_at (R : Fin 4096) (j : Fin 1024) : dh a b (ix2 R j) = Cert.Kernel4Ideal.Norm.rprod a b R j := by
  rw [Cert.Kernel4Ideal.Norm.rprod_at]
  pointwise [dh]

theorem pre_eq (R : Fin 4096) : Cert.Norm.pre (dh a b) g R = Cert.Kernel4Ideal.Norm.rpre a b g R := by
  funext i
  exact congrArg (· * _) (dh_at a b R i)

theorem dx_eq : Cert.Norm.dx (dh a b) x g dres = Cert.Kernel4Ideal.Norm.dx a b x g dres := by
  funext y
  idx_vars y
  rw [Cert.Norm.dx_at, pre_eq, Cert.Norm.gradRef_eq]
  rfl

theorem dgain_eq : Cert.Norm.dgain (dh a b) x = Cert.Kernel4Ideal.Norm.dgain a b x := by
  funext y
  idx_vars y
  rw [Cert.Norm.dgain_at, Cert.Kernel4Ideal.Norm.dgain_at]
  refine Finset.sum_congr rfl fun R _ => ?_
  rw [dh_at, mul_comm]
  rfl

variable (m : (ℓ : Loc nD τ sig) → Buf (Elt Ideal) ℓ) (c : Dev nD)

theorem out0_eq : Value.res_out0 m c = Cert.Norm.dx (dh (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := rfl

end Cert.Reference4Ideal.Norm

namespace Cert.Norm.K4

open Idealize.ShloMosaic Idealize.ShloMosaic.TcCoe Idealize.SL.Sem

/-- The reference ends with its arguments unchanged; it declares no semaphore, so all read zero. -/
theorem frame_reference (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0) :=
  (θ_run _ _ _).mono (fun r h => ⟨fun c => (h c).2.2, sem_eq_zero_of_no_sems (by decide) r.2⟩) (Cert.Reference4Ideal.Value.run m ρ)

/-- The kernel's gradients are the reference's. -/
theorem algebraic : Cert.algebraic_Kernel4Ideal_Reference4Ideal
    (hKernel4Ideal := Cert.Kernel4Ideal.Gen.facts) (hReference4Ideal := Cert.Reference4Ideal.Gen.facts) := by
  intro m ρ m' ρ' _ hag
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    Cert.Kernel4Ideal.Value.run_blocks m ρ, (θ_run _ _ _).mono (fun r h c => ?_) (Cert.Reference4Ideal.Value.run m' ρ')⟩
  obtain ⟨h0, h2, hargs⟩ := h c
  obtain ⟨a0, a1, a2, a3, a4, a5⟩ := hag c
  refine ⟨h0.trans ?_, h2.trans ?_, hargs⟩
  · refine (Cert.Reference4Ideal.Norm.out0_eq m' c).trans ?_
    rw [a0, a1, a2, a3, a4]
    exact (Cert.Reference4Ideal.Norm.dx_eq _ _ _ _ _).trans (Cert.Kernel4Ideal.Norm.final_dx m c).symm
  · rw [a0, a1, a2]
    exact (Cert.Reference4Ideal.Norm.dgain_eq _ _ _).trans (Cert.Kernel4Ideal.Norm.final_dg m c).symm

end Cert.Norm.K4

end
-- ==== Proof.Products.WeightUp.lean ====
/- The gradient of the up-projection's weight, in the pieces it is exchanged in. -/
module

public import proofs.«01_k».proof.Defs
public import proofs.«01_k».proof.Proof.Gen.Kernel5Ideal.Value
public import proofs.«01_k».proof.Proof.Gen.Reference5Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel5Ideal.Product

open Idealize.ShloMosaic Idealize.ShloMosaic.TcCoe Cert.Kernel5Ideal Cert.Kernel5Ideal.Gen Cert.Kernel5Ideal.Value

/-- The product, entry by entry. -/
def prod (a : FVec Ideal S4096x1024 .bf16) (b : FVec Ideal S2x4096x2816 .bf16) : FVec Ideal S8x512x1408 .bf16 :=
  fun x => ∑ k : Fin 4096, a (ix2 k ⟨(x 0).val % 2 * 512 + (x 1).val, by have h1 : (x 1).val < 512 := (x 1).isLt; omega⟩)
    * b (ix3 ⟨(x 0).val / 4, by have h0 : (x 0).val < 8 := (x 0).isLt; omega⟩ k ⟨(x 0).val / 2 % 2 * 1408 + (x 2).val, by have h2 : (x 2).val < 1408 := (x 2).isLt; omega⟩)

variable (m : (ℓ : Loc nD τ sig) → Buf (Elt Ideal) ℓ) (c : Dev nD)

/-- The block every point of the grid reads and writes. -/
theorem idx : ∀ t : Fin cfg0.N, win0_0.index t = ![0, t.val / 4] ∧ win0_1.index t = ![t.val % 4 / 2, 0, t.val % 2] ∧ win0_2.index t = ![t.val % 4 * 2 + t.val / 4, 0, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]
  have e : (t.val % 4 * 2 + t.val / 4) / 2 = t.val % 4 := by omega
  rw [e]
  omega

end Cert.Kernel5Ideal.Product

namespace Cert.Reference5Ideal.Product

open Idealize.ShloMosaic Idealize.ShloMosaic.TcCoe Cert.Reference5Ideal Cert.Reference5Ideal.Gen

/-- The reference's term is the product. -/
theorem term_eq (a : FVec Ideal S4096x1024 .bf16) (b : FVec Ideal S2x4096x2816 .bf16) :
    truncf .bf16 (shapeCast S8x512x1408 (transpose S4x2x512x1408 [2, 0, 1, 3] (shapeCast S2x512x4x1408 (transpose S1024x5632 [1, 0] (Host.dotGeneral dot_S4096x5632_S4096x1024_S5632x1024_0_0_1_1_n_n none (concatenate S4096x5632 1 [⟨S4096x2816, (shapeCast S4096x2816 (extractStridedSlice S1x4096x2816 ![0, 0, 0] (extf .f32 b bitsLt_bf16_f32) slices_S2x4096x2816_S1x4096x2816_0_0_0) shapeCasts_S1x4096x2816_S4096x2816)⟩, ⟨S4096x2816, (shapeCast S4096x2816 (extractStridedSlice S1x4096x2816 ![1, 0, 0] (extf .f32 b bitsLt_bf16_f32) slices_S2x4096x2816_S1x4096x2816_1_0_0) shapeCasts_S1x4096x2816_S4096x2816)⟩] concatenates_S4096x2816_S4096x2816_S4096x5632_d1) (extf .f32 a bitsLt_bf16_f32)) transposes_S5632x1024_S1024x5632_1_0) shapeCasts_S1024x5632_S2x512x4x1408) transposes_S2x512x4x1408_S4x2x512x1408_2_0_1_3) shapeCasts_S4x2x512x1408_S8x512x1408) bitsLt_bf16_f32
      = Cert.Kernel5Ideal.Product.prod a b := by
  funext x
  idx_vars x
  have h0 := x0.isLt
  have h2 := x2.isLt
  pointwise [Cert.Kernel5Ideal.Product.prod]
  refine Finset.sum_congr rfl fun k _ => (mul_comm _ _).trans (congrArg (a (ix2 k _) * ·) ?_)
  split
  · exact congrArg b (congrArg₂ (fun i j => ix3 i k j) (Fin.ext (show 0 = x0.val / 4 by omega)) (Fin.ext (by dsimp only; omega)))
  · exact congrArg b (congrArg₂ (fun i j => ix3 i k j) (Fin.ext (show 1 = x0.val / 4 by omega)) (Fin.ext (by dsimp only; omega)))

end Cert.Reference5Ideal.Product

namespace Cert.Products.K5

open Idealize.ShloMosaic Idealize.SL.Sem

/-- The reference ends with its arguments unchanged; it declares no semaphore, so all read zero. -/
theorem frame_reference (m : (ℓ : Loc Cert.Reference5Ideal.nD Cert.Reference5Ideal.τ Cert.Reference5Ideal.sig) → Buf (Elt Ideal) ℓ)
    (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0) :=
  (θ_run _ _ _).mono (fun r h => ⟨fun c => (h c).2, sem_eq_zero_of_no_sems (by decide) r.2⟩) (Cert.Reference5Ideal.Value.run m ρ)

/-- The kernel's product is the reference's. -/
theorem algebraic : Cert.algebraic_Kernel5Ideal_Reference5Ideal
    (hKernel5Ideal := Cert.Kernel5Ideal.Gen.facts) (hReference5Ideal := Cert.Reference5Ideal.Gen.facts) := by
  intro m ρ m' ρ' _ hag
  refine ⟨fun c => (Cert.Kernel5Ideal.Gen.dats m 0 c).arrAt 2 Cert.Kernel5Ideal.cfg0.N,
    Cert.Kernel5Ideal.Value.run_blocks m ρ, (θ_run _ _ _).mono (fun r h c => ?_) (Cert.Reference5Ideal.Value.run m' ρ')⟩
  obtain ⟨h0, hargs⟩ := h c
  obtain ⟨a0, a1⟩ := hag c
  refine ⟨h0.trans ?_, hargs⟩
  rw [a0, a1]
  exact (Cert.Reference5Ideal.Product.term_eq _ _).trans (Cert.Kernel5Ideal.Product.final m c).symm

end Cert.Products.K5

end
-- ==== Proof.Products.Act.lean ====
/- The gradient of the down-projection's argument: the rows' gradients times the transposed weight. -/
module

public import proofs.«01_k».proof.Defs
public import proofs.«01_k».proof.Proof.Gen.Kernel6Ideal.Value
public import proofs.«01_k».proof.Proof.Gen.Reference6Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel6Ideal.Product

open Idealize.ShloMosaic Idealize.ShloMosaic.TcCoe Cert.Kernel6Ideal Cert.Kernel6Ideal.Gen Cert.Kernel6Ideal.Value

/-- The product, entry by entry. -/
def prod (a : FVec Ideal S4096x1024 .bf16) (b : FVec Ideal S2816x1024 .bf16) : FVec Ideal S4096x2816 .bf16 :=
  fun x => ∑ k : Fin 1024, a (ix2 (x 0) k) * b (ix2 (x 1) k)

variable (m : (ℓ : Loc nD τ sig) → Buf (Elt Ideal) ℓ) (c : Dev nD)

/-- The block every point of the grid reads and writes. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel6Ideal.Product

namespace Cert.Reference6Ideal.Product

open Idealize.ShloMosaic Idealize.ShloMosaic.TcCoe Cert.Reference6Ideal Cert.Reference6Ideal.Gen

/-- The reference's term is the product. -/
theorem term_eq (a : FVec Ideal S4096x1024 .bf16) (b : FVec Ideal S2816x1024 .bf16) :
    truncf .bf16 (Host.dotGeneral dot_S4096x1024_S2816x1024_S4096x2816_1_1_0_0_n_n none (extf .f32 a bitsLt_bf16_f32) (extf .f32 b bitsLt_bf16_f32)) bitsLt_bf16_f32
      = Cert.Kernel6Ideal.Product.prod a b := by
  funext x
  idx_vars x
  pointwise [Cert.Kernel6Ideal.Product.prod]

end Cert.Reference6Ideal.Product

namespace Cert.Products.K6

open Idealize.ShloMosaic Idealize.SL.Sem

/-- The reference ends with its arguments unchanged; it declares no semaphore, so all read zero. -/
theorem frame_reference (m : (ℓ : Loc Cert.Reference6Ideal.nD Cert.Reference6Ideal.τ Cert.Reference6Ideal.sig) → Buf (Elt Ideal) ℓ)
    (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run _ _ _).mono (fun r h => ⟨fun c => (h c).2, sem_eq_zero_of_no_sems (by decide) r.2⟩) (Cert.Reference6Ideal.Value.run m ρ)

/-- The kernel's product is the reference's. -/
theorem algebraic : Cert.algebraic_Kernel6Ideal_Reference6Ideal
    (hKernel6Ideal := Cert.Kernel6Ideal.Gen.facts) (hReference6Ideal := Cert.Reference6Ideal.Gen.facts) := by
  intro m ρ m' ρ' _ hag
  refine ⟨fun c => (Cert.Kernel6Ideal.Gen.dats m 0 c).arrAt 2 Cert.Kernel6Ideal.cfg0.N,
    Cert.Kernel6Ideal.Value.run_blocks m ρ, (θ_run _ _ _).mono (fun r h c => ?_) (Cert.Reference6Ideal.Value.run m' ρ')⟩
  obtain ⟨h0, hargs⟩ := h c
  obtain ⟨a0, a1⟩ := hag c
  refine ⟨h0.trans ?_, hargs⟩
  rw [a0, a1]
  exact (Cert.Reference6Ideal.Product.term_eq _ _).trans (Cert.Kernel6Ideal.Product.final m c).symm

end Cert.Products.K6

end
-- ==== Proof.Products.WeightDown.lean ====
/- The gradient of the down-projection's weight: the transposed argument times the rows' gradients. -/
module

public import proofs.«01_k».proof.Defs
public import proofs.«01_k».proof.Proof.Gen.Kernel7Ideal.Value
public import proofs.«01_k».proof.Proof.Gen.Reference7Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel7Ideal.Product

open Idealize.ShloMosaic Idealize.ShloMosaic.TcCoe Cert.Kernel7Ideal Cert.Kernel7Ideal.Gen Cert.Kernel7Ideal.Value

/-- The product, entry by entry. -/
def prod (a : FVec Ideal S4096x2816 .bf16) (b : FVec Ideal S4096x1024 .bf16) : FVec Ideal S2816x1024 .bf16 :=
  fun x => ∑ k : Fin 4096, a (ix2 k (x 0)) * b (ix2 k (x 1))

variable (m : (ℓ : Loc nD τ sig) → Buf (Elt Ideal) ℓ) (c : Dev nD)

/-- The block every point of the grid reads and writes. -/
theorem idx : ∀ t : Fin cfg0.N, win0_0.index t = ![0, t.val / 2] ∧ win0_1.index t = ![0, t.val % 2] ∧ win0_2.index t = ![t.val / 2, t.val % 2] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel7Ideal.Product

namespace Cert.Reference7Ideal.Product

open Idealize.ShloMosaic Idealize.ShloMosaic.TcCoe Cert.Reference7Ideal Cert.Reference7Ideal.Gen

/-- The reference's term is the product. -/
theorem term_eq (a : FVec Ideal S4096x2816 .bf16) (b : FVec Ideal S4096x1024 .bf16) :
    truncf .bf16 (transpose S2816x1024 [1, 0] (Host.dotGeneral dot_S4096x1024_S4096x2816_S1024x2816_0_0_1_1_n_n none (extf .f32 b bitsLt_bf16_f32) (extf .f32 a bitsLt_bf16_f32)) transposes_S1024x2816_S2816x1024_1_0) bitsLt_bf16_f32
      = Cert.Kernel7Ideal.Product.prod a b := by
  funext x
  idx_vars x
  pointwise [Cert.Kernel7Ideal.Product.prod]
  refine Finset.sum_congr rfl fun k _ => ?_
  exact mul_comm _ _

end Cert.Reference7Ideal.Product

namespace Cert.Products.K7

open Idealize.ShloMosaic Idealize.SL.Sem

/-- The reference ends with its arguments unchanged; it declares no semaphore, so all read zero. -/
theorem frame_reference (m : (ℓ : Loc Cert.Reference7Ideal.nD Cert.Reference7Ideal.τ Cert.Reference7Ideal.sig) → Buf (Elt Ideal) ℓ)
    (ρ : Dev Cert.Reference7Ideal.nD → PrngReg) :
    θ_run (Cert.Reference7Ideal.defs (F := Ideal)) (onTc (τ := Cert.Reference7Ideal.τ) (Cert.Reference7Ideal.main (F := Ideal))) ⟨m, fun _ => 0, ρ⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0) :=
  (θ_run _ _ _).mono (fun r h => ⟨fun c => (h c).2, sem_eq_zero_of_no_sems (by decide) r.2⟩) (Cert.Reference7Ideal.Value.run m ρ)

/-- The kernel's product is the reference's. -/
theorem algebraic : Cert.algebraic_Kernel7Ideal_Reference7Ideal
    (hKernel7Ideal := Cert.Kernel7Ideal.Gen.facts) (hReference7Ideal := Cert.Reference7Ideal.Gen.facts) := by
  intro m ρ m' ρ' _ hag
  refine ⟨fun c => (Cert.Kernel7Ideal.Gen.dats m 0 c).arrAt 2 Cert.Kernel7Ideal.cfg0.N,
    Cert.Kernel7Ideal.Value.run_blocks m ρ, (θ_run _ _ _).mono (fun r h c => ?_) (Cert.Reference7Ideal.Value.run m' ρ')⟩
  obtain ⟨h0, hargs⟩ := h c
  obtain ⟨a0, a1⟩ := hag c
  refine ⟨h0.trans ?_, hargs⟩
  rw [a0, a1]
  exact (Cert.Reference7Ideal.Product.term_eq _ _).trans (Cert.Kernel7Ideal.Product.final m c).symm

end Cert.Products.K7

end
-- ==== Proof.Products.Up.lean ====
/- The up-projection: the rows times the weight, its two halves one after the other. -/
module

public import proofs.«01_k».proof.Defs
public import proofs.«01_k».proof.Proof.Gen.Kernel8Ideal.Value
public import proofs.«01_k».proof.Proof.Gen.Reference8Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel8Ideal.Product

open Idealize.ShloMosaic Idealize.ShloMosaic.TcCoe Cert.Kernel8Ideal Cert.Kernel8Ideal.Gen Cert.Kernel8Ideal.Value

/-- The product, entry by entry. -/
def prod (a : FVec Ideal S4096x1024 .bf16) (b : FVec Ideal S1024x5632 .bf16) : FVec Ideal S2x4096x2816 .bf16 :=
  fun x => ∑ k : Fin 1024, a (ix2 (x 1) k) * b (ix2 k ⟨(x 0).val * 2816 + (x 2).val, by have h0 : (x 0).val < 2 := (x 0).isLt; have h2 : (x 2).val < 2816 := (x 2).isLt; omega⟩)

variable (m : (ℓ : Loc nD τ sig) → Buf (Elt Ideal) ℓ) (c : Dev nD)

/-- The block every point of the grid reads and writes. -/
theorem idx : ∀ t : Fin cfg0.N, win0_0.index t = ![t.val % 4, 0] ∧ win0_1.index t = ![0, t.val / 4] ∧ win0_2.index t = ![t.val / 4, t.val % 4, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel8Ideal.Product

namespace Cert.Reference8Ideal.Product

open Idealize.ShloMosaic Idealize.ShloMosaic.TcCoe Cert.Reference8Ideal Cert.Reference8Ideal.Gen

/-- The reference's term is the product. -/
theorem term_eq (a : FVec Ideal S4096x1024 .bf16) (b : FVec Ideal S1024x5632 .bf16) :
    truncf .bf16 (concatenate S2x4096x2816 0 [⟨S1x4096x2816, (broadcastInDim S1x4096x2816 ![1, 2] bcast_S4096x2816_S1x4096x2816_1_2 (extractStridedSlice S4096x2816 ![0, 0] (Host.dotGeneral dot_S4096x1024_S1024x5632_S4096x5632_1_0_0_1_n_n none (extf .f32 a bitsLt_bf16_f32) (extf .f32 b bitsLt_bf16_f32)) slices_S4096x5632_S4096x2816_0_0))⟩, ⟨S1x4096x2816, (broadcastInDim S1x4096x2816 ![1, 2] bcast_S4096x2816_S1x4096x2816_1_2 (extractStridedSlice S4096x2816 ![0, 2816] (Host.dotGeneral dot_S4096x1024_S1024x5632_S4096x5632_1_0_0_1_n_n none (extf .f32 a bitsLt_bf16_f32) (extf .f32 b bitsLt_bf16_f32)) slices_S4096x5632_S4096x2816_0_2816))⟩] concatenates_S1x4096x2816_S1x4096x2816_S2x4096x2816_d0) bitsLt_bf16_f32
      = Cert.Kernel8Ideal.Product.prod a b := by
  funext x
  idx_vars x
  pointwise [Cert.Kernel8Ideal.Product.prod]
  split <;> refine Finset.sum_congr rfl fun k _ => congrArg (a (ix2 x1 k) * ·) (congrArg b (congrArg (ix2 k) (Fin.ext ?_))) <;> dsimp only <;> omega

end Cert.Reference8Ideal.Product

namespace Cert.Products.K8

open Idealize.ShloMosaic Idealize.SL.Sem

/-- The reference ends with its arguments unchanged; it declares no semaphore, so all read zero. -/
theorem frame_reference (m : (ℓ : Loc Cert.Reference8Ideal.nD Cert.Reference8Ideal.τ Cert.Reference8Ideal.sig) → Buf (Elt Ideal) ℓ)
    (ρ : Dev Cert.Reference8Ideal.nD → PrngReg) :
    θ_run (Cert.Reference8Ideal.defs (F := Ideal)) (onTc (τ := Cert.Reference8Ideal.τ) (Cert.Reference8Ideal.main (F := Ideal))) ⟨m, fun _ => 0, ρ⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0) :=
  (θ_run _ _ _).mono (fun r h => ⟨fun c => (h c).2, sem_eq_zero_of_no_sems (by decide) r.2⟩) (Cert.Reference8Ideal.Value.run m ρ)

/-- The kernel's product is the reference's. -/
theorem algebraic : Cert.algebraic_Kernel8Ideal_Reference8Ideal
    (hKernel8Ideal := Cert.Kernel8Ideal.Gen.facts) (hReference8Ideal := Cert.Reference8Ideal.Gen.facts) := by
  intro m ρ m' ρ' _ hag
  refine ⟨fun c => (Cert.Kernel8Ideal.Gen.dats m 0 c).arrAt 2 Cert.Kernel8Ideal.cfg0.N,
    Cert.Kernel8Ideal.Value.run_blocks m ρ, (θ_run _ _ _).mono (fun r h c => ?_) (Cert.Reference8Ideal.Value.run m' ρ')⟩
  obtain ⟨h0, hargs⟩ := h c
  obtain ⟨a0, a1⟩ := hag c
  refine ⟨h0.trans ?_, hargs⟩
  rw [a0, a1]
  exact (Cert.Reference8Ideal.Product.term_eq _ _).trans (Cert.Kernel8Ideal.Product.final m c).symm

end Cert.Products.K8

end
-- ==== Proof.Products.In.lean ====
/- The mixers' projection: the rows times the weight. -/
module

public import proofs.«01_k».proof.Defs
public import proofs.«01_k».proof.Proof.Gen.Kernel9Ideal.Value
public import proofs.«01_k».proof.Proof.Gen.Reference9Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel9Ideal.Product

open Idealize.ShloMosaic Idealize.ShloMosaic.TcCoe Cert.Kernel9Ideal Cert.Kernel9Ideal.Gen Cert.Kernel9Ideal.Value

/-- The product, entry by entry. -/
def prod (a : FVec Ideal S4096x1024 .bf16) (b : FVec Ideal S1024x1536 .bf16) : FVec Ideal S4096x1536 .bf16 :=
  fun x => ∑ k : Fin 1024, a (ix2 (x 0) k) * b (ix2 k (x 1))

variable (m : (ℓ : Loc nD τ sig) → Buf (Elt Ideal) ℓ) (c : Dev nD)

/-- The block every point of the grid reads and writes. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel9Ideal.Product

namespace Cert.Reference9Ideal.Product

open Idealize.ShloMosaic Idealize.ShloMosaic.TcCoe Cert.Reference9Ideal Cert.Reference9Ideal.Gen

/-- The reference's term is the product. -/
theorem term_eq (a : FVec Ideal S4096x1024 .bf16) (b : FVec Ideal S1024x1536 .bf16) :
    truncf .bf16 (Host.dotGeneral dot_S4096x1024_S1024x1536_S4096x1536_1_0_0_1_n_n none (extf .f32 a bitsLt_bf16_f32) (extf .f32 b bitsLt_bf16_f32)) bitsLt_bf16_f32
      = Cert.Kernel9Ideal.Product.prod a b := by
  funext x
  idx_vars x
  pointwise [Cert.Kernel9Ideal.Product.prod]

end Cert.Reference9Ideal.Product

namespace Cert.Products.K9

open Idealize.ShloMosaic Idealize.SL.Sem

/-- The reference ends with its arguments unchanged; it declares no semaphore, so all read zero. -/
theorem frame_reference (m : (ℓ : Loc Cert.Reference9Ideal.nD Cert.Reference9Ideal.τ Cert.Reference9Ideal.sig) → Buf (Elt Ideal) ℓ)
    (ρ : Dev Cert.Reference9Ideal.nD → PrngReg) :
    θ_run (Cert.Reference9Ideal.defs (F := Ideal)) (onTc (τ := Cert.Reference9Ideal.τ) (Cert.Reference9Ideal.main (F := Ideal))) ⟨m, fun _ => 0, ρ⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0) :=
  (θ_run _ _ _).mono (fun r h => ⟨fun c => (h c).2, sem_eq_zero_of_no_sems (by decide) r.2⟩) (Cert.Reference9Ideal.Value.run m ρ)

/-- The kernel's product is the reference's. -/
theorem algebraic : Cert.algebraic_Kernel9Ideal_Reference9Ideal
    (hKernel9Ideal := Cert.Kernel9Ideal.Gen.facts) (hReference9Ideal := Cert.Reference9Ideal.Gen.facts) := by
  intro m ρ m' ρ' _ hag
  refine ⟨fun c => (Cert.Kernel9Ideal.Gen.dats m 0 c).arrAt 2 Cert.Kernel9Ideal.cfg0.N,
    Cert.Kernel9Ideal.Value.run_blocks m ρ, (θ_run _ _ _).mono (fun r h c => ?_) (Cert.Reference9Ideal.Value.run m' ρ')⟩
  obtain ⟨h0, hargs⟩ := h c
  obtain ⟨a0, a1⟩ := hag c
  refine ⟨h0.trans ?_, hargs⟩
  rw [a0, a1]
  exact (Cert.Reference9Ideal.Product.term_eq _ _).trans (Cert.Kernel9Ideal.Product.final m c).symm

end Cert.Products.K9

end
-- ==== Proof.Products.Query.lean ====
/- The query projection: the rows times the weight. -/
module

public import proofs.«01_k».proof.Defs
public import proofs.«01_k».proof.Proof.Gen.Kernel10Ideal.Value
public import proofs.«01_k».proof.Proof.Gen.Reference10Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel10Ideal.Product

open Idealize.ShloMosaic Idealize.ShloMosaic.TcCoe Cert.Kernel10Ideal Cert.Kernel10Ideal.Gen Cert.Kernel10Ideal.Value

/-- The product, entry by entry. -/
def prod (a : FVec Ideal S4096x1024 .bf16) (b : FVec Ideal S1024x1024 .bf16) : FVec Ideal S4096x1024 .bf16 :=
  fun x => ∑ k : Fin 1024, a (ix2 (x 0) k) * b (ix2 k (x 1))

variable (m : (ℓ : Loc nD τ sig) → Buf (Elt Ideal) ℓ) (c : Dev nD)

/-- The block every point of the grid reads and writes. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel10Ideal.Product

namespace Cert.Reference10Ideal.Product

open Idealize.ShloMosaic Idealize.ShloMosaic.TcCoe Cert.Reference10Ideal Cert.Reference10Ideal.Gen

/-- The reference's term is the product. -/
theorem term_eq (a : FVec Ideal S4096x1024 .bf16) (b : FVec Ideal S1024x1024 .bf16) :
    truncf .bf16 (Host.dotGeneral dot_S4096x1024_S1024x1024_S4096x1024_1_0_0_1_n_n none (extf .f32 a bitsLt_bf16_f32) (extf .f32 b bitsLt_bf16_f32)) bitsLt_bf16_f32
      = Cert.Kernel10Ideal.Product.prod a b := by
  funext x
  idx_vars x
  pointwise [Cert.Kernel10Ideal.Product.prod]

end Cert.Reference10Ideal.Product

namespace Cert.Products.K10

open Idealize.ShloMosaic Idealize.SL.Sem

/-- The reference ends with its arguments unchanged; it declares no semaphore, so all read zero. -/
theorem frame_reference (m : (ℓ : Loc Cert.Reference10Ideal.nD Cert.Reference10Ideal.τ Cert.Reference10Ideal.sig) → Buf (Elt Ideal) ℓ)
    (ρ : Dev Cert.Reference10Ideal.nD → PrngReg) :
    θ_run (Cert.Reference10Ideal.defs (F := Ideal)) (onTc (τ := Cert.Reference10Ideal.τ) (Cert.Reference10Ideal.main (F := Ideal))) ⟨m, fun _ => 0, ρ⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0) :=
  (θ_run _ _ _).mono (fun r h => ⟨fun c => (h c).2, sem_eq_zero_of_no_sems (by decide) r.2⟩) (Cert.Reference10Ideal.Value.run m ρ)

/-- The kernel's product is the reference's. -/
theorem algebraic : Cert.algebraic_Kernel10Ideal_Reference10Ideal
    (hKernel10Ideal := Cert.Kernel10Ideal.Gen.facts) (hReference10Ideal := Cert.Reference10Ideal.Gen.facts) := by
  intro m ρ m' ρ' _ hag
  refine ⟨fun c => (Cert.Kernel10Ideal.Gen.dats m 0 c).arrAt 2 Cert.Kernel10Ideal.cfg0.N,
    Cert.Kernel10Ideal.Value.run_blocks m ρ, (θ_run _ _ _).mono (fun r h c => ?_) (Cert.Reference10Ideal.Value.run m' ρ')⟩
  obtain ⟨h0, hargs⟩ := h c
  obtain ⟨a0, a1⟩ := hag c
  refine ⟨h0.trans ?_, hargs⟩
  rw [a0, a1]
  exact (Cert.Reference10Ideal.Product.term_eq _ _).trans (Cert.Kernel10Ideal.Product.final m c).symm

end Cert.Products.K10

end
-- ==== Proof.Products.Memory.lean ====
/- The keys' and values' projection: the memory's rows times the weight. -/
module

public import proofs.«01_k».proof.Defs
public import proofs.«01_k».proof.Proof.Gen.Kernel11Ideal.Value
public import proofs.«01_k».proof.Proof.Gen.Reference11Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel11Ideal.Product

open Idealize.ShloMosaic Idealize.ShloMosaic.TcCoe Cert.Kernel11Ideal Cert.Kernel11Ideal.Gen Cert.Kernel11Ideal.Value

/-- The product, entry by entry. -/
def prod (a : FVec Ideal S512x1024 .bf16) (b : FVec Ideal S1024x2048 .bf16) : FVec Ideal S512x2048 .bf16 :=
  fun x => ∑ k : Fin 1024, a (ix2 (x 0) k) * b (ix2 k (x 1))

variable (m : (ℓ : Loc nD τ sig) → Buf (Elt Ideal) ℓ) (c : Dev nD)

/-- The block every point of the grid reads and writes. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel11Ideal.Product

namespace Cert.Reference11Ideal.Product

open Idealize.ShloMosaic Idealize.ShloMosaic.TcCoe Cert.Reference11Ideal Cert.Reference11Ideal.Gen

/-- The reference's term is the product. -/
theorem term_eq (a : FVec Ideal S512x1024 .bf16) (b : FVec Ideal S1024x2048 .bf16) :
    truncf .bf16 (Host.dotGeneral dot_S512x1024_S1024x2048_S512x2048_1_0_0_1_n_n none (extf .f32 a bitsLt_bf16_f32) (extf .f32 b bitsLt_bf16_f32)) bitsLt_bf16_f32
      = Cert.Kernel11Ideal.Product.prod a b := by
  funext x
  idx_vars x
  pointwise [Cert.Kernel11Ideal.Product.prod]

end Cert.Reference11Ideal.Product

namespace Cert.Products.K11

open Idealize.ShloMosaic Idealize.SL.Sem

/-- The reference ends with its arguments unchanged; it declares no semaphore, so all read zero. -/
theorem frame_reference (m : (ℓ : Loc Cert.Reference11Ideal.nD Cert.Reference11Ideal.τ Cert.Reference11Ideal.sig) → Buf (Elt Ideal) ℓ)
    (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0) :=
  (θ_run _ _ _).mono (fun r h => ⟨fun c => (h c).2, sem_eq_zero_of_no_sems (by decide) r.2⟩) (Cert.Reference11Ideal.Value.run m ρ)

/-- The kernel's product is the reference's. -/
theorem algebraic : Cert.algebraic_Kernel11Ideal_Reference11Ideal
    (hKernel11Ideal := Cert.Kernel11Ideal.Gen.facts) (hReference11Ideal := Cert.Reference11Ideal.Gen.facts) := by
  intro m ρ m' ρ' _ hag
  refine ⟨fun c => (Cert.Kernel11Ideal.Gen.dats m 0 c).arrAt 2 Cert.Kernel11Ideal.cfg0.N,
    Cert.Kernel11Ideal.Value.run_blocks m ρ, (θ_run _ _ _).mono (fun r h c => ?_) (Cert.Reference11Ideal.Value.run m' ρ')⟩
  obtain ⟨h0, hargs⟩ := h c
  obtain ⟨a0, a1⟩ := hag c
  refine ⟨h0.trans ?_, hargs⟩
  rw [a0, a1]
  exact (Cert.Reference11Ideal.Product.term_eq _ _).trans (Cert.Kernel11Ideal.Product.final m c).symm

end Cert.Products.K11

end
-- ==== Proof.Products.Rows.lean ====
/- The gradient of a square projection's argument: the rows' gradients times the transposed weight. -/
module

public import proofs.«01_k».proof.Defs
public import proofs.«01_k».proof.Proof.Gen.Kernel12Ideal.Value
public import proofs.«01_k».proof.Proof.Gen.Reference12Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel12Ideal.Product

open Idealize.ShloMosaic Idealize.ShloMosaic.TcCoe Cert.Kernel12Ideal Cert.Kernel12Ideal.Gen Cert.Kernel12Ideal.Value

/-- The product, entry by entry. -/
def prod (a : FVec Ideal S4096x1024 .bf16) (b : FVec Ideal S1024x1024 .bf16) : FVec Ideal S4096x1024 .bf16 :=
  fun x => ∑ k : Fin 1024, a (ix2 (x 0) k) * b (ix2 (x 1) k)

variable (m : (ℓ : Loc nD τ sig) → Buf (Elt Ideal) ℓ) (c : Dev nD)

/-- The block every point of the grid reads and writes. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel12Ideal.Product

namespace Cert.Reference12Ideal.Product

open Idealize.ShloMosaic Idealize.ShloMosaic.TcCoe Cert.Reference12Ideal Cert.Reference12Ideal.Gen

/-- The reference's term is the product. -/
theorem term_eq (a : FVec Ideal S4096x1024 .bf16) (b : FVec Ideal S1024x1024 .bf16) :
    truncf .bf16 (Host.dotGeneral dot_S4096x1024_S1024x1024_S4096x1024_1_1_0_0_n_n none (extf .f32 a bitsLt_bf16_f32) (extf .f32 b bitsLt_bf16_f32)) bitsLt_bf16_f32
      = Cert.Kernel12Ideal.Product.prod a b := by
  funext x
  idx_vars x
  pointwise [Cert.Kernel12Ideal.Product.prod]

end Cert.Reference12Ideal.Product

namespace Cert.Products.K12

open Idealize.ShloMosaic Idealize.SL.Sem

/-- The reference ends with its arguments unchanged; it declares no semaphore, so all read zero. -/
theorem frame_reference (m : (ℓ : Loc Cert.Reference12Ideal.nD Cert.Reference12Ideal.τ Cert.Reference12Ideal.sig) → Buf (Elt Ideal) ℓ)
    (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0) :=
  (θ_run _ _ _).mono (fun r h => ⟨fun c => (h c).2, sem_eq_zero_of_no_sems (by decide) r.2⟩) (Cert.Reference12Ideal.Value.run m ρ)

/-- The kernel's product is the reference's. -/
theorem algebraic : Cert.algebraic_Kernel12Ideal_Reference12Ideal
    (hKernel12Ideal := Cert.Kernel12Ideal.Gen.facts) (hReference12Ideal := Cert.Reference12Ideal.Gen.facts) := by
  intro m ρ m' ρ' _ hag
  refine ⟨fun c => (Cert.Kernel12Ideal.Gen.dats m 0 c).arrAt 2 Cert.Kernel12Ideal.cfg0.N,
    Cert.Kernel12Ideal.Value.run_blocks m ρ, (θ_run _ _ _).mono (fun r h c => ?_) (Cert.Reference12Ideal.Value.run m' ρ')⟩
  obtain ⟨h0, hargs⟩ := h c
  obtain ⟨a0, a1⟩ := hag c
  refine ⟨h0.trans ?_, hargs⟩
  rw [a0, a1]
  exact (Cert.Reference12Ideal.Product.term_eq _ _).trans (Cert.Kernel12Ideal.Product.final m c).symm

end Cert.Products.K12

end
-- ==== Proof.Products.MemoryRows.lean ====
/- The gradient of the argument of the keys' and values' projection. -/
module

public import proofs.«01_k».proof.Defs
public import proofs.«01_k».proof.Proof.Gen.Kernel13Ideal.Value
public import proofs.«01_k».proof.Proof.Gen.Reference13Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel13Ideal.Product

open Idealize.ShloMosaic Idealize.ShloMosaic.TcCoe Cert.Kernel13Ideal Cert.Kernel13Ideal.Gen Cert.Kernel13Ideal.Value

/-- The product, entry by entry. -/
def prod (a : FVec Ideal S512x2048 .bf16) (b : FVec Ideal S1024x2048 .bf16) : FVec Ideal S512x1024 .f32 :=
  fun x => ∑ k : Fin 2048, a (ix2 (x 0) k) * b (ix2 (x 1) k)

variable (m : (ℓ : Loc nD τ sig) → Buf (Elt Ideal) ℓ) (c : Dev nD)

/-- The block every point of the grid reads and writes. -/
theorem idx : ∀ t : Fin cfg0.N, win0_0.index t = ![t.val, 0] ∧ win0_1.index t = ![0, 0] ∧ win0_2.index t = ![t.val, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel13Ideal.Product

namespace Cert.Reference13Ideal.Product

open Idealize.ShloMosaic Idealize.ShloMosaic.TcCoe Cert.Reference13Ideal Cert.Reference13Ideal.Gen

/-- The reference's term is the product. -/
theorem term_eq (a : FVec Ideal S512x2048 .bf16) (b : FVec Ideal S1024x2048 .bf16) :
    Host.dotGeneral dot_S512x2048_S1024x2048_S512x1024_1_1_0_0_n_n none (extf .f32 a bitsLt_bf16_f32) (extf .f32 b bitsLt_bf16_f32)
      = Cert.Kernel13Ideal.Product.prod a b := by
  funext x
  idx_vars x
  pointwise [Cert.Kernel13Ideal.Product.prod]

end Cert.Reference13Ideal.Product

namespace Cert.Products.K13

open Idealize.ShloMosaic Idealize.SL.Sem

/-- The reference ends with its arguments unchanged; it declares no semaphore, so all read zero. -/
theorem frame_reference (m : (ℓ : Loc Cert.Reference13Ideal.nD Cert.Reference13Ideal.τ Cert.Reference13Ideal.sig) → Buf (Elt Ideal) ℓ)
    (ρ : Dev Cert.Reference13Ideal.nD → PrngReg) :
    θ_run (Cert.Reference13Ideal.defs (F := Ideal)) (onTc (τ := Cert.Reference13Ideal.τ) (Cert.Reference13Ideal.main (F := Ideal))) ⟨m, fun _ => 0, ρ⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0) :=
  (θ_run _ _ _).mono (fun r h => ⟨fun c => (h c).2, sem_eq_zero_of_no_sems (by decide) r.2⟩) (Cert.Reference13Ideal.Value.run m ρ)

/-- The kernel's product is the reference's. -/
theorem algebraic : Cert.algebraic_Kernel13Ideal_Reference13Ideal
    (hKernel13Ideal := Cert.Kernel13Ideal.Gen.facts) (hReference13Ideal := Cert.Reference13Ideal.Gen.facts) := by
  intro m ρ m' ρ' _ hag
  refine ⟨fun c => (Cert.Kernel13Ideal.Gen.dats m 0 c).arrAt 2 Cert.Kernel13Ideal.cfg0.N,
    Cert.Kernel13Ideal.Value.run_blocks m ρ, (θ_run _ _ _).mono (fun r h c => ?_) (Cert.Reference13Ideal.Value.run m' ρ')⟩
  obtain ⟨h0, hargs⟩ := h c
  obtain ⟨a0, a1⟩ := hag c
  refine ⟨h0.trans ?_, hargs⟩
  rw [a0, a1]
  exact (Cert.Reference13Ideal.Product.term_eq _ _).trans (Cert.Kernel13Ideal.Product.final m c).symm

end Cert.Products.K13

end
-- ==== Proof.Products.WeightSquare.lean ====
/- The gradient of a square projection's weight: the transposed argument times the rows' gradients. -/
module

public import proofs.«01_k».proof.Defs
public import proofs.«01_k».proof.Proof.Gen.Kernel14Ideal.Value
public import proofs.«01_k».proof.Proof.Gen.Reference14Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel14Ideal.Product

open Idealize.ShloMosaic Idealize.ShloMosaic.TcCoe Cert.Kernel14Ideal Cert.Kernel14Ideal.Gen Cert.Kernel14Ideal.Value

/-- The product, entry by entry. -/
def prod (a : FVec Ideal S4096x1024 .bf16) (b : FVec Ideal S4096x1024 .bf16) : FVec Ideal S1024x1024 .bf16 :=
  fun x => ∑ k : Fin 4096, a (ix2 k (x 0)) * b (ix2 k (x 1))

variable (m : (ℓ : Loc nD τ sig) → Buf (Elt Ideal) ℓ) (c : Dev nD)

/-- The block every point of the grid reads and writes. -/
theorem idx : ∀ t : Fin cfg0.N, win0_0.index t = ![0, 0] ∧ win0_1.index t = ![0, t.val] ∧ win0_2.index t = ![0, t.val] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel14Ideal.Product

namespace Cert.Reference14Ideal.Product

open Idealize.ShloMosaic Idealize.ShloMosaic.TcCoe Cert.Reference14Ideal Cert.Reference14Ideal.Gen

/-- The reference's term is the product. -/
theorem term_eq (a : FVec Ideal S4096x1024 .bf16) (b : FVec Ideal S4096x1024 .bf16) :
    truncf .bf16 (transpose S1024x1024 [1, 0] (Host.dotGeneral dot_S4096x1024_S4096x1024_S1024x1024_0_0_1_1_n_n none (extf .f32 b bitsLt_bf16_f32) (extf .f32 a bitsLt_bf16_f32)) transposes_S1024x1024_S1024x1024_1_0) bitsLt_bf16_f32
      = Cert.Kernel14Ideal.Product.prod a b := by
  funext x
  idx_vars x
  pointwise [Cert.Kernel14Ideal.Product.prod]
  refine Finset.sum_congr rfl fun k _ => ?_
  exact mul_comm _ _

end Cert.Reference14Ideal.Product

namespace Cert.Products.K14

open Idealize.ShloMosaic Idealize.SL.Sem

/-- The reference ends with its arguments unchanged; it declares no semaphore, so all read zero. -/
theorem frame_reference (m : (ℓ : Loc Cert.Reference14Ideal.nD Cert.Reference14Ideal.τ Cert.Reference14Ideal.sig) → Buf (Elt Ideal) ℓ)
    (ρ : Dev Cert.Reference14Ideal.nD → PrngReg) :
    θ_run (Cert.Reference14Ideal.defs (F := Ideal)) (onTc (τ := Cert.Reference14Ideal.τ) (Cert.Reference14Ideal.main (F := Ideal))) ⟨m, fun _ => 0, ρ⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0) :=
  (θ_run _ _ _).mono (fun r h => ⟨fun c => (h c).2, sem_eq_zero_of_no_sems (by decide) r.2⟩) (Cert.Reference14Ideal.Value.run m ρ)

/-- The kernel's product is the reference's. -/
theorem algebraic : Cert.algebraic_Kernel14Ideal_Reference14Ideal
    (hKernel14Ideal := Cert.Kernel14Ideal.Gen.facts) (hReference14Ideal := Cert.Reference14Ideal.Gen.facts) := by
  intro m ρ m' ρ' _ hag
  refine ⟨fun c => (Cert.Kernel14Ideal.Gen.dats m 0 c).arrAt 2 Cert.Kernel14Ideal.cfg0.N,
    Cert.Kernel14Ideal.Value.run_blocks m ρ, (θ_run _ _ _).mono (fun r h c => ?_) (Cert.Reference14Ideal.Value.run m' ρ')⟩
  obtain ⟨h0, hargs⟩ := h c
  obtain ⟨a0, a1⟩ := hag c
  refine ⟨h0.trans ?_, hargs⟩
  rw [a0, a1]
  exact (Cert.Reference14Ideal.Product.term_eq _ _).trans (Cert.Kernel14Ideal.Product.final m c).symm

end Cert.Products.K14

end
-- ==== Proof.Products.WeightMemory.lean ====
/- The gradient of the weight of the keys' and values' projection, in the pieces it is exchanged in. -/
module

public import proofs.«01_k».proof.Defs
public import proofs.«01_k».proof.Proof.Gen.Kernel15Ideal.Value
public import proofs.«01_k».proof.Proof.Gen.Reference15Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel15Ideal.Product

open Idealize.ShloMosaic Idealize.ShloMosaic.TcCoe Cert.Kernel15Ideal Cert.Kernel15Ideal.Gen Cert.Kernel15Ideal.Value

/-- The product, entry by entry. -/
def prod (a : FVec Ideal S512x1024 .bf16) (b : FVec Ideal S512x2048 .bf16) : FVec Ideal S8x512x512 .bf16 :=
  fun x => ∑ k : Fin 512, a (ix2 k ⟨(x 0).val % 2 * 512 + (x 1).val, by have h1 : (x 1).val < 512 := (x 1).isLt; omega⟩)
    * b (ix2 k ⟨(x 0).val / 2 * 512 + (x 2).val, by have h0 : (x 0).val < 8 := (x 0).isLt; have h2 : (x 2).val < 512 := (x 2).isLt; omega⟩)

variable (m : (ℓ : Loc nD τ sig) → Buf (Elt Ideal) ℓ) (c : Dev nD)

/-- The block every point of the grid reads and writes. -/
theorem idx : ∀ t : Fin cfg0.N, win0_0.index t = ![0, t.val / 4] ∧ win0_1.index t = ![0, t.val % 4] ∧ win0_2.index t = ![t.val % 4 * 2 + t.val / 4, 0, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel15Ideal.Product

namespace Cert.Reference15Ideal.Product

open Idealize.ShloMosaic Idealize.ShloMosaic.TcCoe Cert.Reference15Ideal Cert.Reference15Ideal.Gen

/-- The reference's term is the product. -/
theorem term_eq (a : FVec Ideal S512x1024 .bf16) (b : FVec Ideal S512x2048 .bf16) :
    truncf .bf16 (shapeCast S8x512x512 (transpose S4x2x512x512 [2, 0, 1, 3] (shapeCast S2x512x4x512 (transpose S1024x2048 [1, 0] (Host.dotGeneral dot_S512x2048_S512x1024_S2048x1024_0_0_1_1_n_n none (extf .f32 b bitsLt_bf16_f32) (extf .f32 a bitsLt_bf16_f32)) transposes_S2048x1024_S1024x2048_1_0) shapeCasts_S1024x2048_S2x512x4x512) transposes_S2x512x4x512_S4x2x512x512_2_0_1_3) shapeCasts_S4x2x512x512_S8x512x512) bitsLt_bf16_f32
      = Cert.Kernel15Ideal.Product.prod a b := by
  funext x
  idx_vars x
  have h0 := x0.isLt
  have h2 := x2.isLt
  pointwise [Cert.Kernel15Ideal.Product.prod]
  refine Finset.sum_congr rfl fun k _ => (mul_comm _ _).trans (congrArg (a (ix2 k _) * ·) ?_)
  exact congrArg b (congrArg (ix2 k) (Fin.ext (by dsimp only)))

end Cert.Reference15Ideal.Product

namespace Cert.Products.K15

open Idealize.ShloMosaic Idealize.SL.Sem

/-- The reference ends with its arguments unchanged; it declares no semaphore, so all read zero. -/
theorem frame_reference (m : (ℓ : Loc Cert.Reference15Ideal.nD Cert.Reference15Ideal.τ Cert.Reference15Ideal.sig) → Buf (Elt Ideal) ℓ)
    (ρ : Dev Cert.Reference15Ideal.nD → PrngReg) :
    θ_run (Cert.Reference15Ideal.defs (F := Ideal)) (onTc (τ := Cert.Reference15Ideal.τ) (Cert.Reference15Ideal.main (F := Ideal))) ⟨m, fun _ => 0, ρ⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0) :=
  (θ_run _ _ _).mono (fun r h => ⟨fun c => (h c).2, sem_eq_zero_of_no_sems (by decide) r.2⟩) (Cert.Reference15Ideal.Value.run m ρ)

/-- The kernel's product is the reference's. -/
theorem algebraic : Cert.algebraic_Kernel15Ideal_Reference15Ideal
    (hKernel15Ideal := Cert.Kernel15Ideal.Gen.facts) (hReference15Ideal := Cert.Reference15Ideal.Gen.facts) := by
  intro m ρ m' ρ' _ hag
  refine ⟨fun c => (Cert.Kernel15Ideal.Gen.dats m 0 c).arrAt 2 Cert.Kernel15Ideal.cfg0.N,
    Cert.Kernel15Ideal.Value.run_blocks m ρ, (θ_run _ _ _).mono (fun r h c => ?_) (Cert.Reference15Ideal.Value.run m' ρ')⟩
  obtain ⟨h0, hargs⟩ := h c
  obtain ⟨a0, a1⟩ := hag c
  refine ⟨h0.trans ?_, hargs⟩
  rw [a0, a1]
  exact (Cert.Reference15Ideal.Product.term_eq _ _).trans (Cert.Kernel15Ideal.Product.final m c).symm

end Cert.Products.K15

end
-- ==== Proof.Products.WeightIn.lean ====
/- The gradient of the weight of the mixers' projection, in the pieces it is exchanged in. -/
module

public import proofs.«01_k».proof.Defs
public import proofs.«01_k».proof.Proof.Gen.Kernel16Ideal.Value
public import proofs.«01_k».proof.Proof.Gen.Reference16Ideal.Run
public import Idealize.ShloMosaic.Adequacy
public import Idealize.ShloMosaic.Lib.Pointwise
public import Idealize.ShloMosaic.Lib.Pipeline.ValueKit

@[expose] public section

set_option maxRecDepth 16384

noncomputable section

namespace Cert.Kernel16Ideal.Product

open Idealize.ShloMosaic Idealize.ShloMosaic.TcCoe Cert.Kernel16Ideal Cert.Kernel16Ideal.Gen Cert.Kernel16Ideal.Value

/-- The product, entry by entry. -/
def prod (a : FVec Ideal S4096x1024 .bf16) (b : FVec Ideal S4096x1536 .bf16) : FVec Ideal S8x512x384 .bf16 :=
  fun x => ∑ k : Fin 4096, a (ix2 k ⟨(x 0).val % 2 * 512 + (x 1).val, by have h1 : (x 1).val < 512 := (x 1).isLt; omega⟩)
    * b (ix2 k ⟨(x 0).val / 2 * 384 + (x 2).val, by have h0 : (x 0).val < 8 := (x 0).isLt; have h2 : (x 2).val < 384 := (x 2).isLt; omega⟩)

variable (m : (ℓ : Loc nD τ sig) → Buf (Elt Ideal) ℓ) (c : Dev nD)

/-- The block every point of the grid reads and writes. -/
theorem idx : ∀ t : Fin cfg0.N, win0_0.index t = ![0, t.val / 4] ∧ win0_1.index t = ![0, t.val % 4] ∧ win0_2.index t = ![t.val % 4 * 2 + t.val / 4, 0, 0] :=
  (by decide +kernel : ∀ t : Fin grid0.N, _)

/-- The array the call leaves is the product. -/
theorem final : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  pointwise! [k0_pay1]
  blk_point [iblk, V, idx t, prod]

end Cert.Kernel16Ideal.Product

namespace Cert.Reference16Ideal.Product

open Idealize.ShloMosaic Idealize.ShloMosaic.TcCoe Cert.Reference16Ideal Cert.Reference16Ideal.Gen

/-- The reference's term is the product. -/
theorem term_eq (a : FVec Ideal S4096x1024 .bf16) (b : FVec Ideal S4096x1536 .bf16) :
    truncf .bf16 (shapeCast S8x512x384 (transpose S4x2x512x384 [2, 0, 1, 3] (shapeCast S2x512x4x384 (transpose S1024x1536 [1, 0] (Host.dotGeneral dot_S4096x1536_S4096x1024_S1536x1024_0_0_1_1_n_n none (extf .f32 b bitsLt_bf16_f32) (extf .f32 a bitsLt_bf16_f32)) transposes_S1536x1024_S1024x1536_1_0) shapeCasts_S1024x1536_S2x512x4x384) transposes_S2x512x4x384_S4x2x512x384_2_0_1_3) shapeCasts_S4x2x512x384_S8x512x384) bitsLt_bf16_f32
      = Cert.Kernel16Ideal.Product.prod a b := by
  funext x
  idx_vars x
  have h0 := x0.isLt
  have h2 := x2.isLt
  pointwise [Cert.Kernel16Ideal.Product.prod]
  refine Finset.sum_congr rfl fun k _ => (mul_comm _ _).trans (congrArg (a (ix2 k _) * ·) ?_)
  exact congrArg b (congrArg (ix2 k) (Fin.ext (by dsimp only)))

end Cert.Reference16Ideal.Product

namespace Cert.Products.K16

open Idealize.ShloMosaic Idealize.SL.Sem

/-- The reference ends with its arguments unchanged; it declares no semaphore, so all read zero. -/
theorem frame_reference (m : (ℓ : Loc Cert.Reference16Ideal.nD Cert.Reference16Ideal.τ Cert.Reference16Ideal.sig) → Buf (Elt Ideal) ℓ)
    (ρ : Dev Cert.Reference16Ideal.nD → PrngReg) :
    θ_run (Cert.Reference16Ideal.defs (F := Ideal)) (onTc (τ := Cert.Reference16Ideal.τ) (Cert.Reference16Ideal.main (F := Ideal))) ⟨m, fun _ => 0, ρ⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0) :=
  (θ_run _ _ _).mono (fun r h => ⟨fun c => (h c).2, sem_eq_zero_of_no_sems (by decide) r.2⟩) (Cert.Reference16Ideal.Value.run m ρ)

/-- The kernel's product is the reference's. -/
theorem algebraic : Cert.algebraic_Kernel16Ideal_Reference16Ideal
    (hKernel16Ideal := Cert.Kernel16Ideal.Gen.facts) (hReference16Ideal := Cert.Reference16Ideal.Gen.facts) := by
  intro m ρ m' ρ' _ hag
  refine ⟨fun c => (Cert.Kernel16Ideal.Gen.dats m 0 c).arrAt 2 Cert.Kernel16Ideal.cfg0.N,
    Cert.Kernel16Ideal.Value.run_blocks m ρ, (θ_run _ _ _).mono (fun r h c => ?_) (Cert.Reference16Ideal.Value.run m' ρ')⟩
  obtain ⟨h0, hargs⟩ := h c
  obtain ⟨a0, a1⟩ := hag c
  refine ⟨h0.trans ?_, hargs⟩
  rw [a0, a1]
  exact (Cert.Reference16Ideal.Product.term_eq _ _).trans (Cert.Kernel16Ideal.Product.final m c).symm

end Cert.Products.K16

end
-- ==== Proof.Norm.MixerOut.lean ====
/- The mixers' output projection, its residual connection and the norm after it. -/
module

public import proofs.«01_k».proof.Defs
public import proofs.«01_k».proof.Proof.Gen.Kernel17Ideal.Value
public import proofs.«01_k».proof.Proof.Gen.Reference17Ideal.Run
public import proofs.«01_k».proof.Proof.Norm.Maths
public import Idealize.ShloMosaic.Adequacy
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel17Ideal.Norm

open Idealize.ShloMosaic Idealize.ShloMosaic.TcCoe Cert.Kernel17Ideal Cert.Kernel17Ideal.Gen Cert.Kernel17Ideal.Value Cert.Norm

section Block

variable (a : Vec Ideal S1024x1024 .bf16) (b : Vec Ideal S1024x1024 .bf16) (x : Vec Ideal S1024x1024 .f32) (g : Vec Ideal S1x1024 .f32)
  (r : Fin 1024) (j : Fin 1024)

/-- Row `r` of a block of the product, and the residual connection's row. -/
def bsum : Row := fun j => (∑ k : Fin 1024, a (ix2 r k) * b (ix2 k j)) + x (ix2 r j)

theorem bsum_at : bsum a b x r j = (∑ k : Fin 1024, a (ix2 r k) * b (ix2 k j)) + x (ix2 r j) := rfl

theorem pay1_at : k0_pay1 a b x (ix2 r j) = bsum a b x r j := by
  pointwise [k0_pay1, bsum_at]

theorem pay2_at : k0_pay2 a b x g (ix2 r j) = normed (bsum a b x r) j * g (ix2 0 j) := by
  pointwise [k0_pay2, pay1_at, normed, rinv, square, len, eps]

end Block

/-- Row `R` of the product, and the residual connection's row. -/
def rsum (a : FVec Ideal S4096x1024 .bf16) (b : FVec Ideal S1024x1024 .bf16) (x : FVec Ideal S4096x1024 .f32) (R : Fin 4096) : Row := fun j => (∑ k : Fin 1024, a (ix2 R k) * b (ix2 k j)) + x (ix2 R j)

theorem rsum_at (a : FVec Ideal S4096x1024 .bf16) (b : FVec Ideal S1024x1024 .bf16) (x : FVec Ideal S4096x1024 .f32) (R : Fin 4096) (j : Fin 1024) : rsum a b x R j = (∑ k : Fin 1024, a (ix2 R k) * b (ix2 k j)) + x (ix2 R j) := rfl

/-- The rows the call leaves. -/
def total (a : FVec Ideal S4096x1024 .bf16) (b : FVec Ideal S1024x1024 .bf16) (x : FVec Ideal S4096x1024 .f32) : FVec Ideal S4096x1024 .f32 := fun y => rsum a b x (y 0) (y 1)

theorem total_at (a : FVec Ideal S4096x1024 .bf16) (b : FVec Ideal S1024x1024 .bf16) (x : FVec Ideal S4096x1024 .f32) (R : Fin 4096) (j : Fin 1024) : total a b x (ix2 R j) = rsum a b x R j := rfl

/-- The normed rows the call leaves. -/
def scaled (a : FVec Ideal S4096x1024 .bf16) (b : FVec Ideal S1024x1024 .bf16) (x : FVec Ideal S4096x1024 .f32) (g : FVec Ideal S1x1024 .f32) : FVec Ideal S4096x1024 .bf16 := fun y => normed (rsum a b x (y 0)) (y 1) * g (ix2 0 (y 1))

theorem scaled_at (a : FVec Ideal S4096x1024 .bf16) (b : FVec Ideal S1024x1024 .bf16) (x : FVec Ideal S4096x1024 .f32) (g : FVec Ideal S1x1024 .f32) (R : Fin 4096) (j : Fin 1024) :
    scaled a b x g (ix2 R j) = normed (rsum a b x R) j * g (ix2 0 j) := rfl

variable (m : (ℓ : Loc nD τ sig) → Buf (Elt Ideal) ℓ) (c : Dev nD)

/-- Where each point's blocks lie. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem lt4 (t : Fin cfg0.N) : t.val < 4 := lt_of_lt_of_eq t.isLt (show cfg0.N = 4 from N_0)

theorem sum_block (t : Fin cfg0.N) (r : Fin 1024) :
    bsum (iblk m c 0 t) (iblk m c 1 t) (iblk m c 2 t) r = rsum (m ((c : Thread nD τ).loc main_arg0)) (m ((c : Thread nD τ).loc main_arg1)) (m ((c : Thread nD τ).loc main_arg2)) ⟨t.val * 1024 + r, by have := lt4 t; omega⟩ := by
  funext j
  rw [bsum_at, rsum_at]
  congr 1
  · refine Finset.sum_congr rfl fun k _ => ?_
    congr 1 <;> blk_ext [iblk, V, idx t]
  · blk_ext [iblk, V, idx t]

theorem gain_block (t : Fin cfg0.N) (j : Fin 1024) :
    (iblk m c 3 t : Vec Ideal S1x1024 .f32) (ix2 0 j) = (m ((c : Thread nD τ).loc main_arg3)) (ix2 0 j) := by
  blk_ext [iblk, V, idx t]

theorem final_sum : (dats m 0 c).arrAt 4 cfg0.N = total (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  frame_out
  idx_vars y
  refine (pay1_at ..).trans ?_
  rw [sum_block, ← total_at]
  blk_ext [idx t]

theorem final_normed : (dats m 0 c).arrAt 5 cfg0.N = scaled (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  idx_vars y
  refine (pay2_at ..).trans ?_
  rw [sum_block, gain_block, ← scaled_at]
  blk_ext [idx t]

end Cert.Kernel17Ideal.Norm

namespace Cert.Reference17Ideal.Norm

open Idealize.ShloMosaic Idealize.ShloMosaic.TcCoe Cert.Reference17Ideal Cert.Reference17Ideal.Gen Cert.Norm Cert.Kernel17Ideal.Norm

variable (a : FVec Ideal S4096x1024 .bf16) (b : FVec Ideal S1024x1024 .bf16) (x : FVec Ideal S4096x1024 .f32) (g : FVec Ideal S1x1024 .f32)

/-- The rows the reference norms. -/
def sums : FVec Ideal S4096x1024 .f32 :=
  addf x (Host.dotGeneral dot_S4096x1024_S1024x1024_S4096x1024_1_0_0_1_n_n none (extf .f32 a bitsLt_bf16_f32) (extf .f32 b bitsLt_bf16_f32))

theorem sums_at (R : Fin 4096) (j : Fin 1024) : sums a b x (ix2 R j) = rsum a b x R j := by
  rw [rsum_at, add_comm]
  pointwise [sums]

/-- The rows' means of squares, with `eps` added. -/
def squares (y : FVec Ideal S4096x1024 .f32) : FVec Ideal S4096x1 .f32 :=
  addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normed rows. -/
def norms : FVec Ideal S4096x1024 .bf16 :=
  truncf .bf16 (mulf (mulf (sums a b x) (broadcastInDim S4096x1024 ![0, 1] bcast_S4096x1_S4096x1024_0_1 (Host.rsqrt (squares (sums a b x))))) (broadcastInDim S4096x1024 ![0, 1] bcast_S1x1024_S4096x1024_0_1 g)) bitsLt_bf16_f32

theorem sums_eq : sums a b x = total a b x := by
  funext y
  idx_vars y
  rw [sums_at, total_at]

theorem norms_eq : norms a b x g = scaled a b x g := by
  funext y
  idx_vars y
  rw [scaled_at]
  pointwise [norms, squares, sums_at, normed, rinv, square, len, eps]

end Cert.Reference17Ideal.Norm

namespace Cert.Norm.K17

open Idealize.ShloMosaic Idealize.ShloMosaic.TcCoe Idealize.SL.Sem

/-- The reference ends with its arguments unchanged; it declares no semaphore, so all read zero. -/
theorem frame_reference (m : (ℓ : Loc Cert.Reference17Ideal.nD Cert.Reference17Ideal.τ Cert.Reference17Ideal.sig) → Buf (Elt Ideal) ℓ)
    (ρ : Dev Cert.Reference17Ideal.nD → PrngReg) :
    θ_run (Cert.Reference17Ideal.defs (F := Ideal)) (onTc (τ := Cert.Reference17Ideal.τ) (Cert.Reference17Ideal.main (F := Ideal))) ⟨m, fun _ => 0, ρ⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0) :=
  (θ_run _ _ _).mono (fun r h => ⟨fun c => (h c).2.2, sem_eq_zero_of_no_sems (by decide) r.2⟩) (Cert.Reference17Ideal.Value.run m ρ)

/-- The kernel's rows and normed rows are the reference's. -/
theorem algebraic : Cert.algebraic_Kernel17Ideal_Reference17Ideal
    (hKernel17Ideal := Cert.Kernel17Ideal.Gen.facts) (hReference17Ideal := Cert.Reference17Ideal.Gen.facts) := by
  intro m ρ m' ρ' _ hag
  refine ⟨fun c => (Cert.Kernel17Ideal.Gen.dats m 0 c).arrAt 4 Cert.Kernel17Ideal.cfg0.N, fun c => (Cert.Kernel17Ideal.Gen.dats m 0 c).arrAt 5 Cert.Kernel17Ideal.cfg0.N,
    Cert.Kernel17Ideal.Value.run_blocks m ρ, (θ_run _ _ _).mono (fun r h c => ?_) (Cert.Reference17Ideal.Value.run m' ρ')⟩
  obtain ⟨h0, h1, hargs⟩ := h c
  obtain ⟨a0, a1, a2, a3⟩ := hag c
  refine ⟨h0.trans ?_, h1.trans ?_, hargs⟩
  · rw [a0, a1, a2]
    exact (Cert.Reference17Ideal.Norm.sums_eq _ _ _).trans (Cert.Kernel17Ideal.Norm.final_sum m c).symm
  · rw [a0, a1, a2, a3]
    exact (Cert.Reference17Ideal.Norm.norms_eq _ _ _ _).trans (Cert.Kernel17Ideal.Norm.final_normed m c).symm

end Cert.Norm.K17

end
-- ==== Proof.Norm.DownBlock.lean ====
/- The down projection, its residual connection, the loss and the loss's gradient: what one grid point of the call leaves. -/
module

public import proofs.«01_k».proof.Proof.Gen.Kernel18Ideal.Value
public import proofs.«01_k».proof.Proof.Norm.Maths
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Norm

open Idealize.ShloMosaic

/-- A half, and 1/1024, as the kernel's constants. -/
def half : EReal := Ideal.ofBits .f32 0x3F000000#32
def share : EReal := Ideal.ofBits .f32 0x3A800000#32

/-- The loss of a row with the error `e`, not halved. -/
def rowLoss (e : Row) : EReal := Ideal.div (∑ j : Fin 1024, e j * e j) len

theorem half_pos : half = ((1 / 2 : ℝ) : EReal) := by
  unfold half
  simp [Ideal.ofBits, Ideal.ieee, -EReal.coe_mul]; norm_num

theorem share_eq : share = ((1 / 1024 : ℝ) : EReal) := by
  unfold share
  simp [Ideal.ofBits, Ideal.ieee, -EReal.coe_mul]; norm_num

/-- The gradient of half the mean of squares: twice half the error over the length. -/
theorem dout_eq (e : EReal) : e * Ideal.div (half * Ideal.ofBits .f32 0x3F800000#32) len + Ideal.div (half * Ideal.ofBits .f32 0x3F800000#32) len * e = e * share := by
  rw [Cert.Attention.ofBits_one, mul_one, half_pos, len_eq, Ideal.div_coe (by norm_num), share_eq, ← EReal.coe_mul, mul_comm _ e, add_self, mul_assoc, ← EReal.coe_mul]
  congr 2
  norm_num

/-- Half a sum is the sum of the halves. -/
theorem half_sum {n : ℕ} (f : Fin n → EReal) : half * ∑ i, f i = ∑ i, half * f i := by
  rw [half_pos, mul_comm, ← Cert.Attention.sum_mul_coe _ (by norm_num)]
  exact Finset.sum_congr rfl fun i _ => mul_comm _ _

end Cert.Norm

namespace Cert.Kernel18Ideal.Norm

open Idealize.ShloMosaic Cert.Kernel18Ideal Cert.Kernel18Ideal.Gen Cert.Norm

variable (a : Vec Ideal S1024x2816 .bf16) (b : Vec Ideal S2816x1024 .bf16) (x : Vec Ideal S1024x1024 .f32) (g : Vec Ideal S1x1024 .f32) (y : Vec Ideal S1024x1024 .f32) (acc : Vec Ideal S1x1024 .f32) (sum : Vec Ideal S1x1 .f32)
  (r : Fin 1024) (j : Fin 1024) (z w : Fin 1)

/-- Row `r` of a block of the product, and the residual connection's row. -/
def bsum : Row := fun j => (∑ k : Fin 2816, a (ix2 r k) * b (ix2 k j)) + x (ix2 r j)

theorem bsum_at : bsum a b x r j = (∑ k : Fin 2816, a (ix2 r k) * b (ix2 k j)) + x (ix2 r j) := rfl

/-- Row `r`'s error. -/
def berr : Row := fun j => normed (bsum a b x r) j * g (ix2 0 j) - y (ix2 r j)

theorem berr_at : berr a b x g y r j = normed (bsum a b x r) j * g (ix2 0 j) - y (ix2 r j) := rfl

/-- The gradient of the normed row `r`, before the gain. -/
def bpre : Row := fun j => berr a b x g y r j * share * g (ix2 0 j)

theorem bpre_at : bpre a b x g y r j = berr a b x g y r j * share * g (ix2 0 j) := rfl

theorem pay7_at : k0_pay7 a b x (ix2 r j) = bsum a b x r j := by
  pointwise [k0_pay7, bsum_at]

theorem pay8_at : k0_pay8 a b x (ix2 r z) = rinv (bsum a b x r) := by
  pointwise [k0_pay8, pay7_at, rinv, square, len, eps]

theorem pay9_at : k0_pay9 a b x (ix2 r j) = normed (bsum a b x r) j := by
  pointwise [k0_pay9, pay7_at, pay8_at, normed]

theorem pay10_at : k0_pay10 a b x g y (ix2 r j) = berr a b x g y r j := by
  pointwise [k0_pay10, pay9_at, berr_at]

theorem pay1_at : k0_pay1 (k0_pay10 a b x g y) (ix2 r j) = berr a b x g y r j * share := by
  pointwise [k0_pay1, pay10_at, share]

theorem pay2_at : k0_pay2 g (k0_pay8 a b x) (k0_pay9 a b x) (k0_pay10 a b x g y) (ix2 r j) = grad (bsum a b x r) (bpre a b x g y r) j := by
  pointwise [k0_pay2, pay1_at, pay8_at, pay9_at, grad, bpre_at, len]

/-- What a point adds to the gain's gradient. -/
def bgain : EReal := ∑ r : Fin 1024, berr a b x g y r j * share * normed (bsum a b x r) j

theorem pay4_at : k0_pay4 (k0_pay9 a b x) (k0_pay10 a b x g y) acc (ix2 z j) = acc (ix2 z j) + bgain a b x g y j := by
  pointwise [k0_pay4, pay1_at, pay9_at, bgain]

/-- What a point adds to the loss. -/
def bloss : EReal := half * ∑ r : Fin 1024, rowLoss (berr a b x g y r)

theorem pay11_at : k0_pay11 a b x g y sum (ix2 z w) = sum (ix2 z w) + bloss a b x g y := by
  pointwise [k0_pay11, pay10_at, bloss, rowLoss, half, len]

theorem zeros_at : k0_pay5 (F := Ideal) (ix2 z j) = 0 := by
  pointwise [k0_pay5]

theorem zero_at : k0_pay6 (F := Ideal) (ix2 z w) = 0 := by
  pointwise [k0_pay6]

/-! ## The point's outputs -/

variable (c : Dev nD) (i : grid0.Coords) (arg1 : Memref sig .tc .vmem S1024x2816 .bf16) (harg1 : arg1.IsWhole) (arg2 : Memref sig .tc .vmem S2816x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x1 .f32) (harg9 : arg9.IsWhole)

theorem outA_dx (hc0 : cond0_0 i) :
    out0_A_5 c i arg1 harg1 arg2 harg2 arg3 harg3 arg4 harg4 arg5 harg5 arg6 harg6 arg7 harg7 arg8 harg8 arg9 harg9 hc0 a b x g y (ix2 r j) = grad (bsum a b x r) (bpre a b x g y r) j := by
  frame_open
  simp (disch := decide) only [↓ View.readCov_skip, ↓ View.readCov_cons_toLoadRect, ↓ View.readCov_fill]
  frame_out
  exact pay2_at ..

theorem outA_dxb (hc0 : cond0_0 i) :
    out0_A_6 c i arg1 harg1 arg2 harg2 arg3 harg3 arg4 harg4 arg5 harg5 arg6 harg6 arg7 harg7 arg8 harg8 arg9 harg9 hc0 a b x g y (ix2 r j) = grad (bsum a b x r) (bpre a b x g y r) j := by
  frame_open
  simp (disch := decide) only [↓ View.readCov_skip, ↓ View.readCov_cons_toLoadRect, ↓ View.readCov_fill]
  frame_out
  exact pay2_at ..

theorem outA_dg (hc0 : cond0_0 i) :
    out0_A_7 c i arg1 harg1 arg2 harg2 arg3 harg3 arg4 harg4 arg5 harg5 arg6 harg6 arg7 harg7 arg8 harg8 arg9 harg9 hc0 a b x g y (ix2 z j) = bgain a b x g y j := by
  frame_open
  simp (disch := decide) only [↓ View.readCov_skip, ↓ View.readCov_cons_toLoadRect, ↓ View.readCov_fill]
  frame_out
  rw [pay4_at, zeros_at, zero_add]

theorem outA_loss (hc0 : cond0_0 i) :
    out0_A_8 c i arg1 harg1 arg2 harg2 arg3 harg3 arg4 harg4 arg5 harg5 arg6 harg6 arg7 harg7 arg8 harg8 arg9 harg9 hc0 a b x g y (ix2 z w) = bloss a b x g y := by
  frame_open
  simp (disch := decide) only [↓ View.readCov_skip, ↓ View.readCov_cons_toLoadRect, ↓ View.readCov_fill]
  frame_out
  rw [pay11_at, zero_at, zero_add]

theorem outB_dx (hc0 : ¬cond0_0 i) :
    out0_B_5 c i arg1 harg1 arg2 harg2 arg3 harg3 arg4 harg4 arg5 harg5 arg6 harg6 arg7 harg7 arg8 harg8 arg9 harg9 hc0 a b x g y acc sum (ix2 r j) = grad (bsum a b x r) (bpre a b x g y r) j := by
  frame_open
  simp (disch := decide) only [↓ View.readCov_skip, ↓ View.readCov_cons_toLoadRect, ↓ View.readCov_fill]
  frame_out
  exact pay2_at ..

theorem outB_dxb (hc0 : ¬cond0_0 i) :
    out0_B_6 c i arg1 harg1 arg2 harg2 arg3 harg3 arg4 harg4 arg5 harg5 arg6 harg6 arg7 harg7 arg8 harg8 arg9 harg9 hc0 a b x g y acc sum (ix2 r j) = grad (bsum a b x r) (bpre a b x g y r) j := by
  frame_open
  simp (disch := decide) only [↓ View.readCov_skip, ↓ View.readCov_cons_toLoadRect, ↓ View.readCov_fill]
  frame_out
  exact pay2_at ..

theorem outB_dg (hc0 : ¬cond0_0 i) :
    out0_B_7 c i arg1 harg1 arg2 harg2 arg3 harg3 arg4 harg4 arg5 harg5 arg6 harg6 arg7 harg7 arg8 harg8 arg9 harg9 hc0 a b x g y acc sum (ix2 z j) = acc (ix2 z j) + bgain a b x g y j := by
  frame_open
  simp (disch := decide) only [↓ View.readCov_skip, ↓ View.readCov_cons_toLoadRect, ↓ View.readCov_fill]
  frame_out
  exact pay4_at ..

theorem outB_loss (hc0 : ¬cond0_0 i) :
    out0_B_8 c i arg1 harg1 arg2 harg2 arg3 harg3 arg4 harg4 arg5 harg5 arg6 harg6 arg7 harg7 arg8 harg8 arg9 harg9 hc0 a b x g y acc sum (ix2 z w) = sum (ix2 z w) + bloss a b x g y := by
  frame_open
  simp (disch := decide) only [↓ View.readCov_skip, ↓ View.readCov_cons_toLoadRect, ↓ View.readCov_fill]
  frame_out
  exact pay11_at ..

end Cert.Kernel18Ideal.Norm

end
-- ==== Proof.Norm.DownArray.lean ====
/- The down projection, its residual connection, the loss and the loss's gradient: the arrays the call leaves. -/
module

public import proofs.«01_k».proof.Proof.Norm.DownBlock

@[expose] public section

set_option maxRecDepth 16384

noncomputable section

namespace Cert.Kernel18Ideal.Norm

open Idealize.ShloMosaic Idealize.ShloMosaic.TcCoe Cert.Kernel18Ideal Cert.Kernel18Ideal.Gen Cert.Kernel18Ideal.Value Cert.Norm

/-- Row `R` of the product, and the residual connection's row. -/
def rsum (a : FVec Ideal S4096x2816 .bf16) (b : FVec Ideal S2816x1024 .bf16) (x : FVec Ideal S4096x1024 .f32) (R : Fin 4096) : Row := fun j => (∑ k : Fin 2816, a (ix2 R k) * b (ix2 k j)) + x (ix2 R j)

theorem rsum_at (a : FVec Ideal S4096x2816 .bf16) (b : FVec Ideal S2816x1024 .bf16) (x : FVec Ideal S4096x1024 .f32) (R : Fin 4096) (j : Fin 1024) :
    rsum a b x R j = (∑ k : Fin 2816, a (ix2 R k) * b (ix2 k j)) + x (ix2 R j) := rfl

/-- Row `R`'s error. -/
def rerr (a : FVec Ideal S4096x2816 .bf16) (b : FVec Ideal S2816x1024 .bf16) (x : FVec Ideal S4096x1024 .f32) (g : FVec Ideal S1x1024 .f32) (y : FVec Ideal S4096x1024 .f32) (R : Fin 4096) : Row := fun j => normed (rsum a b x R) j * g (ix2 0 j) - y (ix2 R j)

theorem rerr_at (a : FVec Ideal S4096x2816 .bf16) (b : FVec Ideal S2816x1024 .bf16) (x : FVec Ideal S4096x1024 .f32) (g : FVec Ideal S1x1024 .f32) (y : FVec Ideal S4096x1024 .f32) (R : Fin 4096) (j : Fin 1024) :
    rerr a b x g y R j = normed (rsum a b x R) j * g (ix2 0 j) - y (ix2 R j) := rfl

/-- The gradient of the normed row `R`, before the gain. -/
def rpre (a : FVec Ideal S4096x2816 .bf16) (b : FVec Ideal S2816x1024 .bf16) (x : FVec Ideal S4096x1024 .f32) (g : FVec Ideal S1x1024 .f32) (y : FVec Ideal S4096x1024 .f32) (R : Fin 4096) : Row := fun j => rerr a b x g y R j * share * g (ix2 0 j)

theorem rpre_at (a : FVec Ideal S4096x2816 .bf16) (b : FVec Ideal S2816x1024 .bf16) (x : FVec Ideal S4096x1024 .f32) (g : FVec Ideal S1x1024 .f32) (y : FVec Ideal S4096x1024 .f32) (R : Fin 4096) (j : Fin 1024) :
    rpre a b x g y R j = rerr a b x g y R j * share * g (ix2 0 j) := rfl

/-- The rows' gradient. -/
def dx (a : FVec Ideal S4096x2816 .bf16) (b : FVec Ideal S2816x1024 .bf16) (x : FVec Ideal S4096x1024 .f32) (g : FVec Ideal S1x1024 .f32) (y : FVec Ideal S4096x1024 .f32) : FVec Ideal S4096x1024 .f32 := fun p => grad (rsum a b x (p 0)) (rpre a b x g y (p 0)) (p 1)

theorem dx_at (a : FVec Ideal S4096x2816 .bf16) (b : FVec Ideal S2816x1024 .bf16) (x : FVec Ideal S4096x1024 .f32) (g : FVec Ideal S1x1024 .f32) (y : FVec Ideal S4096x1024 .f32) (R : Fin 4096) (j : Fin 1024) :
    dx a b x g y (ix2 R j) = grad (rsum a b x R) (rpre a b x g y R) j := rfl

/-- The gain's gradient. -/
def dgain (a : FVec Ideal S4096x2816 .bf16) (b : FVec Ideal S2816x1024 .bf16) (x : FVec Ideal S4096x1024 .f32) (g : FVec Ideal S1x1024 .f32) (y : FVec Ideal S4096x1024 .f32) : FVec Ideal S1x1024 .f32 := fun p => ∑ R : Fin 4096, rerr a b x g y R (p 1) * share * normed (rsum a b x R) (p 1)

theorem dgain_at (a : FVec Ideal S4096x2816 .bf16) (b : FVec Ideal S2816x1024 .bf16) (x : FVec Ideal S4096x1024 .f32) (g : FVec Ideal S1x1024 .f32) (y : FVec Ideal S4096x1024 .f32) (z : Fin 1) (j : Fin 1024) :
    dgain a b x g y (ix2 z j) = ∑ R : Fin 4096, rerr a b x g y R j * share * normed (rsum a b x R) j := rfl

/-- The loss. -/
def loss (a : FVec Ideal S4096x2816 .bf16) (b : FVec Ideal S2816x1024 .bf16) (x : FVec Ideal S4096x1024 .f32) (g : FVec Ideal S1x1024 .f32) (y : FVec Ideal S4096x1024 .f32) : FVec Ideal S1x1 .f32 := fun _ => half * ∑ R : Fin 4096, rowLoss (rerr a b x g y R)

theorem loss_at (a : FVec Ideal S4096x2816 .bf16) (b : FVec Ideal S2816x1024 .bf16) (x : FVec Ideal S4096x1024 .f32) (g : FVec Ideal S1x1024 .f32) (y : FVec Ideal S4096x1024 .f32) (p : S1x1.Idx) :
    loss a b x g y p = half * ∑ R : Fin 4096, rowLoss (rerr a b x g y R) := rfl

variable (m : (ℓ : Loc nD τ sig) → Buf (Elt Ideal) ℓ) (c : Dev nD)

/-- Where each point's blocks lie. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![t.val, 0] :=
  (by decide +kernel : ∀ t : Fin grid0.N, _)

theorem lt4 (t : Fin cfg0.N) : t.val < 4 := lt_of_lt_of_eq t.isLt (show cfg0.N = 4 from N_0)

theorem sum_block (t : Fin cfg0.N) (r : Fin 1024) :
    bsum (iblk m c 0 t) (iblk m c 1 t) (iblk m c 2 t) r = rsum (m ((c : Thread nD τ).loc main_arg0)) (m ((c : Thread nD τ).loc main_arg1)) (m ((c : Thread nD τ).loc main_arg2)) ⟨t.val * 1024 + r, by have := lt4 t; omega⟩ := by
  funext j
  rw [bsum_at, rsum_at]
  congr 1
  · refine Finset.sum_congr rfl fun k _ => ?_
    congr 1 <;> blk_ext [iblk, V, idx t]
  · blk_ext [iblk, V, idx t]

theorem gain_block (t : Fin cfg0.N) (j : Fin 1024) :
    (iblk m c 3 t : Vec Ideal S1x1024 .f32) (ix2 0 j) = (m ((c : Thread nD τ).loc main_arg3)) (ix2 0 j) := by
  blk_ext [iblk, V, idx t]

theorem target_block (t : Fin cfg0.N) (r : Fin 1024) (j : Fin 1024) :
    (iblk m c 4 t : Vec Ideal S1024x1024 .f32) (ix2 r j) = (m ((c : Thread nD τ).loc main_arg4)) (ix2 ⟨t.val * 1024 + r, by have := lt4 t; omega⟩ j) := by
  blk_ext [iblk, V, idx t]

theorem err_block (t : Fin cfg0.N) (r : Fin 1024) :
    berr (iblk m c 0 t) (iblk m c 1 t) (iblk m c 2 t) (iblk m c 3 t) (iblk m c 4 t) r = rerr (m ((c : Thread nD τ).loc main_arg0)) (m ((c : Thread nD τ).loc main_arg1)) (m ((c : Thread nD τ).loc main_arg2)) (m ((c : Thread nD τ).loc main_arg3)) (m ((c : Thread nD τ).loc main_arg4)) ⟨t.val * 1024 + r, by have := lt4 t; omega⟩ := by
  funext j
  rw [berr_at, rerr_at, sum_block, gain_block, target_block]

theorem pre_block (t : Fin cfg0.N) (r : Fin 1024) :
    bpre (iblk m c 0 t) (iblk m c 1 t) (iblk m c 2 t) (iblk m c 3 t) (iblk m c 4 t) r = rpre (m ((c : Thread nD τ).loc main_arg0)) (m ((c : Thread nD τ).loc main_arg1)) (m ((c : Thread nD τ).loc main_arg2)) (m ((c : Thread nD τ).loc main_arg3)) (m ((c : Thread nD τ).loc main_arg4)) ⟨t.val * 1024 + r, by have := lt4 t; omega⟩ := by
  funext j
  rw [bpre_at, rpre_at, err_block, gain_block]

/-- Point `t` leaves its rows of the gradient. -/
theorem outs_dx (t : Fin cfg0.N) (r : Fin 1024) (j : Fin 1024) :
    (outsAt0 m c t.val t.isLt).1 (ix2 r j) = grad (bsum (iblk m c 0 t) (iblk m c 1 t) (iblk m c 2 t) r) (bpre (iblk m c 0 t) (iblk m c 1 t) (iblk m c 2 t) (iblk m c 3 t) (iblk m c 4 t) r) j := by
  by_cases h0 : t.val % 4 = 0
  · rw [outsAt0_A m c t h0]
    dsimp only
    apply outA_dx
  · rw [outsAt0_B m c t h0]
    dsimp only
    apply outB_dx

theorem final_dx : (dats m 0 c).arrAt 5 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  idx_vars y
  refine (outs_dx m c t y0 y1).trans ?_
  rw [sum_block, pre_block, ← dx_at]
  blk_ext [idx t]

/-- Point `t` leaves its rows of the gradient. -/
theorem outs_dxb (t : Fin cfg0.N) (r : Fin 1024) (j : Fin 1024) :
    (outsAt0 m c t.val t.isLt).2.1 (ix2 r j) = grad (bsum (iblk m c 0 t) (iblk m c 1 t) (iblk m c 2 t) r) (bpre (iblk m c 0 t) (iblk m c 1 t) (iblk m c 2 t) (iblk m c 3 t) (iblk m c 4 t) r) j := by
  by_cases h0 : t.val % 4 = 0
  · rw [outsAt0_A m c t h0]
    dsimp only
    apply outA_dxb
  · rw [outsAt0_B m c t h0]
    dsimp only
    apply outB_dxb

theorem final_dxb : (dats m 0 c).arrAt 6 cfg0.N = dx (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6]
  idx_vars y
  refine (outs_dxb m c t y0 y1).trans ?_
  rw [sum_block, pre_block, ← dx_at]
  blk_ext [idx t]

/-- The last point. -/
def tlast : Fin cfg0.N := ⟨3, by rw [show cfg0.N = 4 from N_0]; omega⟩

theorem outs_dg_first (t : Fin cfg0.N) (h0 : t.val % 4 = 0) (y : S1x1024.Idx) :
    (outsAt0 m c t.val t.isLt).2.2.1 y = 0 + bgain (iblk m c 0 t) (iblk m c 1 t) (iblk m c 2 t) (iblk m c 3 t) (iblk m c 4 t) (y 1) := by
  idx_vars y
  rw [outsAt0_A m c t h0, zero_add]
  dsimp only
  apply outA_dg

theorem outs_dg_next (t : Fin cfg0.N) (h0 : ¬t.val % 4 = 0) (y : S1x1024.Idx) :
    (outsAt0 m c t.val t.isLt).2.2.1 y = (outsAt0 m c (t.val - 1) (Nat.lt_of_le_of_lt (Nat.sub_le _ _) t.isLt)).2.2.1 y + bgain (iblk m c 0 t) (iblk m c 1 t) (iblk m c 2 t) (iblk m c 3 t) (iblk m c 4 t) (y 1) := by
  idx_vars y
  rw [outsAt0_B m c t h0]
  dsimp only
  apply outB_dg

/-- After the last point the sum is whole. -/
theorem outs_dg (y : S1x1024.Idx) :
    (outsAt0 m c tlast.val tlast.isLt).2.2.1 y = dgain (m ((c : Thread nD τ).loc main_arg0)) (m ((c : Thread nD τ).loc main_arg1)) (m ((c : Thread nD τ).loc main_arg2)) (m ((c : Thread nD τ).loc main_arg3)) (m ((c : Thread nD τ).loc main_arg4)) y := by
  rw [Pipeline.eq_sum_fin_of_reset_step_apply_last (fun n h => (outsAt0 m c n h).2.2.1) 4 (fun _ => (0 : EReal))
    (fun t (y : S1x1024.Idx) => bgain (iblk m c 0 t) (iblk m c 1 t) (iblk m c 2 t) (iblk m c 3 t) (iblk m c 4 t) (y 1)) (outs_dg_first m c) (outs_dg_next m c)
    (le_of_eq N_0) tlast (show 4 = cfg0.N from N_0.symm) y, zero_add]
  idx_vars y
  rw [dgain_at]
  unfold bgain
  refine Eq.trans ?_ (Fin.sum_mul_add_fin 4 1024 (fun R : Fin 4096 => rerr (m ((c : Thread nD τ).loc main_arg0)) (m ((c : Thread nD τ).loc main_arg1)) (m ((c : Thread nD τ).loc main_arg2)) (m ((c : Thread nD τ).loc main_arg3)) (m ((c : Thread nD τ).loc main_arg4)) R y1 * share * normed (rsum (m ((c : Thread nD τ).loc main_arg0)) (m ((c : Thread nD τ).loc main_arg1)) (m ((c : Thread nD τ).loc main_arg2)) R) y1) rfl)
  refine Finset.sum_congr rfl fun t _ => Finset.sum_congr rfl fun r _ => ?_
  rw [err_block, sum_block]

theorem final_dg : (dats m 0 c).arrAt 7 cfg0.N = dgain (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 7 tlast (by decide +kernel) _ fun y => ?_
  blk_simp
  rw [after0_7]
  exact outs_dg m c y

theorem outs_loss_first (t : Fin cfg0.N) (h0 : t.val % 4 = 0) (y : S1x1.Idx) :
    (outsAt0 m c t.val t.isLt).2.2.2 y = 0 + bloss (iblk m c 0 t) (iblk m c 1 t) (iblk m c 2 t) (iblk m c 3 t) (iblk m c 4 t) := by
  idx_vars y
  rw [outsAt0_A m c t h0, zero_add]
  dsimp only
  apply outA_loss

theorem outs_loss_next (t : Fin cfg0.N) (h0 : ¬t.val % 4 = 0) (y : S1x1.Idx) :
    (outsAt0 m c t.val t.isLt).2.2.2 y = (outsAt0 m c (t.val - 1) (Nat.lt_of_le_of_lt (Nat.sub_le _ _) t.isLt)).2.2.2 y + bloss (iblk m c 0 t) (iblk m c 1 t) (iblk m c 2 t) (iblk m c 3 t) (iblk m c 4 t) := by
  idx_vars y
  rw [outsAt0_B m c t h0]
  dsimp only
  apply outB_loss

/-- After the last point the sum is whole. -/
theorem outs_loss (y : S1x1.Idx) :
    (outsAt0 m c tlast.val tlast.isLt).2.2.2 y = loss (m ((c : Thread nD τ).loc main_arg0)) (m ((c : Thread nD τ).loc main_arg1)) (m ((c : Thread nD τ).loc main_arg2)) (m ((c : Thread nD τ).loc main_arg3)) (m ((c : Thread nD τ).loc main_arg4)) y := by
  rw [Pipeline.eq_sum_fin_of_reset_step_apply_last (fun n h => (outsAt0 m c n h).2.2.2) 4 (fun _ => (0 : EReal))
    (fun t (y : S1x1.Idx) => bloss (iblk m c 0 t) (iblk m c 1 t) (iblk m c 2 t) (iblk m c 3 t) (iblk m c 4 t)) (outs_loss_first m c) (outs_loss_next m c)
    (le_of_eq N_0) tlast (show 4 = cfg0.N from N_0.symm) y, zero_add]
  rw [loss_at]
  unfold bloss
  rw [← half_sum]
  refine congrArg (half * ·) ?_
  refine Eq.trans ?_ (Fin.sum_mul_add_fin 4 1024 (fun R : Fin 4096 => rowLoss (rerr (m ((c : Thread nD τ).loc main_arg0)) (m ((c : Thread nD τ).loc main_arg1)) (m ((c : Thread nD τ).loc main_arg2)) (m ((c : Thread nD τ).loc main_arg3)) (m ((c : Thread nD τ).loc main_arg4)) R)) rfl)
  refine Finset.sum_congr rfl fun t _ => Finset.sum_congr rfl fun r _ => ?_
  rw [err_block]

theorem final_loss : (dats m 0 c).arrAt 8 cfg0.N = loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_after_last 8 tlast (by decide +kernel) _ fun y => ?_
  blk_simp
  rw [after0_8]
  exact outs_loss m c y

end Cert.Kernel18Ideal.Norm

end
-- ==== Proof.Norm.DownClaims.lean ====
/- The down projection, its residual connection, the loss and the loss's gradient: the claims. -/
module

public import proofs.«01_k».proof.Defs
public import proofs.«01_k».proof.Proof.Gen.Reference18Ideal.Run
public import proofs.«01_k».proof.Proof.Norm.DownArray
public import proofs.«01_k».proof.Proof.Norm.Reference
public import Idealize.ShloMosaic.Adequacy

@[expose] public section

set_option maxRecDepth 16384

noncomputable section

namespace Cert.Reference18Ideal.Norm

open Idealize.ShloMosaic Idealize.ShloMosaic.TcCoe Cert.Reference18Ideal Cert.Reference18Ideal.Gen Cert.Norm
open Cert.Kernel18Ideal.Norm (rsum rsum_at rerr rerr_at rpre rpre_at loss_at)

/-- The rows the reference norms. -/
def sums (a : FVec Ideal S4096x2816 .bf16) (b : FVec Ideal S2816x1024 .bf16) (x : FVec Ideal S4096x1024 .f32) : FVec Ideal S4096x1024 .f32 :=
  addf x (Host.dotGeneral dot_S4096x2816_S2816x1024_S4096x1024_1_0_0_1_n_n none (extf .f32 a bitsLt_bf16_f32) (extf .f32 b bitsLt_bf16_f32))

/-- The errors. -/
def errs (a : FVec Ideal S4096x2816 .bf16) (b : FVec Ideal S2816x1024 .bf16) (x : FVec Ideal S4096x1024 .f32) (g : FVec Ideal S1x1024 .f32) (y : FVec Ideal S4096x1024 .f32) : FVec Ideal S4096x1024 .f32 :=
  subf (mulf (mulf (sums a b x) (broadcastInDim S4096x1024 ![0, 1] bcast_S4096x1_S4096x1024_0_1 (invs (sums a b x)))) (broadcastInDim S4096x1024 ![0, 1] bcast_S1x1024_S4096x1024_0_1 g)) y

/-- Half over the length, a number a row. -/
def halves : FVec Ideal S4096x1024 .f32 :=
  broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))

/-- The gradient of the normed rows. -/
def douts (a : FVec Ideal S4096x2816 .bf16) (b : FVec Ideal S2816x1024 .bf16) (x : FVec Ideal S4096x1024 .f32) (g : FVec Ideal S1x1024 .f32) (y : FVec Ideal S4096x1024 .f32) : FVec Ideal S4096x1024 .f32 := addf (mulf (errs a b x g y) halves) (mulf halves (errs a b x g y))

/-- The rows' gradient. -/
def dx (a : FVec Ideal S4096x2816 .bf16) (b : FVec Ideal S2816x1024 .bf16) (x : FVec Ideal S4096x1024 .f32) (g : FVec Ideal S1x1024 .f32) (y : FVec Ideal S4096x1024 .f32) : FVec Ideal S4096x1024 .f32 :=
  addf (addf (mulf (pres (douts a b x g y) g) (broadcastInDim S4096x1024 ![0, 1] bcast_S4096x1_S4096x1024_0_1 (invs (sums a b x)))) (mulf (sums a b x) (broadcastInDim S4096x1024 ![0] bcast_S4096_S4096x1024_0 (backs (douts a b x g y) (sums a b x) g)))) (mulf (broadcastInDim S4096x1024 ![0] bcast_S4096_S4096x1024_0 (backs (douts a b x g y) (sums a b x) g)) (sums a b x))

/-- The loss. -/
def loss (a : FVec Ideal S4096x2816 .bf16) (b : FVec Ideal S2816x1024 .bf16) (x : FVec Ideal S4096x1024 .f32) (g : FVec Ideal S1x1024 .f32) (y : FVec Ideal S4096x1024 .f32) : FVec Ideal S1x1 .f32 :=
  shapeCast _ (mulf (constant S_ .f32 0x3F000000#32) (Host.reduceAdd (Host.divf (Host.reduceAdd (mulf (errs a b x g y) (errs a b x g y)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_)) shapeCasts_S_S1x1

variable (a : FVec Ideal S4096x2816 .bf16) (b : FVec Ideal S2816x1024 .bf16) (x : FVec Ideal S4096x1024 .f32) (g : FVec Ideal S1x1024 .f32) (y : FVec Ideal S4096x1024 .f32)

theorem sums_at (R : Fin 4096) (j : Fin 1024) : sums a b x (ix2 R j) = rsum a b x R j := by
  rw [rsum_at, add_comm]
  pointwise [sums]

theorem row_eq (R : Fin 4096) : Cert.Norm.row (sums a b x) R = rsum a b x R := funext fun j => sums_at a b x R j

theorem errs_at (R : Fin 4096) (j : Fin 1024) : errs a b x g y (ix2 R j) = rerr a b x g y R j := by
  pointwise [errs, sums_at, invs_at, row_eq, rerr_at, normed]

theorem halves_at (R : Fin 4096) (j : Fin 1024) : halves (ix2 R j) = Ideal.div (half * Ideal.ofBits .f32 0x3F800000#32) len := by
  pointwise [halves, half, len]

theorem douts_at (R : Fin 4096) (j : Fin 1024) : douts a b x g y (ix2 R j) = rerr a b x g y R j * share := by
  rw [← dout_eq]
  pointwise [douts, halves_at, errs_at]

theorem pre_eq (R : Fin 4096) : Cert.Norm.pre (douts a b x g y) g R = rpre a b x g y R := by
  funext j
  exact congrArg (· * _) (douts_at a b x g y R j)

theorem dx_at (R : Fin 4096) (j : Fin 1024) : dx a b x g y (ix2 R j) = gradRef (rsum a b x R) (rpre a b x g y R) j := by
  rw [← row_eq, ← pre_eq]
  pointwise [dx, gradRef, backs_at, pres, invs_at, row_at, pre_at]

theorem dx_eq : dx a b x g y = Cert.Kernel18Ideal.Norm.dx a b x g y := by
  funext p
  idx_vars p
  rw [dx_at, gradRef_eq]
  rfl

theorem dgain_eq : Cert.Norm.dgain (douts a b x g y) (sums a b x) = Cert.Kernel18Ideal.Norm.dgain a b x g y := by
  funext p
  idx_vars p
  rw [Cert.Norm.dgain_at, Cert.Kernel18Ideal.Norm.dgain_at]
  refine Finset.sum_congr rfl fun R _ => ?_
  rw [douts_at, row_eq, mul_comm]

theorem loss_eq : loss a b x g y = Cert.Kernel18Ideal.Norm.loss a b x g y := by
  funext p
  rw [loss_at]
  idx_vars p
  pointwise [loss, errs_at, rowLoss, half, len]

variable (m : (ℓ : Loc nD τ sig) → Buf (Elt Ideal) ℓ) (c : Dev nD)

theorem out0_eq : Value.res_out0 m c = dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem out1_eq : Value.res_out1 m c = dx (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := rfl

theorem out2_eq : Value.res_out2 m c = Cert.Norm.dgain (douts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (sums (m ((c.tc : Thread nD τ).loc main_arg0)) (m ((c.tc : Thread nD τ).loc main_arg1)) (m ((c.tc : Thread nD τ).loc main_arg2))) := rfl

end Cert.Reference18Ideal.Norm

namespace Cert.Norm.K18

open Idealize.ShloMosaic Idealize.ShloMosaic.TcCoe Idealize.SL.Sem

/-- The reference ends with its arguments unchanged; it declares no semaphore, so all read zero. -/
theorem frame_reference (m : (ℓ : Loc Cert.Reference18Ideal.nD Cert.Reference18Ideal.τ Cert.Reference18Ideal.sig) → Buf (Elt Ideal) ℓ)
    (ρ : Dev Cert.Reference18Ideal.nD → PrngReg) :
    θ_run (Cert.Reference18Ideal.defs (F := Ideal)) (onTc (τ := Cert.Reference18Ideal.τ) (Cert.Reference18Ideal.main (F := Ideal))) ⟨m, fun _ => 0, ρ⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0) :=
  (θ_run _ _ _).mono (fun r h => ⟨fun c => (h c).2.2.2.2, sem_eq_zero_of_no_sems (by decide) r.2⟩) (Cert.Reference18Ideal.Value.run m ρ)

/-- The kernel's gradients and loss are the reference's. -/
theorem algebraic : Cert.algebraic_Kernel18Ideal_Reference18Ideal
    (hKernel18Ideal := Cert.Kernel18Ideal.Gen.facts) (hReference18Ideal := Cert.Reference18Ideal.Gen.facts) := by
  intro m ρ m' ρ' _ hag
  refine ⟨fun c => (Cert.Kernel18Ideal.Gen.dats m 0 c).arrAt 5 Cert.Kernel18Ideal.cfg0.N, fun c => (Cert.Kernel18Ideal.Gen.dats m 0 c).arrAt 6 Cert.Kernel18Ideal.cfg0.N,
    fun c => (Cert.Kernel18Ideal.Gen.dats m 0 c).arrAt 7 Cert.Kernel18Ideal.cfg0.N, fun c => (Cert.Kernel18Ideal.Gen.dats m 0 c).arrAt 8 Cert.Kernel18Ideal.cfg0.N,
    Cert.Kernel18Ideal.Value.run_blocks m ρ, (θ_run _ _ _).mono (fun r h c => ?_) (Cert.Reference18Ideal.Value.run m' ρ')⟩
  obtain ⟨h0, h1, h2, h3, hargs⟩ := h c
  obtain ⟨a0, a1, a2, a3, a4⟩ := hag c
  refine ⟨h0.trans ?_, h1.trans ?_, h2.trans ?_, h3.trans ?_, hargs⟩
  · refine (Cert.Reference18Ideal.Norm.out0_eq m' c).trans ?_
    rw [a0, a1, a2, a3, a4]
    exact (Cert.Reference18Ideal.Norm.dx_eq _ _ _ _ _).trans (Cert.Kernel18Ideal.Norm.final_dx m c).symm
  · refine (Cert.Reference18Ideal.Norm.out1_eq m' c).trans ?_
    rw [a0, a1, a2, a3, a4]
    exact (Cert.Reference18Ideal.Norm.dx_eq _ _ _ _ _).trans (Cert.Kernel18Ideal.Norm.final_dxb m c).symm
  · refine (Cert.Reference18Ideal.Norm.out2_eq m' c).trans ?_
    rw [a0, a1, a2, a3, a4]
    exact (Cert.Reference18Ideal.Norm.dgain_eq _ _ _ _ _).trans (Cert.Kernel18Ideal.Norm.final_dg m c).symm
  · rw [a0, a1, a2, a3, a4]
    exact (Cert.Reference18Ideal.Norm.loss_eq _ _ _ _ _).trans (Cert.Kernel18Ideal.Norm.final_loss m c).symm

end Cert.Norm.K18

end
-- ==== Proof.Norm.MemoryGain.lean ====
/- The memory norm's gain gradient. -/
module

public import proofs.«01_k».proof.Defs
public import proofs.«01_k».proof.Proof.Gen.Kernel19Ideal.Value
public import proofs.«01_k».proof.Proof.Gen.Reference19Ideal.Run
public import proofs.«01_k».proof.Proof.Norm.Maths
public import Idealize.ShloMosaic.Adequacy
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel19Ideal.Norm

open Idealize.ShloMosaic Idealize.ShloMosaic.TcCoe Cert.Kernel19Ideal Cert.Kernel19Ideal.Gen Cert.Kernel19Ideal.Value Cert.Norm

/-- Row `r` of the memory. -/
def rrow (x : FVec Ideal S512x1024 .f32) (r : Fin 512) : Row := fun i => x (ix2 r i)

theorem rrow_at (x : FVec Ideal S512x1024 .f32) (r : Fin 512) (i : Fin 1024) : rrow x r i = x (ix2 r i) := rfl

/-- The gain's gradient. -/
def dgain (x dh : FVec Ideal S512x1024 .f32) : FVec Ideal S1x1024 .f32 := fun y => ∑ r : Fin 512, dh (ix2 r (y 1)) * normed (rrow x r) (y 1)

theorem dgain_at (x dh : FVec Ideal S512x1024 .f32) (z : Fin 1) (j : Fin 1024) :
    dgain x dh (ix2 z j) = ∑ r : Fin 512, dh (ix2 r j) * normed (rrow x r) j := rfl

theorem pay2_at (x dh : Vec Ideal S512x1024 .f32) (acc : Vec Ideal S1x1024 .f32) (z : Fin 1) (j : Fin 1024) :
    k0_pay2 x acc dh (ix2 z j) = acc (ix2 z j) + dgain x dh (ix2 z j) := by
  rw [dgain_at]
  pointwise [k0_pay2, normed, rinv, square, rrow_at, len, eps]

theorem zeros_at (z : Fin 1) (j : Fin 1024) : k0_pay1 (F := Ideal) (ix2 z j) = 0 := by
  pointwise [k0_pay1]

theorem outA (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S1x1024 .f32) (harg3 : arg3.IsWhole) (hc0 : cond0_0 i)
    (x dh : Vec Ideal S512x1024 .f32) (z : Fin 1) (j : Fin 1024) :
    out0_A_2 c i arg1 harg1 arg2 harg2 arg3 harg3 hc0 x dh (ix2 z j) = dgain x dh (ix2 z j) := by
  frame_open
  simp (disch := decide) only [↓ View.readCov_skip, ↓ View.readCov_cons_toLoadRect, ↓ View.readCov_fill]
  frame_out
  rw [pay2_at, zeros_at, zero_add]

variable (m : (ℓ : Loc nD τ sig) → Buf (Elt Ideal) ℓ) (c : Dev nD)

/-- The one point's blocks are the arrays. -/
theorem idx : ∀ t : Fin cfg0.N, win0_0.index t = ![0, 0] ∧ win0_1.index t = ![0, 0] ∧ win0_2.index t = ![0, 0] :=
  (by decide +kernel : ∀ t : Fin grid0.N, _)

theorem x_block (t : Fin cfg0.N) (r : Fin 512) (j : Fin 1024) :
    (iblk m c 0 t : Vec Ideal S512x1024 .f32) (ix2 r j) = (m ((c : Thread nD τ).loc main_arg0)) (ix2 r j) := by
  blk_ext [iblk, V, idx t]

theorem dh_block (t : Fin cfg0.N) (r : Fin 512) (j : Fin 1024) :
    (iblk m c 1 t : Vec Ideal S512x1024 .f32) (ix2 r j) = (m ((c : Thread nD τ).loc main_arg1)) (ix2 r j) := by
  blk_ext [iblk, V, idx t]

theorem row_block (t : Fin cfg0.N) (r : Fin 512) : rrow (iblk m c 0 t) r = rrow (m ((c : Thread nD τ).loc main_arg0)) r :=
  funext fun j => x_block m c t r j

theorem final : (dats m 0 c).arrAt 2 cfg0.N = dgain (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  idx_vars y
  refine (outA ..).trans ?_
  have e : dgain (iblk m c 0 t) (iblk m c 1 t) (ix2 y0 y1) = dgain (m ((c : Thread nD τ).loc main_arg0)) (m ((c : Thread nD τ).loc main_arg1)) (ix2 y0 y1) := by
    rw [dgain_at, dgain_at]
    refine Finset.sum_congr rfl fun r _ => ?_
    rw [row_block, dh_block]
  rw [e]
  blk_ext [idx t]

end Cert.Kernel19Ideal.Norm

namespace Cert.Reference19Ideal.Norm

open Idealize.ShloMosaic Idealize.ShloMosaic.TcCoe Cert.Reference19Ideal Cert.Reference19Ideal.Gen Cert.Norm Cert.Kernel19Ideal.Norm

variable (x dh : FVec Ideal S512x1024 .f32)

/-- The rows' means of squares, with `eps` added. -/
def squares : FVec Ideal S512x1 .f32 :=
  addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32))

/-- The reference's gradient of the gain. -/
def term : FVec Ideal S1x1024 .f32 :=
  shapeCast _ (Host.reduceAdd (mulf (mulf x (broadcastInDim S512x1024 ![0, 1] bcast_S512x1_S512x1024_0_1 (Host.rsqrt (squares x)))) dh) (constant S_ .f32 0x00000000#32) reducesTo_S512x1024_S1024_d0 h_S_) shapeCasts_S1024_S1x1024

theorem term_eq : term x dh = dgain x dh := by
  funext y
  idx_vars y
  rw [dgain_at]
  simp only [mul_comm (dh _)]
  pointwise [term, squares, normed, rinv, square, rrow_at, len, eps]

end Cert.Reference19Ideal.Norm

namespace Cert.Norm.K19

open Idealize.ShloMosaic Idealize.ShloMosaic.TcCoe Idealize.SL.Sem

/-- The reference ends with its arguments unchanged; it declares no semaphore, so all read zero. -/
theorem frame_reference (m : (ℓ : Loc Cert.Reference19Ideal.nD Cert.Reference19Ideal.τ Cert.Reference19Ideal.sig) → Buf (Elt Ideal) ℓ)
    (ρ : Dev Cert.Reference19Ideal.nD → PrngReg) :
    θ_run (Cert.Reference19Ideal.defs (F := Ideal)) (onTc (τ := Cert.Reference19Ideal.τ) (Cert.Reference19Ideal.main (F := Ideal))) ⟨m, fun _ => 0, ρ⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0) :=
  (θ_run _ _ _).mono (fun r h => ⟨fun c => (h c).2, sem_eq_zero_of_no_sems (by decide) r.2⟩) (Cert.Reference19Ideal.Value.run m ρ)

/-- The kernel's gradient is the reference's. -/
theorem algebraic : Cert.algebraic_Kernel19Ideal_Reference19Ideal
    (hKernel19Ideal := Cert.Kernel19Ideal.Gen.facts) (hReference19Ideal := Cert.Reference19Ideal.Gen.facts) := by
  intro m ρ m' ρ' _ hag
  refine ⟨fun c => (Cert.Kernel19Ideal.Gen.dats m 0 c).arrAt 2 Cert.Kernel19Ideal.cfg0.N,
    Cert.Kernel19Ideal.Value.run_blocks m ρ, (θ_run _ _ _).mono (fun r h c => ?_) (Cert.Reference19Ideal.Value.run m' ρ')⟩
  obtain ⟨h0, hargs⟩ := h c
  obtain ⟨a0, a1⟩ := hag c
  refine ⟨h0.trans ?_, hargs⟩
  rw [a0, a1]
  exact (Cert.Reference19Ideal.Norm.term_eq _ _).trans (Cert.Kernel19Ideal.Norm.final m c).symm

end Cert.Norm.K19

end
-- ==== Proof.Norm.Layer.lean ====
/- The gradients of one row of the layer norm and of the activation after it, as functions of the row alone.
   The kernel's spelling of them and the reference's are equal where the activation's gradient times the gain is finite. -/
module

public import proofs.«01_k».proof.Proof.Norm.Maths

@[expose] public section

noncomputable section

namespace Cert.Layer

open Idealize.ShloMosaic
open Cert.Norm (eps eps_pos half_eq square_nonneg square_top sum_top)

/-- One row. -/
abbrev Row := Fin 512 → EReal

/-- 512, the length of a row. -/
def len : EReal := Ideal.ofBits .f32 0x44000000#32

/-- The mean of a row. -/
def mean (x : Row) : EReal := Ideal.div (∑ i : Fin 512, x i) len

/-- A row less its mean. -/
def cen (x : Row) (j : Fin 512) : EReal := x j - mean x

/-- The variance of a row, with `eps` added. -/
def var (x : Row) : EReal := Ideal.div (∑ i : Fin 512, cen x i * cen x i) len + eps

/-- One over its root. -/
def rinv (x : Row) : EReal := Ideal.rsqrt (var x)

/-- The normed row. -/
def normed (x : Row) (j : Fin 512) : EReal := cen x j * rinv x

/-- The row's gradient, for the gradient `p` of the normed row, in the kernel's spelling. -/
def grad (x p : Row) (j : Fin 512) : EReal :=
  rinv x * (p j - Ideal.div (∑ i : Fin 512, p i) len - normed x j * Ideal.div (∑ i : Fin 512, p i * normed x i) len)

/-- What the variance's gradient gives every entry of the row, in the reference's spelling. -/
def back (x p : Row) : EReal :=
  Ideal.div ((∑ i : Fin 512, cen x i * p i) * (Ideal.ofBits .f32 0xBF000000#32 * Ideal.div (rinv x) (var x))) len

/-- Twice an entry less the mean. -/
def twice (x : Row) (j : Fin 512) : EReal := Ideal.ofBits .f32 0x40000000#32 * cen x j

/-- The row's gradient in the reference's spelling. -/
def gradRef (x p : Row) (j : Fin 512) : EReal :=
  p j * rinv x + back x p * twice x j
    + Ideal.div ((∑ i : Fin 512, -(p i * rinv x)) + ∑ i : Fin 512, -(back x p * twice x i)) len

theorem len_eq : len = ((512 : ℝ) : EReal) := by
  unfold len
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem one_sub_one : (1 : EReal) - 1 = 0 := by
  rw [← EReal.coe_one, ← EReal.coe_sub, sub_self, EReal.coe_zero]

/-- A sum of numbers is a number. -/
theorem sum_real {f : Row} {u : Fin 512 → ℝ} (h : ∀ i, f i = u i) : ∑ i : Fin 512, f i = ((∑ i, u i : ℝ) : EReal) := by
  rw [Cert.Attention.coe_sum]
  exact Finset.sum_congr rfl fun i _ => h i

/-- The two spellings agree on finite rows. -/
theorem gradRef_eq_of_real {x p : Row} (hx : ∀ c, ∃ r : ℝ, x c = r) (hp : ∀ c, ∃ r : ℝ, p c = r) (j : Fin 512) : gradRef x p j = grad x p j := by
  choose u hu using hx
  choose v hv using hp
  obtain ⟨e, he, hE⟩ := eps_pos
  set w : Fin 512 → ℝ := fun i => u i - (∑ i, u i) * (1 / 512) with hw
  have hc : ∀ i, cen x i = w i := fun i => by
    unfold cen mean
    rw [sum_real hu, len_eq, Ideal.div_coe (by norm_num), hu, ← EReal.coe_mul, ← EReal.coe_sub]
  have w0 : ∑ i, w i = 0 := by
    rw [hw, Finset.sum_sub_distrib, Finset.sum_const, Finset.card_univ, Fintype.card_fin]
    simp only [nsmul_eq_mul]
    push_cast
    ring
  clear_value w
  set q : ℝ := (∑ c, w c * w c) * (1 / 512) + e with hq
  have q0 : 0 < q := by
    have : 0 ≤ ∑ c, w c * w c := Finset.sum_nonneg fun c _ => mul_self_nonneg _
    positivity
  have hs : var x = (q : EReal) := by
    unfold var
    rw [sum_real (u := fun i => w i * w i) fun i => by rw [hc i, EReal.coe_mul], len_eq, Ideal.div_coe (by norm_num), hE, ← EReal.coe_mul, ← EReal.coe_add]
  have hi : rinv x = ((Real.sqrt q)⁻¹ : ℝ) := by
    unfold rinv
    rw [hs, Ideal.rsqrt_coe, if_neg q0.not_gt, if_neg q0.ne']
  set r : ℝ := (Real.sqrt q)⁻¹ with hidef
  have iq : r * r = 1 / q := by
    rw [hidef, ← mul_inv, Real.mul_self_sqrt q0.le, one_div]
  clear_value r q
  have hb : back x p = (((∑ i, w i * v i) * (-(1 / 2) * (r * (1 / q))) * (1 / 512) : ℝ) : EReal) := by
    unfold back
    rw [sum_real (u := fun i => w i * v i) fun i => by rw [hc i, hv i, EReal.coe_mul], hi, hs, half_eq, len_eq, Ideal.div_coe q0.ne', Ideal.div_coe (by norm_num)]
    simp only [EReal.coe_mul]
  have ht : ∀ i, twice x i = ((2 * w i : ℝ) : EReal) := fun i => by
    unfold twice
    rw [two_eq, hc, EReal.coe_mul]
  have hn : ∀ i, normed x i = ((w i * r : ℝ) : EReal) := fun i => by
    unfold normed
    rw [hc, hi, EReal.coe_mul]
  unfold gradRef grad
  rw [hb, hi, sum_real (f := fun i => -(p i * (r : EReal))) (u := fun i => -(v i * r)) fun i => by rw [hv i, EReal.coe_neg, EReal.coe_mul],
    sum_real (f := fun i => -((((∑ i, w i * v i) * (-(1 / 2) * (r * (1 / q))) * (1 / 512) : ℝ) : EReal) * twice x i))
      (u := fun i => -((∑ i, w i * v i) * (-(1 / 2) * (r * (1 / q))) * (1 / 512) * (2 * w i))) fun i => by rw [ht i, ← EReal.coe_mul, ← EReal.coe_neg],
    sum_real hv, sum_real (f := fun i => p i * normed x i) (u := fun i => v i * (w i * r)) fun i => by rw [hv i, hn i, ← EReal.coe_mul],
    ht, hn, hv, len_eq, Ideal.div_coe (by norm_num), Ideal.div_coe (by norm_num), Ideal.div_coe (by norm_num)]
  simp only [← EReal.coe_mul, ← EReal.coe_add, ← EReal.coe_sub]
  congr 1
  have h1 : ∑ i, -((∑ i, w i * v i) * (-(1 / 2) * (r * (1 / q))) * (1 / 512) * (2 * w i)) = 0 := by
    rw [Finset.sum_neg_distrib, ← Finset.mul_sum, ← Finset.mul_sum, w0]
    simp
  have h2 : ∑ i, -(v i * r) = -((∑ i, v i) * r) := by
    rw [Finset.sum_neg_distrib, Finset.sum_mul]
  have h3 : ∑ i, v i * (w i * r) = (∑ i, w i * v i) * r := by
    rw [Finset.sum_mul]
    exact Finset.sum_congr rfl fun i _ => by ring
  rw [h1, h2, h3, ← iq]
  ring

/-- A row's mean square is infinite where an entry less the mean is not a number, and it is where the entry is not. -/
theorem var_eq_top {x : Row} {c : Fin 512} (h : ¬ ∃ r : ℝ, x c = r) : var x = ⊤ := by
  obtain ⟨e, _, hE⟩ := eps_pos
  have hc : ¬ ∃ r : ℝ, cen x c = r := by
    unfold cen
    generalize mean x = a
    generalize x c = b at h
    rintro ⟨r, hr⟩
    cases b using EReal.rec with
    | coe s => exact h ⟨s, rfl⟩
    | bot => simp [sub_eq_add_neg] at hr
    | top => cases a using EReal.rec with
      | coe s => simp [sub_eq_add_neg] at hr
      | bot => simp [sub_eq_add_neg] at hr
      | top => simp [sub_eq_add_neg] at hr
  unfold var
  rw [sum_top _ (fun i => square_nonneg (cen x i)) c (square_top hc), len_eq, Ideal.div_coe (by norm_num), EReal.top_mul_coe_of_pos (by norm_num), hE, EReal.top_add_coe]

/-- The two spellings agree: on a row that is not finite, both are zero. -/
theorem gradRef_eq (x : Row) {p : Row} (hp : ∀ c, ∃ r : ℝ, p c = r) (j : Fin 512) : gradRef x p j = grad x p j := by
  by_cases hx : ∀ c, ∃ r : ℝ, x c = r
  · exact gradRef_eq_of_real hx hp j
  · obtain ⟨d, hd⟩ := not_forall.1 hx
    have hs := var_eq_top hd
    have hi : rinv x = 0 := by
      unfold rinv
      rw [hs]
      rfl
    have hb : back x p = 0 := by
      unfold back
      rw [hi, hs, len_eq, Ideal.div_coe (by norm_num)]
      simp [Ideal.div]
    unfold gradRef grad
    rw [hi, hb, len_eq, Ideal.div_coe (by norm_num)]
    simp

/-- The logistic function. -/
def gate (h : EReal) : EReal := Ideal.div (Ideal.ofBits .f32 0x3F800000#32) (Ideal.ofBits .f32 0x3F800000#32 + Ideal.exp (-h))

/-- The activation's gradient in the kernel's spelling. -/
def act (d h : EReal) : EReal := d * (gate h * (Ideal.ofBits .f32 0x3F800000#32 + h * (Ideal.ofBits .f32 0x3F800000#32 - gate h)))

/-- The activation's gradient in the reference's spelling. -/
def actRef (d h : EReal) : EReal := h * d * (gate h * (Ideal.ofBits .f32 0x3F800000#32 - gate h)) + d * gate h

theorem gate_real (s : ℝ) : ∃ t : ℝ, gate s = t := by
  unfold gate
  rw [one_eq, ← EReal.coe_neg, Ideal.exp_coe, ← EReal.coe_add, Ideal.div_coe (by positivity), ← EReal.coe_mul]
  exact ⟨_, rfl⟩

theorem gate_top : gate ⊤ = 1 := by
  unfold gate
  rw [one_eq, EReal.neg_top, show Ideal.exp ⊥ = 0 from rfl, add_zero, Ideal.div_coe (by norm_num)]
  simp

theorem gate_bot : gate ⊥ = 0 := by
  unfold gate
  rw [one_eq, EReal.neg_bot, show Ideal.exp ⊤ = ⊤ from rfl, EReal.coe_add_top]
  simp [Ideal.div]

/-- The two spellings agree. -/
theorem actRef_eq (d : ℝ) (h : EReal) : actRef d h = act d h := by
  unfold actRef act
  cases h using EReal.rec with
  | coe s =>
    obtain ⟨t, ht⟩ := gate_real s
    rw [ht, one_eq]
    simp only [← EReal.coe_mul, ← EReal.coe_add, ← EReal.coe_sub]
    congr 1
    ring
  | bot => rw [gate_bot, one_eq]; simp
  | top => rw [gate_top, one_eq]; simp [one_sub_one]

/-- The activation's gradient is a number where the argument's is. -/
theorem act_real (d : ℝ) (h : EReal) : ∃ r : ℝ, act d h = r := by
  unfold act
  cases h using EReal.rec with
  | coe s =>
    obtain ⟨t, ht⟩ := gate_real s
    rw [ht, one_eq]
    simp only [← EReal.coe_mul, ← EReal.coe_add, ← EReal.coe_sub]
    exact ⟨_, rfl⟩
  | bot => rw [gate_bot]; exact ⟨0, by simp⟩
  | top => rw [gate_top, one_eq]; exact ⟨d, by simp [one_sub_one]⟩

end Cert.Layer

end
-- ==== Proof.Norm.MixBlock.lean ====
/- The gradients of the convolution's layer norm and of the activation after it: what one grid point of the call leaves. -/
module

public import proofs.«01_k».proof.Proof.Gen.Kernel20Ideal.Value
public import proofs.«01_k».proof.Proof.Norm.Layer
public import Idealize.ShloMosaic.Lib.Pointwise
public import Idealize.ShloMosaic.Lib.WritesUnit
public import Idealize.ShloMosaic.Lib.VecWindow
public import Idealize.ShloMosaic.Lib.Pipeline.ValueKit
public import Idealize.ShloMosaic.Lib.Pipeline.ReadBack

@[expose] public section

set_option maxRecDepth 16384

noncomputable section

namespace Cert.Kernel20Ideal.Layer

open Idealize.ShloMosaic Cert.Kernel20Ideal Cert.Kernel20Ideal.Gen Cert.Layer
open Cert.Norm (eps)

section Rows

variable {sig : RefSig} {κ : Kind} {sp : Space} {e : EltTy} {Val : EltTy → Type} (v : View sig κ sp S8x512 e) (f : v.ty.Contents Val) {o : ℕ}
  (inb : ∀ a : Fin 2, ![o, 0] a + ![1, 512] a ≤ S8x512.size a) (w : S1x512.Idx → Val e) (L : List (View.Piece Val S8x512 e)) (s : Fin 8) (j : Fin 512)

/-- The row that was stored last. -/
theorem row_last (h : s.val = o) : v.read Val (v.writes Val f (⟨Rect.unit ![o, 0] ![1, 512] inb, w⟩ :: L)) (ix2 s j) = w (ix2 0 j) :=
  View.read_writes_cons_rows_of_mem v f (off := ![o, 0]) (size := ![1, 512]) inb w L (ix2 s j) (ix2 (0 : Fin 1) j) rfl (by show s.val = o + 0; omega) rfl

/-- Another row. -/
theorem row_skip (h : s.val ≠ o) : v.read Val (v.writes Val f (⟨Rect.unit ![o, 0] ![1, 512] inb, w⟩ :: L)) (ix2 s j) = v.read Val (v.writes Val f L) (ix2 s j) :=
  View.read_writes_cons_rows_of_not_mem v f (off := ![o, 0]) (size := ![1, 512]) (W := 1) inb w L (ix2 s j) rfl rfl (by show s.val < o ∨ o + 1 ≤ s.val; omega)

end Rows

variable (x : Vec Ideal S1024x512 .f32) (d : Vec Ideal S1024x512 .bf16) (lg lb : Vec Ideal S1x512 .f32) (acc : Vec Ideal S8x512 .f32)
  (r : Fin 1024) (j : Fin 512) (z : Fin 1)

/-- Row `r` of a block. -/
def brow : Row := fun j => x (ix2 r j)

theorem brow_at : brow x r j = x (ix2 r j) := rfl

/-- The activation's argument. -/
def bhid : Row := fun j => normed (brow x r) j * lg (ix2 0 j) + lb (ix2 0 j)

theorem bhid_at : bhid x lg lb r j = normed (brow x r) j * lg (ix2 0 j) + lb (ix2 0 j) := rfl

/-- Its gradient. -/
def bact : Row := fun j => act (d (ix2 r j)) (bhid x lg lb r j)

theorem bact_at : bact x d lg lb r j = act (d (ix2 r j)) (bhid x lg lb r j) := rfl

/-- The gradient of the normed row `r`. -/
def bpre : Row := fun j => bact x d lg lb r j * lg (ix2 0 j)

theorem bpre_at : bpre x d lg lb r j = bact x d lg lb r j * lg (ix2 0 j) := rfl

theorem pay3_at : k0_pay3 x (ix2 r j) = cen (brow x r) j := by
  pointwise [k0_pay3, cen, mean, brow_at, len]

theorem pay4_at : k0_pay4 x (ix2 r z) = rinv (brow x r) := by
  pointwise [k0_pay4, pay3_at, rinv, var, eps, len]

theorem pay5_at : k0_pay5 x (ix2 r j) = normed (brow x r) j := by
  pointwise [k0_pay5, pay3_at, pay4_at, normed]

theorem pay6_at : k0_pay6 x lg lb (ix2 r j) = bhid x lg lb r j := by
  pointwise [k0_pay6, pay5_at, bhid_at]

theorem pay7_at : k0_pay7 x lg lb (ix2 r j) = gate (bhid x lg lb r j) := by
  pointwise [k0_pay7, pay6_at, gate, zero_sub]

theorem pay8_at : k0_pay8 d (ix2 r j) = d (ix2 r j) := by
  pointwise [k0_pay8]

theorem pay9_at : k0_pay9 x lg lb (ix2 r j) = bhid x lg lb r j * (Ideal.ofBits .f32 0x3F800000#32 - gate (bhid x lg lb r j)) := by
  pointwise [k0_pay9, pay6_at, pay7_at]

/-- The activation's gradient of a block, as the call's parts hand it on. -/
abbrev dhid := k0_pay10 (F := Ideal) (k0_pay7 x lg lb) (k0_pay8 d) (k0_pay9 x lg lb) (Scalar.ofBits .f32 0x3F800000#32)

theorem pay10_at : dhid x d lg lb (ix2 r j) = bact x d lg lb r j := by
  pointwise [k0_pay10, pay7_at, pay8_at, pay9_at, bact_at, act]

theorem pay11_at : k0_pay11 (k0_pay4 x) (k0_pay5 x) (k0_pay7 x lg lb) (k0_pay8 d) (k0_pay9 x lg lb) (Scalar.ofBits .f32 0x3F800000#32) lg (ix2 r j) = grad (brow x r) (bpre x d lg lb r) j := by
  pointwise [k0_pay11, k0_pay10, pay7_at, pay8_at, pay9_at, pay4_at, pay5_at, grad, bpre_at, bact_at, act, len]

/-- What a point adds to row `s` of the sums. -/
def bsums (s : Fin 8) (j : Fin 512) : EReal :=
  if s.val = 0 then ∑ r : Fin 1024, bact x d lg lb r j * normed (brow x r) j
  else if s.val = 1 then ∑ r : Fin 1024, bact x d lg lb r j
  else if s.val = 2 then ∑ r : Fin 1024, grad (brow x r) (bpre x d lg lb r) j
  else 0

theorem pay12_at (w : Vec Ideal S1x512 .f32) : k0_pay12 (k0_pay5 x) (k0_pay7 x lg lb) (k0_pay8 d) (k0_pay9 x lg lb) (FloatOps.ofBits (F := Ideal) .f32 0x3F800000#32) w (ix2 z j) = w (ix2 z j) + ∑ r : Fin 1024, bact x d lg lb r j * normed (brow x r) j := by
  pointwise [k0_pay12, k0_pay10, pay5_at, pay7_at, pay8_at, pay9_at, bact_at, act]

theorem pay13_at (w : Vec Ideal S1x512 .f32) : k0_pay13 (k0_pay7 x lg lb) (k0_pay8 d) (k0_pay9 x lg lb) (FloatOps.ofBits (F := Ideal) .f32 0x3F800000#32) w (ix2 z j) = w (ix2 z j) + ∑ r : Fin 1024, bact x d lg lb r j := by
  pointwise [k0_pay13, k0_pay10, pay7_at, pay8_at, pay9_at, bact_at, act]

theorem pay1_at (w : Vec Ideal S1x512 .f32) : k0_pay1 (k0_pay11 (k0_pay4 x) (k0_pay5 x) (k0_pay7 x lg lb) (k0_pay8 d) (k0_pay9 x lg lb) (FloatOps.ofBits (F := Ideal) .f32 0x3F800000#32) lg) w (ix2 z j) = w (ix2 z j) + ∑ r : Fin 1024, grad (brow x r) (bpre x d lg lb r) j := by
  have h : ∀ r, k0_pay11 (k0_pay4 x) (k0_pay5 x) (k0_pay7 x lg lb) (k0_pay8 d) (k0_pay9 x lg lb) (FloatOps.ofBits (F := Ideal) .f32 0x3F800000#32) lg (ix2 r j) = grad (brow x r) (bpre x d lg lb r) j := fun r => pay11_at ..
  generalize k0_pay11 (k0_pay4 x) (k0_pay5 x) (k0_pay7 x lg lb) (k0_pay8 d) (k0_pay9 x lg lb) (FloatOps.ofBits (F := Ideal) .f32 0x3F800000#32) lg = V at h
  pointwise [k0_pay1, h]

theorem zeros_at (s : Fin 8) : k0_pay2 (F := Ideal) (ix2 s j) = 0 := by
  pointwise [k0_pay2]

theorem zeros_all (y : S8x512.Idx) : k0_pay2 (F := Ideal) y = 0 := by
  idx_vars y
  exact zeros_at ..

variable (c : Dev nD) (i : grid0.Coords) (arg1 : Memref sig .tc .vmem S1024x512 .f32) (harg1 : arg1.IsWhole) (arg2 : Memref sig .tc .vmem S1024x512 .bf16) (harg2 : arg2.IsWhole) (arg3 : Memref sig .tc .vmem S1x512 .f32) (harg3 : arg3.IsWhole) (arg4 : Memref sig .tc .vmem S1x512 .f32) (harg4 : arg4.IsWhole) (arg6 : Memref sig .tc .vmem S1024x512 .f32) (harg6 : arg6.IsWhole) (arg7 : Memref sig .tc .vmem S8x512 .f32) (harg7 : arg7.IsWhole)

theorem outA_dhc (hc0 : cond0_0 i) : out0_A_4 c i arg1 harg1 arg2 harg2 arg3 harg3 arg4 harg4 arg6 harg6 arg7 harg7 hc0 x d lg lb (ix2 r j) = grad (brow x r) (bpre x d lg lb r) j := by
  frame_open
  simp (disch := decide) only [↓ View.readCov_skip, ↓ View.readCov_cons_toLoadRect, ↓ View.readCov_fill]
  frame_out
  exact pay11_at ..

theorem outB_dhc (hc0 : ¬cond0_0 i) : out0_B_4 c i arg1 harg1 arg2 harg2 arg3 harg3 arg4 harg4 arg6 harg6 arg7 harg7 hc0 x d lg lb acc (ix2 r j) = grad (brow x r) (bpre x d lg lb r) j := by
  frame_open
  simp (disch := decide) only [↓ View.readCov_skip, ↓ View.readCov_cons_toLoadRect, ↓ View.readCov_fill]
  frame_out
  exact pay11_at ..

theorem outA_sums (hc0 : cond0_0 i) (s : Fin 8) : out0_A_5 c i arg1 harg1 arg2 harg2 arg3 harg3 arg4 harg4 arg6 harg6 arg7 harg7 hc0 x d lg lb (ix2 s j) = bsums x d lg lb s j := by
  frame_open
  simp (disch := decide) only [↓ View.readCov_skip, ↓ View.readCov_cons_toLoadRect, ↓ View.readCov_fill]
  frame_out
  rw [← View.read_writes_junk_apply_eq_canon arg7.view]
  have hs : s.val = 0 ∨ s.val = 1 ∨ s.val = 2 ∨ 3 ≤ s.val := by omega
  rcases hs with h | h | h | h
  · rw [row_skip (o := 2) _ _ _ _ _ _ _ (by omega), row_skip (o := 1) _ _ _ _ _ _ _ (by omega),
      row_last _ _ _ _ _ _ _ h]
    refine (pay12_at ..).trans ?_
    rw [bsums, if_pos h]
    obtain rfl : s = 0 := Fin.ext h
    refine (congrArg (· + _) ?_).trans (zero_add _)
    exact zeros_all _
  · rw [row_skip (o := 2) _ _ _ _ _ _ _ (by omega),
      row_last _ _ _ _ _ _ _ h]
    refine (pay13_at ..).trans ?_
    rw [bsums, if_neg (by omega), if_pos h]
    obtain rfl : s = 1 := Fin.ext h
    refine (congrArg (· + _) ?_).trans (zero_add _)
    exact zeros_all _
  · rw [row_last _ _ _ _ _ _ _ h]
    refine (pay1_at ..).trans ?_
    rw [bsums, if_neg (by omega), if_neg (by omega), if_pos h]
    obtain rfl : s = 2 := Fin.ext h
    refine (congrArg (· + _) ?_).trans (zero_add _)
    exact zeros_all _
  · rw [row_skip (o := 2) _ _ _ _ _ _ _ (by omega), row_skip (o := 1) _ _ _ _ _ _ _ (by omega),
      row_skip (o := 0) _ _ _ _ _ _ _ (by omega)]
    rw [bsums, if_neg (by omega), if_neg (by omega), if_neg (by omega)]
    rw [View.read_writes_full]
    exact zeros_all _

theorem outB_sums (hc0 : ¬cond0_0 i) (s : Fin 8) : out0_B_5 c i arg1 harg1 arg2 harg2 arg3 harg3 arg4 harg4 arg6 harg6 arg7 harg7 hc0 x d lg lb acc (ix2 s j) = acc (ix2 s j) + bsums x d lg lb s j := by
  frame_open
  simp (disch := decide) only [↓ View.readCov_skip, ↓ View.readCov_cons_toLoadRect, ↓ View.readCov_fill]
  frame_out
  have hs : s.val = 0 ∨ s.val = 1 ∨ s.val = 2 ∨ 3 ≤ s.val := by omega
  rcases hs with h | h | h | h
  · rw [row_skip (o := 2) _ _ _ _ _ _ _ (by omega), row_skip (o := 1) _ _ _ _ _ _ _ (by omega),
      row_last _ _ _ _ _ _ _ h]
    refine (pay12_at ..).trans ?_
    rw [bsums, if_pos h]
    obtain rfl : s = 0 := Fin.ext h
    exact congrArg (· + _) (congrArg acc (by funext k; fin_cases k <;> ext <;> simp))
  · rw [row_skip (o := 2) _ _ _ _ _ _ _ (by omega),
      row_last _ _ _ _ _ _ _ h]
    refine (pay13_at ..).trans ?_
    rw [bsums, if_neg (by omega), if_pos h]
    obtain rfl : s = 1 := Fin.ext h
    exact congrArg (· + _) (congrArg acc (by funext k; fin_cases k <;> ext <;> simp))
  · rw [row_last _ _ _ _ _ _ _ h]
    refine (pay1_at ..).trans ?_
    rw [bsums, if_neg (by omega), if_neg (by omega), if_pos h]
    obtain rfl : s = 2 := Fin.ext h
    exact congrArg (· + _) (congrArg acc (by funext k; fin_cases k <;> ext <;> simp))
  · rw [row_skip (o := 2) _ _ _ _ _ _ _ (by omega), row_skip (o := 1) _ _ _ _ _ _ _ (by omega),
      row_skip (o := 0) _ _ _ _ _ _ _ (by omega)]
    rw [bsums, if_neg (by omega), if_neg (by omega), if_neg (by omega)]
    rw [View.writes_nil, add_zero, harg7.read_unread]

end Cert.Kernel20Ideal.Layer

end
-- ==== Proof.Norm.MixArray.lean ====
/- The gradients of the convolution's layer norm and of the activation after it: the arrays the call leaves. -/
module

public import proofs.«01_k».proof.Proof.Norm.MixBlock

@[expose] public section

set_option maxRecDepth 16384

noncomputable section

namespace Cert.Kernel20Ideal.Layer

open Idealize.ShloMosaic Idealize.ShloMosaic.TcCoe Cert.Kernel20Ideal Cert.Kernel20Ideal.Gen Cert.Kernel20Ideal.Value Cert.Layer

/-- Row `R` of the norm's argument. -/
def row (x : FVec Ideal S4096x512 .f32) (R : Fin 4096) : Row := fun j => x (ix2 R j)

theorem row_at (x : FVec Ideal S4096x512 .f32) (R : Fin 4096) (j : Fin 512) : row x R j = x (ix2 R j) := rfl

/-- Row `R` of the activation's argument. -/
def hid (x : FVec Ideal S4096x512 .f32) (lg lb : FVec Ideal S1x512 .f32) (R : Fin 4096) : Row := fun j => normed (row x R) j * lg (ix2 0 j) + lb (ix2 0 j)

theorem hid_at (x : FVec Ideal S4096x512 .f32) (lg lb : FVec Ideal S1x512 .f32) (R : Fin 4096) (j : Fin 512) :
    hid x lg lb R j = normed (row x R) j * lg (ix2 0 j) + lb (ix2 0 j) := rfl

/-- Its gradient. -/
def dhidden (x : FVec Ideal S4096x512 .f32) (d : FVec Ideal S4096x1024 .bf16) (lg lb : FVec Ideal S1x512 .f32) (R : Fin 4096) : Row := fun j => act (d (ix2 R ⟨j.val, by omega⟩)) (hid x lg lb R j)

theorem dhidden_at (x : FVec Ideal S4096x512 .f32) (d : FVec Ideal S4096x1024 .bf16) (lg lb : FVec Ideal S1x512 .f32) (R : Fin 4096) (j : Fin 512) : dhidden x d lg lb R j = act (d (ix2 R ⟨j.val, by omega⟩)) (hid x lg lb R j) := rfl

/-- The gradient of the normed row. -/
def pre (x : FVec Ideal S4096x512 .f32) (d : FVec Ideal S4096x1024 .bf16) (lg lb : FVec Ideal S1x512 .f32) (R : Fin 4096) : Row := fun j => dhidden x d lg lb R j * lg (ix2 0 j)

theorem pre_at (x : FVec Ideal S4096x512 .f32) (d : FVec Ideal S4096x1024 .bf16) (lg lb : FVec Ideal S1x512 .f32) (R : Fin 4096) (j : Fin 512) : pre x d lg lb R j = dhidden x d lg lb R j * lg (ix2 0 j) := rfl

/-- The gradient of the norm's argument. -/
def dhc (x : FVec Ideal S4096x512 .f32) (d : FVec Ideal S4096x1024 .bf16) (lg lb : FVec Ideal S1x512 .f32) : FVec Ideal S4096x512 .f32 := fun y => grad (row x (y 0)) (pre x d lg lb (y 0)) (y 1)

theorem dhc_at (x : FVec Ideal S4096x512 .f32) (d : FVec Ideal S4096x1024 .bf16) (lg lb : FVec Ideal S1x512 .f32) (R : Fin 4096) (j : Fin 512) : dhc x d lg lb (ix2 R j) = grad (row x R) (pre x d lg lb R) j := rfl

/-- What row `R` adds to entry `s`, `j` of the sums. -/
def term (x : FVec Ideal S4096x512 .f32) (d : FVec Ideal S4096x1024 .bf16) (lg lb : FVec Ideal S1x512 .f32) (s : Fin 8) (j : Fin 512) (R : Fin 4096) : EReal :=
  if s.val = 0 then dhidden x d lg lb R j * normed (row x R) j
  else if s.val = 1 then dhidden x d lg lb R j
  else if s.val = 2 then grad (row x R) (pre x d lg lb R) j
  else 0

/-- The gradients of the gain, of the offset and of the bias before the norm, row by row. -/
def sums (x : FVec Ideal S4096x512 .f32) (d : FVec Ideal S4096x1024 .bf16) (lg lb : FVec Ideal S1x512 .f32) : FVec Ideal S8x512 .f32 := fun y => ∑ R : Fin 4096, term x d lg lb (y 0) (y 1) R

theorem sums_at (x : FVec Ideal S4096x512 .f32) (d : FVec Ideal S4096x1024 .bf16) (lg lb : FVec Ideal S1x512 .f32) (s : Fin 8) (j : Fin 512) : sums x d lg lb (ix2 s j) = ∑ R : Fin 4096, term x d lg lb s j R := rfl

variable (m : (ℓ : Loc nD τ sig) → Buf (Elt Ideal) ℓ) (c : Dev nD)

/-- Where each point's blocks lie. -/
theorem idx : ∀ t : Fin cfg0.N, win0_0.index t = ![t.val, 0] ∧ win0_1.index t = ![t.val, 0] ∧ win0_2.index t = ![0, 0] ∧ win0_3.index t = ![0, 0] ∧ win0_4.index t = ![t.val, 0] :=
  (by decide +kernel : ∀ t : Fin grid0.N, _)

theorem lt4 (t : Fin cfg0.N) : t.val < 4 := lt_of_lt_of_eq t.isLt (show cfg0.N = 4 from N_0)

theorem row_block (t : Fin cfg0.N) (r : Fin 1024) : brow (iblk m c 0 t) r = row (m ((c : Thread nD τ).loc main_arg0)) ⟨t.val * 1024 + r, by have := lt4 t; omega⟩ := by
  funext j
  rw [brow_at, row_at]
  blk_ext [iblk, V, idx t]

theorem gain_block (t : Fin cfg0.N) (j : Fin 512) : (iblk m c 2 t : Vec Ideal S1x512 .f32) (ix2 0 j) = (m ((c : Thread nD τ).loc main_arg2)) (ix2 0 j) := by
  blk_ext [iblk, V, idx t]

theorem offset_block (t : Fin cfg0.N) (j : Fin 512) : (iblk m c 3 t : Vec Ideal S1x512 .f32) (ix2 0 j) = (m ((c : Thread nD τ).loc main_arg3)) (ix2 0 j) := by
  blk_ext [iblk, V, idx t]

theorem out_block (t : Fin cfg0.N) (r : Fin 1024) (j : Fin 512) :
    (iblk m c 1 t : Vec Ideal S1024x512 .bf16) (ix2 r j) = (m ((c : Thread nD τ).loc main_arg1)) (ix2 ⟨t.val * 1024 + r, by have := lt4 t; omega⟩ ⟨j.val, by omega⟩) := by
  blk_ext [iblk, V, idx t]

theorem act_block (t : Fin cfg0.N) (r : Fin 1024) : bact (iblk m c 0 t) (iblk m c 1 t) (iblk m c 2 t) (iblk m c 3 t) r = dhidden (m ((c : Thread nD τ).loc main_arg0)) (m ((c : Thread nD τ).loc main_arg1)) (m ((c : Thread nD τ).loc main_arg2)) (m ((c : Thread nD τ).loc main_arg3)) ⟨t.val * 1024 + r, by have := lt4 t; omega⟩ := by
  funext j
  rw [bact_at, bhid_at, dhidden_at, hid_at, row_block, gain_block, offset_block, out_block]

theorem pre_block (t : Fin cfg0.N) (r : Fin 1024) : bpre (iblk m c 0 t) (iblk m c 1 t) (iblk m c 2 t) (iblk m c 3 t) r = pre (m ((c : Thread nD τ).loc main_arg0)) (m ((c : Thread nD τ).loc main_arg1)) (m ((c : Thread nD τ).loc main_arg2)) (m ((c : Thread nD τ).loc main_arg3)) ⟨t.val * 1024 + r, by have := lt4 t; omega⟩ := by
  funext j
  rw [bpre_at, pre_at, act_block, gain_block]

/-- Point `t` leaves its rows of the gradient. -/
theorem outs_dhc (t : Fin cfg0.N) (r : Fin 1024) (j : Fin 512) :
    (outsAt0 m c t.val t.isLt).1 (ix2 r j) = grad (brow (iblk m c 0 t) r) (bpre (iblk m c 0 t) (iblk m c 1 t) (iblk m c 2 t) (iblk m c 3 t) r) j := by
  by_cases h0 : t.val % 4 = 0
  · rw [outsAt0_A m c t h0]
    dsimp only
    apply outA_dhc
  · rw [outsAt0_B m c t h0]
    dsimp only
    apply outB_dhc

theorem final_dhc : (dats m 0 c).arrAt 4 cfg0.N = dhc (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  idx_vars y
  refine (outs_dhc m c t y0 y1).trans ?_
  rw [row_block, pre_block, ← dhc_at]
  blk_ext [idx t]

/-- The last point. -/
def tlast : Fin cfg0.N := ⟨3, by rw [show cfg0.N = 4 from N_0]; omega⟩

theorem outs_sums_first (t : Fin cfg0.N) (h0 : t.val % 4 = 0) (y : S8x512.Idx) :
    (outsAt0 m c t.val t.isLt).2 y = 0 + bsums (iblk m c 0 t) (iblk m c 1 t) (iblk m c 2 t) (iblk m c 3 t) (y 0) (y 1) := by
  idx_vars y
  rw [outsAt0_A m c t h0, zero_add]
  dsimp only
  apply outA_sums

theorem outs_sums_next (t : Fin cfg0.N) (h0 : ¬t.val % 4 = 0) (y : S8x512.Idx) :
    (outsAt0 m c t.val t.isLt).2 y = (outsAt0 m c (t.val - 1) (Nat.lt_of_le_of_lt (Nat.sub_le _ _) t.isLt)).2 y + bsums (iblk m c 0 t) (iblk m c 1 t) (iblk m c 2 t) (iblk m c 3 t) (y 0) (y 1) := by
  idx_vars y
  rw [outsAt0_B m c t h0]
  dsimp only
  apply outB_sums

theorem sums_block (t : Fin cfg0.N) (s : Fin 8) (j : Fin 512) :
    bsums (iblk m c 0 t) (iblk m c 1 t) (iblk m c 2 t) (iblk m c 3 t) s j = ∑ r : Fin 1024, term (m ((c : Thread nD τ).loc main_arg0)) (m ((c : Thread nD τ).loc main_arg1)) (m ((c : Thread nD τ).loc main_arg2)) (m ((c : Thread nD τ).loc main_arg3)) s j ⟨t.val * 1024 + r, by have := lt4 t; omega⟩ := by
  unfold bsums term
  split_ifs
  · exact Finset.sum_congr rfl fun r _ => by rw [act_block, row_block]
  · exact Finset.sum_congr rfl fun r _ => by rw [act_block]
  · exact Finset.sum_congr rfl fun r _ => by rw [row_block, pre_block]
  · exact Finset.sum_const_zero.symm

/-- After the last point the sums are whole. -/
theorem outs_sums (y : S8x512.Idx) : (outsAt0 m c tlast.val tlast.isLt).2 y = sums (m ((c : Thread nD τ).loc main_arg0)) (m ((c : Thread nD τ).loc main_arg1)) (m ((c : Thread nD τ).loc main_arg2)) (m ((c : Thread nD τ).loc main_arg3)) y := by
  rw [Pipeline.eq_sum_fin_of_reset_step_apply_last (fun n h => (outsAt0 m c n h).2) 4 (fun _ => (0 : EReal))
    (fun t (y : S8x512.Idx) => bsums (iblk m c 0 t) (iblk m c 1 t) (iblk m c 2 t) (iblk m c 3 t) (y 0) (y 1)) (outs_sums_first m c) (outs_sums_next m c)
    (le_of_eq N_0) tlast (show 4 = cfg0.N from N_0.symm) y, zero_add]
  idx_vars y
  rw [sums_at]
  refine Eq.trans ?_ (Fin.sum_mul_add_fin 4 1024 (fun R : Fin 4096 => term (m ((c : Thread nD τ).loc main_arg0)) (m ((c : Thread nD τ).loc main_arg1)) (m ((c : Thread nD τ).loc main_arg2)) (m ((c : Thread nD τ).loc main_arg3)) y0 y1 R) rfl)
  exact Finset.sum_congr rfl fun t _ => sums_block m c _ y0 y1

theorem final_sums : (dats m 0 c).arrAt 5 cfg0.N = sums (m ((c : Thread nD τ).loc main_arg0)) (m ((c : Thread nD τ).loc main_arg1)) (m ((c : Thread nD τ).loc main_arg2)) (m ((c : Thread nD τ).loc main_arg3)) := by
  refine (dats m 0 c).arrAt_eq_of_after_last 5 tlast (by decide +kernel) _ fun y => ?_
  blk_simp
  rw [after0_5]
  exact outs_sums m c y

end Cert.Kernel20Ideal.Layer

end
-- ==== Proof.Norm.MixClaims.lean ====
/- The mixing's norm and activation, their gradients: the claims. -/
module

public import proofs.«01_k».proof.Defs
public import proofs.«01_k».proof.Proof.Gen.Reference20Ideal.Run
public import proofs.«01_k».proof.Proof.Norm.MixArray
public import proofs.«01_k».proof.Proof.Norm.Maths
public import proofs.«01_k».proof.Pre_finite20
public import Idealize.ShloMosaic.Adequacy

@[expose] public section

set_option maxRecDepth 16384

noncomputable section

namespace Cert.Pre_finite20

open Idealize.ShloMosaic

theorem facts : Facts where
  slices_S4096x1024_S4096x512_0_0 := by decide
  bitsLt_bf16_f32 := by decide
  concatenates_S4096x512_S1x512_S4097x512_d0 := by decide
  bcast_S_S4097x512 := by decide

variable [Facts]
variable (x : FVec Ideal S4096x512 .f32) (d : FVec Ideal S4096x1024 .bf16) (lg lb : FVec Ideal S1x512 .f32) (z : FVec Ideal S8x128 .f32) (h : fn x d lg lb z = fun _ => 1#1)

include h

/-- The precondition says that the gradient's first half is numbers. -/
theorem grad_finite (R : Fin 4096) (j : Fin 512) : ∃ r : ℝ, d (ix2 R ⟨j.val, by omega⟩) = r := by
  have h := congrFun h (ix2 (⟨R.val, by omega⟩ : Fin 4097) j)
  pointwise [fn] at h
  exact Cert.Norm.real_of_lt _ h

/-- It says that the gain is numbers. -/
theorem gain_finite (j : Fin 512) : ∃ r : ℝ, lg (ix2 0 j) = r := by
  have h := congrFun h (ix2 (4096 : Fin 4097) j)
  pointwise [fn] at h
  exact Cert.Norm.real_of_lt _ h

end Cert.Pre_finite20

namespace Cert.Reference20Ideal.Layer

open Idealize.ShloMosaic Idealize.ShloMosaic.TcCoe Cert.Reference20Ideal Cert.Reference20Ideal.Gen Cert.Layer
open Cert.Kernel20Ideal.Layer (row row_at hid hid_at dhidden dhidden_at pre pre_at term)

/-- The rows' means. -/
def means (x : FVec Ideal S4096x512 .f32) : FVec Ideal S4096x1 .f32 := Host.divf (broadcastInDim S4096x1 ![0] bcast_S4096_S4096x1_0 (Host.reduceAdd x (constant S_ .f32 0x00000000#32) reducesTo_S4096x512_S4096_d1 h_S_)) (broadcastInDim S4096x1 ![] bcast_S_S4096x1 (constant S_ .f32 0x44000000#32))

/-- The rows less their means. -/
def cens (x : FVec Ideal S4096x512 .f32) : FVec Ideal S4096x512 .f32 := subf x (broadcastInDim S4096x512 ![0, 1] bcast_S4096x1_S4096x512_0_1 (means x))

/-- Their variances, with `eps` added. -/
def vars (x : FVec Ideal S4096x512 .f32) : FVec Ideal S4096x1 .f32 := addf (Host.divf (broadcastInDim S4096x1 ![0] bcast_S4096_S4096x1_0 (Host.reduceAdd (mulf (cens x) (cens x)) (constant S_ .f32 0x00000000#32) reducesTo_S4096x512_S4096_d1 h_S_)) (broadcastInDim S4096x1 ![] bcast_S_S4096x1 (constant S_ .f32 0x44000000#32))) (broadcastInDim S4096x1 ![] bcast_S_S4096x1 (constant S_ .f32 0x358637BD#32))

/-- One over their roots. -/
def invs (x : FVec Ideal S4096x512 .f32) : FVec Ideal S4096x1 .f32 := Host.rsqrt (vars x)

/-- The normed rows. -/
def normeds (x : FVec Ideal S4096x512 .f32) : FVec Ideal S4096x512 .f32 := mulf (cens x) (broadcastInDim S4096x512 ![0, 1] bcast_S4096x1_S4096x512_0_1 (invs x))

/-- The activation's argument. -/
def hids (x : FVec Ideal S4096x512 .f32) (lg lb : FVec Ideal S1x512 .f32) : FVec Ideal S4096x512 .f32 := addf (mulf (normeds x) (broadcastInDim S4096x512 ![0, 1] bcast_S1x512_S4096x512_0_1 lg)) (broadcastInDim S4096x512 ![0, 1] bcast_S1x512_S4096x512_0_1 lb)

/-- Its logistic function. -/
def gates (x : FVec Ideal S4096x512 .f32) (lg lb : FVec Ideal S1x512 .f32) : FVec Ideal S4096x512 .f32 := Host.divf (broadcastInDim S4096x512 ![] bcast_S_S4096x512 (constant S_ .f32 0x3F800000#32)) (addf (broadcastInDim S4096x512 ![] bcast_S_S4096x512 (constant S_ .f32 0x3F800000#32)) (Host.exp (Host.negf (hids x lg lb))))

/-- The activation's gradient. -/
def dys (d : FVec Ideal S4096x1024 .bf16) : FVec Ideal S4096x512 .f32 := extf .f32 (extractStridedSlice S4096x512 ![0, 0] d slices_S4096x1024_S4096x512_0_0) bitsLt_bf16_f32

/-- Its argument's gradient. -/
def dhs (x : FVec Ideal S4096x512 .f32) (d : FVec Ideal S4096x1024 .bf16) (lg lb : FVec Ideal S1x512 .f32) : FVec Ideal S4096x512 .f32 := addf (mulf (dys d) (gates x lg lb)) (mulf (mulf (hids x lg lb) (dys d)) (mulf (gates x lg lb) (subf (broadcastInDim S4096x512 ![] bcast_S_S4096x512 (constant S_ .f32 0x3F800000#32)) (gates x lg lb))))

/-- The normed rows' gradient. -/
def pres (x : FVec Ideal S4096x512 .f32) (d : FVec Ideal S4096x1024 .bf16) (lg lb : FVec Ideal S1x512 .f32) : FVec Ideal S4096x512 .f32 := mulf (dhs x d lg lb) (broadcastInDim S4096x512 ![0, 1] bcast_S1x512_S4096x512_0_1 lg)

/-- What the variance's gradient gives every entry. -/
def backs (x : FVec Ideal S4096x512 .f32) (d : FVec Ideal S4096x1024 .bf16) (lg lb : FVec Ideal S1x512 .f32) : FVec Ideal S4096x1 .f32 := Host.divf (mulf (shapeCast _ (Host.reduceAdd (mulf (cens x) (pres x d lg lb)) (constant S_ .f32 0x00000000#32) reducesTo_S4096x512_S4096_d1 h_S_) shapeCasts_S4096_S4096x1) (mulf (broadcastInDim S4096x1 ![] bcast_S_S4096x1 (constant S_ .f32 0xBF000000#32)) (Host.divf (invs x) (vars x)))) (broadcastInDim S4096x1 ![] bcast_S_S4096x1 (constant S_ .f32 0x44000000#32))

/-- The variance's part of the gradient. -/
def parts (x : FVec Ideal S4096x512 .f32) (d : FVec Ideal S4096x1024 .bf16) (lg lb : FVec Ideal S1x512 .f32) : FVec Ideal S4096x512 .f32 := mulf (broadcastInDim S4096x512 ![0] bcast_S4096_S4096x512_0 (Host.reduceAdd (backs x d lg lb) (constant S_ .f32 0x00000000#32) reducesTo_S4096x1_S4096_d1 h_S_)) (mulf (broadcastInDim S4096x512 ![] bcast_S_S4096x512 (constant S_ .f32 0x40000000#32)) (cens x))

/-- The mean's part. -/
def shares (x : FVec Ideal S4096x512 .f32) (d : FVec Ideal S4096x1024 .bf16) (lg lb : FVec Ideal S1x512 .f32) : FVec Ideal S4096x1 .f32 := Host.divf (addf (shapeCast _ (Host.reduceAdd (Host.negf (mulf (pres x d lg lb) (broadcastInDim S4096x512 ![0, 1] bcast_S4096x1_S4096x512_0_1 (invs x)))) (constant S_ .f32 0x00000000#32) reducesTo_S4096x512_S4096_d1 h_S_) shapeCasts_S4096_S4096x1) (shapeCast _ (Host.reduceAdd (Host.negf (parts x d lg lb)) (constant S_ .f32 0x00000000#32) reducesTo_S4096x512_S4096_d1 h_S_) shapeCasts_S4096_S4096x1)) (broadcastInDim S4096x1 ![] bcast_S_S4096x1 (constant S_ .f32 0x44000000#32))

/-- The rows' gradient. -/
def dx (x : FVec Ideal S4096x512 .f32) (d : FVec Ideal S4096x1024 .bf16) (lg lb : FVec Ideal S1x512 .f32) : FVec Ideal S4096x512 .f32 := addf (addf (mulf (pres x d lg lb) (broadcastInDim S4096x512 ![0, 1] bcast_S4096x1_S4096x512_0_1 (invs x))) (parts x d lg lb)) (broadcastInDim S4096x512 ![0] bcast_S4096_S4096x512_0 (Host.reduceAdd (shares x d lg lb) (constant S_ .f32 0x00000000#32) reducesTo_S4096x1_S4096_d1 h_S_))

/-- The sum of an array's rows. -/
def total (v : FVec Ideal S4096x512 .f32) : FVec Ideal S1x512 .f32 := shapeCast _ (Host.reduceAdd v (constant S_ .f32 0x00000000#32) reducesTo_S4096x512_S512_d0 h_S_) shapeCasts_S512_S1x512

/-- The gain's, the offset's and the bias's gradients, one under the other. -/
def stack (x : FVec Ideal S4096x512 .f32) (d : FVec Ideal S4096x1024 .bf16) (lg lb : FVec Ideal S1x512 .f32) : FVec Ideal S8x512 .f32 :=
  concatenate S8x512 0 [⟨S1x512, total (mulf (normeds x) (dhs x d lg lb))⟩, ⟨S1x512, total (dhs x d lg lb)⟩, ⟨S1x512, total (dx x d lg lb)⟩, ⟨S5x512, broadcastInDim S5x512 ![] bcast_S_S5x512 (constant S_ .f32 0x00000000#32)⟩] concatenates_S1x512_S1x512_S1x512_S5x512_S8x512_d0

variable (x : FVec Ideal S4096x512 .f32) (d : FVec Ideal S4096x1024 .bf16) (lg lb : FVec Ideal S1x512 .f32) (R : Fin 4096) (j : Fin 512)

theorem means_at (u : Fin 1) : means x (ix2 R u) = mean (row x R) := by
  pointwise [means, mean, row_at, len]

theorem cens_at : cens x (ix2 R j) = cen (row x R) j := by
  pointwise [cens, means_at, cen, row_at]

theorem vars_at (u : Fin 1) : vars x (ix2 R u) = var (row x R) := by
  pointwise [vars, cens_at, var, len, Cert.Norm.eps]

theorem invs_at (u : Fin 1) : invs x (ix2 R u) = rinv (row x R) := by
  pointwise [invs, vars_at, rinv]

theorem normeds_at : normeds x (ix2 R j) = normed (row x R) j := by
  pointwise [normeds, cens_at, invs_at, normed]

theorem hids_at : hids x lg lb (ix2 R j) = hid x lg lb R j := by
  pointwise [hids, normeds_at, hid_at]

theorem gates_at : gates x lg lb (ix2 R j) = gate (hid x lg lb R j) := by
  pointwise [gates, hids_at, gate]

theorem dys_at : dys d (ix2 R j) = d (ix2 R ⟨j.val, by omega⟩) := by
  pointwise [dys]

/-- The activation's gradient, number by number. -/
theorem dhs_ref : dhs x d lg lb (ix2 R j) = actRef (d (ix2 R ⟨j.val, by omega⟩)) (hid x lg lb R j) := by
  unfold actRef
  rw [add_comm]
  pointwise [dhs, dys_at, gates_at, hids_at]

variable (hd : ∀ (R : Fin 4096) (j : Fin 512), ∃ r : ℝ, d (ix2 R ⟨j.val, by omega⟩) = r) (hg : ∀ j : Fin 512, ∃ r : ℝ, lg (ix2 0 j) = r)

include hd

theorem dhs_at : dhs x d lg lb (ix2 R j) = dhidden x d lg lb R j := by
  obtain ⟨r, hr⟩ := hd R j
  rw [dhs_ref, dhidden_at, hr, actRef_eq]

theorem pres_at : pres x d lg lb (ix2 R j) = pre x d lg lb R j := by
  have h := dhs_at x d lg lb R j hd
  pointwise [pres, h, pre_at]

theorem backs_at (u : Fin 1) : backs x d lg lb (ix2 R u) = back (row x R) (pre x d lg lb R) := by
  have h := fun j => pres_at x d lg lb R j hd
  pointwise [backs, cens_at, h, invs_at, vars_at, back, len]

theorem parts_at : parts x d lg lb (ix2 R j) = back (row x R) (pre x d lg lb R) * twice (row x R) j := by
  have h := fun u => backs_at x d lg lb R hd u
  pointwise [parts, h, cens_at, twice]
  rw [Fin.sum_univ_one]

theorem shares_at (u : Fin 1) : shares x d lg lb (ix2 R u) = Ideal.div ((∑ i : Fin 512, -(pre x d lg lb R i * rinv (row x R))) + ∑ i : Fin 512, -(back (row x R) (pre x d lg lb R) * twice (row x R) i)) len := by
  have h := fun j => pres_at x d lg lb R j hd
  have h' := fun j => parts_at x d lg lb R j hd
  pointwise [shares, h, h', invs_at, len]

theorem dx_ref : dx x d lg lb (ix2 R j) = gradRef (row x R) (pre x d lg lb R) j := by
  have h := fun j => pres_at x d lg lb R j hd
  have h' := fun j => parts_at x d lg lb R j hd
  have h'' := fun u => shares_at x d lg lb R hd u
  pointwise [dx, gradRef, h, h', h'', invs_at]
  rw [Fin.sum_univ_one]

include hg

theorem dx_at : dx x d lg lb (ix2 R j) = grad (row x R) (pre x d lg lb R) j := by
  rw [dx_ref x d lg lb R j hd, gradRef_eq]
  intro i
  obtain ⟨r, hr⟩ := hd R i
  obtain ⟨s, hs⟩ := hg i
  obtain ⟨t, ht⟩ := act_real r (hid x lg lb R i)
  exact ⟨t * s, by rw [pre_at, dhidden_at, hr, hs, ht, EReal.coe_mul]⟩

theorem dx_eq : dx x d lg lb = Cert.Kernel20Ideal.Layer.dhc x d lg lb := by
  funext p
  idx_vars p
  exact dx_at x d lg lb _ _ hd hg

theorem stack_at (s : Fin 8) : stack x d lg lb (ix2 s j) = Cert.Kernel20Ideal.Layer.sums x d lg lb (ix2 s j) := by
  have h := fun R j => dhs_at x d lg lb R j hd
  have h' := fun R j => dx_at x d lg lb R j hd hg
  rw [Cert.Kernel20Ideal.Layer.sums_at]
  unfold Cert.Kernel20Ideal.Layer.term
  pointwise [stack, total, h, h', normeds_at]
  fin_vals s with hs <;> simp [hs, mul_comm]

theorem stack_eq : stack x d lg lb = Cert.Kernel20Ideal.Layer.sums x d lg lb := by
  funext p
  idx_vars p
  exact stack_at x d lg lb _ hd hg _

end Cert.Reference20Ideal.Layer

namespace Cert.Reference20Ideal.Layer

open Idealize.ShloMosaic Idealize.ShloMosaic.TcCoe Cert.Reference20Ideal Cert.Reference20Ideal.Gen

variable (m : (ℓ : Loc nD τ sig) → Buf (Elt Ideal) ℓ) (c : Dev nD)

theorem out0_eq : Value.res_out0 m c = dx (m ((c.tc : Thread nD τ).loc main_arg0)) (m ((c.tc : Thread nD τ).loc main_arg1)) (m ((c.tc : Thread nD τ).loc main_arg2)) (m ((c.tc : Thread nD τ).loc main_arg3)) := rfl

theorem out1_eq : Value.res_out1 m c = stack (m ((c.tc : Thread nD τ).loc main_arg0)) (m ((c.tc : Thread nD τ).loc main_arg1)) (m ((c.tc : Thread nD τ).loc main_arg2)) (m ((c.tc : Thread nD τ).loc main_arg3)) := rfl

end Cert.Reference20Ideal.Layer

namespace Cert.Norm.K20

open Idealize.ShloMosaic Idealize.ShloMosaic.TcCoe Idealize.SL.Sem

local instance : Cert.Pre_finite20.Facts := Cert.Pre_finite20.facts

/-- The reference ends with its arguments unchanged; it declares no semaphore, so all read zero. -/
theorem frame_reference (m : (ℓ : Loc Cert.Reference20Ideal.nD Cert.Reference20Ideal.τ Cert.Reference20Ideal.sig) → Buf (Elt Ideal) ℓ)
    (ρ : Dev Cert.Reference20Ideal.nD → PrngReg) :
    θ_run (Cert.Reference20Ideal.defs (F := Ideal)) (onTc (τ := Cert.Reference20Ideal.τ) (Cert.Reference20Ideal.main (F := Ideal))) ⟨m, fun _ => 0, ρ⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0) :=
  (θ_run _ _ _).mono (fun r h => ⟨fun c => (h c).2.2, sem_eq_zero_of_no_sems (by decide) r.2⟩) (Cert.Reference20Ideal.Value.run m ρ)

/-- For a finite gradient and gain, the kernel's gradients are the reference's. -/
theorem algebraic : Cert.algebraic_Kernel20Ideal_Reference20Ideal_pre_finite20
    (hKernel20Ideal := Cert.Kernel20Ideal.Gen.facts) (hReference20Ideal := Cert.Reference20Ideal.Gen.facts) (hPre_finite20 := Cert.Pre_finite20.facts) := by
  intro m ρ m' ρ' hpre hag
  have hd := fun (c : Dev Cert.Kernel20Ideal.nD) => Cert.Pre_finite20.grad_finite _ _ _ _ _ (hpre c)
  have hg := fun (c : Dev Cert.Kernel20Ideal.nD) => Cert.Pre_finite20.gain_finite _ _ _ _ _ (hpre c)
  refine ⟨fun c => (Cert.Kernel20Ideal.Gen.dats m 0 c).arrAt 4 Cert.Kernel20Ideal.cfg0.N, fun c => (Cert.Kernel20Ideal.Gen.dats m 0 c).arrAt 5 Cert.Kernel20Ideal.cfg0.N,
    Cert.Kernel20Ideal.Value.run_blocks m ρ, (θ_run _ _ _).mono (fun r h c => ?_) (Cert.Reference20Ideal.Value.run m' ρ')⟩
  obtain ⟨h0, h1, hargs⟩ := h c
  obtain ⟨a0, a1, a2, a3, a4⟩ := hag c
  refine ⟨h0.trans ?_, h1.trans ?_, hargs⟩
  · refine (Cert.Reference20Ideal.Layer.out0_eq m' c).trans ?_
    rw [a0, a1, a2, a3]
    exact (Cert.Reference20Ideal.Layer.dx_eq _ _ _ _ (hd c) (hg c)).trans (Cert.Kernel20Ideal.Layer.final_dhc m c).symm
  · refine (Cert.Reference20Ideal.Layer.out1_eq m' c).trans ?_
    rw [a0, a1, a2, a3]
    exact (Cert.Reference20Ideal.Layer.stack_eq _ _ _ _ (hd c) (hg c)).trans (Cert.Kernel20Ideal.Layer.final_sums m c).symm

end Cert.Norm.K20

end
-- ==== Proof.Attention.Forward.lean ====
/- The attention's forward call. -/
module

public import proofs.«01_k».proof.Defs
public import proofs.«01_k».proof.Proof.Gen.Kernel21Ideal.Value
public import proofs.«01_k».proof.Proof.Gen.Reference21Ideal.Run
public import proofs.«01_k».proof.Proof.Attention.Arrays
public import proofs.«01_k».proof.Proof.Attention.Reference
public import Idealize.ShloMosaic.Adequacy

@[expose] public section

set_option maxRecDepth 16384

noncomputable section

namespace Cert.Kernel21Ideal.Attn

open Idealize.ShloMosaic Idealize.ShloMosaic.TcCoe Cert.Kernel21Ideal Cert.Kernel21Ideal.Gen Cert.Kernel21Ideal.Value Cert.Attention
open Cert.KernelIdeal.Attn (row rows qcols kcols vcols qcols_at kcols_at vcols_at q_ld0 q_ld1 q_ld2 q_ld3 k_ld0 k_ld1 k_ld2 k_ld3 v_ld0 v_ld1 v_ld2 v_ld3)

section Block

variable (q : Vec Ideal S1024x256 .bf16) (k v : Vec Ideal S256x256 .bf16) (Q : Vec Ideal S1024x1024 .bf16) (KV : Vec Ideal S256x2048 .bf16)

/-- One head's row `r`: the values, weighted. -/
def pout (r : Fin 1024) (l : Fin 256) : EReal := ∑ j : Fin 256, weight (row q r) (rows k) j * v (ix2 j l)

theorem head0 (r : Fin 1024) (l : Fin 256) : (k0_pay2 q k v) (ix2 r l) = pout q k v r l := by
  pointwise! [k0_pay2, pout, weight, mass, expo, top, score, scale, row, rows]

theorem head1 (r : Fin 1024) (l : Fin 256) : (k0_pay4 (k0_pay3 q k) v) (ix2 r l) = pout q k v r l := by
  pointwise! [k0_pay4, k0_pay3, pout, weight, mass, expo, top, score, scale, row, rows]

theorem head2 (r : Fin 1024) (l : Fin 256) : (k0_pay5 q k v) (ix2 r l) = pout q k v r l := by
  pointwise! [k0_pay5, pout, weight, mass, expo, top, score, scale, row, rows]

theorem head3 (r : Fin 1024) (l : Fin 256) : (k0_pay1 (k0_pay6 q k) (k0_pay7 q k) v) (ix2 r l) = pout q k v r l := by
  pointwise! [k0_pay1, k0_pay7, k0_pay6, pout, weight, mass, expo, top, score, scale, row, rows]

theorem q0 : View.ld Q r0_0 = qcols Q 0 := q_ld0 Q

theorem k0 : View.ld KV r0_1 = kcols KV 0 := k_ld0 KV

theorem v0 : View.ld KV r0_2 = vcols KV 0 := v_ld0 KV

theorem q1 : View.ld Q r0_3 = qcols Q 1 := q_ld1 Q

theorem k1 : View.ld KV r0_4 = kcols KV 1 := k_ld1 KV

theorem v1 : View.ld KV r0_5 = vcols KV 1 := v_ld1 KV

theorem q2 : View.ld Q r0_6 = qcols Q 2 := q_ld2 Q

theorem k2 : View.ld KV r0_7 = kcols KV 2 := k_ld2 KV

theorem v2 : View.ld KV r0_8 = vcols KV 2 := v_ld2 KV

theorem q3 : View.ld Q r0_9 = qcols Q 3 := q_ld3 Q

theorem k3 : View.ld KV r0_10 = kcols KV 3 := k_ld3 KV

theorem v3 : View.ld KV r0_11 = vcols KV 3 := v_ld3 KV

/-- What a point leaves of head `h`. -/
def bout (h : Fin 4) (r : Fin 1024) (l : Fin 256) : EReal := pout (qcols Q h) (kcols KV h) (vcols KV h) r l

theorem out_at (r : Fin 1024) (h : Fin 4) (l : Fin 256) : out0_2 Q KV (ix2 r ⟨256 * h + l, by omega⟩) = bout Q KV h r l := by
  unfold out0_2
  canon_tiles x hx
  all_goals idx_vars x
  · obtain rfl : h = 3 := Fin.ext (by show (h : ℕ) = 3; omega)
    obtain rfl : r = x0 := Fin.ext hx0
    obtain rfl : l = x1 := Fin.ext (by change 256 * 3 + (l : ℕ) = _ at hx1; omega)
    rw [q3 Q, k3 KV, v3 KV]
    exact head3 _ _ _ r l
  · obtain rfl : h = 2 := Fin.ext (by show (h : ℕ) = 2; omega)
    obtain rfl : r = x0 := Fin.ext hx0
    obtain rfl : l = x1 := Fin.ext (by change 256 * 2 + (l : ℕ) = _ at hx1; omega)
    rw [q2 Q, k2 KV, v2 KV]
    exact head2 _ _ _ r l
  · obtain rfl : h = 1 := Fin.ext (by show (h : ℕ) = 1; omega)
    obtain rfl : r = x0 := Fin.ext hx0
    obtain rfl : l = x1 := Fin.ext (by change 256 * 1 + (l : ℕ) = _ at hx1; omega)
    rw [q1 Q, k1 KV, v1 KV]
    exact head1 _ _ _ r l
  · obtain rfl : h = 0 := Fin.ext (by show (h : ℕ) = 0; omega)
    obtain rfl : r = x0 := Fin.ext hx0
    obtain rfl : l = x1 := Fin.ext (by change 256 * 0 + (l : ℕ) = _ at hx1; omega)
    rw [q0 Q, k0 KV, v0 KV]
    exact head0 _ _ _ r l

end Block

variable (m : (ℓ : Loc nD τ sig) → Buf (Elt Ideal) ℓ) (c : Dev nD)

/-- Where each point's blocks lie. -/
theorem idx : ∀ t : Fin cfg0.N, win0_0.index t = ![t.val, 0] ∧ win0_1.index t = ![t.val / 2, 0] ∧ win0_2.index t = ![t.val, 0] :=
  (by decide +kernel : ∀ t : Fin grid0.N, _)

theorem lt4 (t : Fin cfg0.N) : t.val < 4 := lt_of_lt_of_eq t.isLt (show cfg0.N = 4 from N_0)

theorem q_block (t : Fin cfg0.N) (r C : Fin 1024) :
    (iblk m c 0 t : Vec Ideal S1024x1024 .bf16) (ix2 r C) = m ((c : Thread nD τ).loc main_arg0) (ix2 ⟨1024 * t.val + r, by have := lt4 t; omega⟩ C) := by
  have := idx t
  blk_ext [iblk, V, idx t]

theorem kv_block (t : Fin cfg0.N) (j : Fin 256) (C : Fin 2048) :
    (iblk m c 1 t : Vec Ideal S256x2048 .bf16) (ix2 j C) = m ((c : Thread nD τ).loc main_arg1) (ix2 ⟨256 * (t.val / 2) + j, by have := lt4 t; omega⟩ C) := by
  blk_ext [iblk, V, idx t]

end Cert.Kernel21Ideal.Attn

namespace Cert.Reference21Ideal.Attn

open Idealize.ShloMosaic Idealize.ShloMosaic.TcCoe Cert.Reference21Ideal Cert.Reference21Ideal.Gen Cert.Attention
open Cert.ReferenceIdeal.Attn (qrow krows vrows values weights values_at weights_at)

/-- The reference's result. -/
def attend (q : FVec Ideal S4096x1024 .bf16) (kv : FVec Ideal S512x2048 .bf16) : FVec Ideal S4096x1024 .bf16 :=
  truncf .bf16 (shapeCast _ (shapeCast _ (transpose S2x2048x4x256 [0, 3, 1, 2] (Host.dotGeneral dot_S2x256x4x256_S2x4x2048x256_S2x4x256x2048_1_3_3_2_02_01 none (values kv) (weights q kv)) transposes_S2x4x256x2048_S2x2048x4x256_0_3_1_2) shapeCasts_S2x2048x4x256_S2x2048x1024) shapeCasts_S2x2048x1024_S4096x1024) bitsLt_bf16_f32

theorem attend_at (q : FVec Ideal S4096x1024 .bf16) (kv : FVec Ideal S512x2048 .bf16) (b : Fin 2) (i : Fin 2048) (h : Fin 4) (l : Fin 256) :
    attend q kv (ix2 ⟨2048 * b + i, by omega⟩ ⟨256 * h + l, by omega⟩) = ∑ j : Fin 256, vrows kv b h j l * weight (qrow q b h i) (krows kv b h) j := by
  pointwise [attend, values_at, weights_at]

end Cert.Reference21Ideal.Attn

namespace Cert.Kernel21Ideal.Attn

open Idealize.ShloMosaic Idealize.ShloMosaic.TcCoe Cert.Kernel21Ideal Cert.Kernel21Ideal.Gen Cert.Kernel21Ideal.Value Cert.Attention
open Cert.KernelIdeal.Attn (row rows qcols kcols vcols qcols_at kcols_at vcols_at)
open Cert.ReferenceIdeal.Attn (qrow krows vrows)
open Cert.Reference21Ideal.Attn (attend attend_at)

variable (m : (ℓ : Loc nD τ sig) → Buf (Elt Ideal) ℓ) (c : Dev nD)

/-- The two arguments. -/
abbrev argQ : FVec Ideal S4096x1024 .bf16 := m ((c : Thread nD τ).loc main_arg0)
abbrev argKV : FVec Ideal S512x2048 .bf16 := m ((c : Thread nD τ).loc main_arg1)

variable (b s : Fin 2) (t : Fin cfg0.N) (ht : t.val = 2 * b + s) (h : Fin 4)

include ht

theorem q_row (r : Fin 1024) :
    row (qcols (iblk m c 0 t) h) r = qrow (argQ m c) b h ⟨1024 * s + r, by omega⟩ := by
  funext l
  refine (qcols_at ..).trans ((q_block ..).trans ?_)
  refine congrArg (argQ m c) (congrArg₂ ix2 (Fin.ext ?_) rfl)
  show 1024 * t.val + r = 2048 * b + (1024 * s + r)
  omega

theorem k_rows : rows (kcols (iblk m c 1 t) h) = krows (argKV m c) b h := by
  funext j l
  refine (kcols_at ..).trans ((kv_block ..).trans ?_)
  refine congrArg (argKV m c) (congrArg₂ ix2 (Fin.ext ?_) rfl)
  show 256 * (t.val / 2) + j = 256 * b + j
  omega

theorem v_col (j l : Fin 256) : vcols (iblk m c 1 t) h (ix2 j l) = vrows (argKV m c) b h j l := by
  refine (vcols_at ..).trans ((kv_block ..).trans ?_)
  refine congrArg (argKV m c) (congrArg₂ ix2 (Fin.ext ?_) rfl)
  show 256 * (t.val / 2) + j = 256 * b + j
  omega

theorem bout_eq (r : Fin 1024) (l : Fin 256) :
    bout (iblk m c 0 t) (iblk m c 1 t) h r l = attend (argQ m c) (argKV m c) (ix2 ⟨2048 * b + (1024 * s + r), by omega⟩ ⟨256 * h + l, by omega⟩) := by
  refine Eq.trans ?_ (attend_at (argQ m c) (argKV m c) b ⟨1024 * s + r, by omega⟩ h l).symm
  unfold bout pout
  refine Finset.sum_congr rfl fun j _ => ?_
  rw [q_row m c b s t ht, k_rows m c b s t ht, v_col m c b s t ht, mul_comm]

omit ht

theorem final : (dats m 0 c).arrAt 2 cfg0.N = attend (argQ m c) (argKV m c) := by
  refine (dats m 0 c).arrAt_eq_of_covers 2 _ (by decide +kernel) fun t hf y => ?_
  blk_simp
  rw [after0_2]
  have hN := lt4 t
  obtain ⟨r, C, rfl⟩ : ∃ (r : Fin 1024) (C : Fin 1024), y = ix2 r C := ⟨y 0, y 1, by idx_vars y⟩
  obtain ⟨h, l, rfl⟩ : ∃ (h : Fin 4) (l : Fin 256), C = ⟨256 * h + l, by omega⟩ :=
    ⟨⟨C / 256, by omega⟩, ⟨C % 256, by omega⟩, Fin.ext (by dsimp only; omega)⟩
  refine (out_at ..).trans ((bout_eq m c ⟨t.val / 2, by omega⟩ ⟨t.val % 2, by omega⟩ t (by dsimp only; omega) h r l).trans ?_)
  blk_ext [idx t]

end Cert.Kernel21Ideal.Attn

namespace Cert.Attention.K21

open Idealize.ShloMosaic Idealize.ShloMosaic.TcCoe Idealize.SL.Sem

/-- The reference ends with its arguments unchanged; it declares no semaphore, so all read zero. -/
theorem frame_reference (m : (ℓ : Loc Cert.Reference21Ideal.nD Cert.Reference21Ideal.τ Cert.Reference21Ideal.sig) → Buf (Elt Ideal) ℓ)
    (ρ : Dev Cert.Reference21Ideal.nD → PrngReg) :
    θ_run (Cert.Reference21Ideal.defs (F := Ideal)) (onTc (τ := Cert.Reference21Ideal.τ) (Cert.Reference21Ideal.main (F := Ideal))) ⟨m, fun _ => 0, ρ⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0) :=
  (θ_run _ _ _).mono (fun r h => ⟨fun c => (h c).2, sem_eq_zero_of_no_sems (by decide) r.2⟩) (Cert.Reference21Ideal.Value.run m ρ)

/-- The kernel's result is the reference's. -/
theorem algebraic : Cert.algebraic_Kernel21Ideal_Reference21Ideal
    (hKernel21Ideal := Cert.Kernel21Ideal.Gen.facts) (hReference21Ideal := Cert.Reference21Ideal.Gen.facts) := by
  intro m ρ m' ρ' _ hag
  refine ⟨fun c => (Cert.Kernel21Ideal.Gen.dats m 0 c).arrAt 2 Cert.Kernel21Ideal.cfg0.N,
    Cert.Kernel21Ideal.Value.run_blocks m ρ, (θ_run _ _ _).mono (fun r h c => ?_) (Cert.Reference21Ideal.Value.run m' ρ')⟩
  obtain ⟨h0, hargs⟩ := h c
  obtain ⟨a0, a1⟩ := hag c
  refine ⟨h0.trans ?_, hargs⟩
  rw [a0, a1]
  exact (Cert.Kernel21Ideal.Attn.final m c).symm

end Cert.Attention.K21

end
-- ==== Proof.Norm.AttentionOut.lean ====
/- The attention's output projection, its residual connection and the norm after it. -/
module

public import proofs.«01_k».proof.Defs
public import proofs.«01_k».proof.Proof.Gen.Kernel22Ideal.Value
public import proofs.«01_k».proof.Proof.Gen.Reference22Ideal.Run
public import proofs.«01_k».proof.Proof.Norm.Maths
public import Idealize.ShloMosaic.Adequacy
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel22Ideal.Norm

open Idealize.ShloMosaic Idealize.ShloMosaic.TcCoe Cert.Kernel22Ideal Cert.Kernel22Ideal.Gen Cert.Kernel22Ideal.Value Cert.Norm

section Block

variable (a : Vec Ideal S1024x1024 .bf16) (b : Vec Ideal S1024x1024 .bf16) (x : Vec Ideal S1024x1024 .f32) (g : Vec Ideal S1x1024 .f32)
  (r : Fin 1024) (j : Fin 1024)

/-- Row `r` of a block of the product, and the residual connection's row. -/
def bsum : Row := fun j => (∑ k : Fin 1024, a (ix2 r k) * b (ix2 k j)) + x (ix2 r j)

theorem bsum_at : bsum a b x r j = (∑ k : Fin 1024, a (ix2 r k) * b (ix2 k j)) + x (ix2 r j) := rfl

theorem pay1_at : k0_pay1 a b x (ix2 r j) = bsum a b x r j := by
  pointwise [k0_pay1, bsum_at]

theorem pay2_at : k0_pay2 a b x g (ix2 r j) = normed (bsum a b x r) j * g (ix2 0 j) := by
  pointwise [k0_pay2, pay1_at, normed, rinv, square, len, eps]

variable (c : Dev nD) (i : grid0.Coords) (arg1 : Memref sig .tc .vmem S1024x1024 .bf16) (harg1 : arg1.IsWhole) (arg2 : Memref sig .tc .vmem S1024x1024 .bf16) (harg2 : arg2.IsWhole) (arg3 : Memref sig .tc .vmem S1024x1024 .f32) (harg3 : arg3.IsWhole) (arg4 : Memref sig .tc .vmem S1x1024 .f32) (harg4 : arg4.IsWhole) (arg6 : Memref sig .tc .vmem S1024x1024 .f32) (harg6 : arg6.IsWhole) (arg7 : Memref sig .tc .vmem S1024x1024 .bf16) (harg7 : arg7.IsWhole)

theorem out_sum : out0_A_4 c i arg1 harg1 arg2 harg2 arg3 harg3 arg4 harg4 arg6 harg6 arg7 harg7 a b x g (ix2 r j) = bsum a b x r j := by
  frame_open
  frame_out
  exact pay1_at ..

theorem out_normed : out0_A_5 c i arg1 harg1 arg2 harg2 arg3 harg3 arg4 harg4 arg6 harg6 arg7 harg7 a b x g (ix2 r j) = normed (bsum a b x r) j * g (ix2 0 j) := by
  frame_open
  frame_out
  exact pay2_at ..

end Block

/-- Row `R` of the product, and the residual connection's row. -/
def rsum (a : FVec Ideal S4096x1024 .bf16) (b : FVec Ideal S1024x1024 .bf16) (x : FVec Ideal S4096x1024 .f32) (R : Fin 4096) : Row := fun j => (∑ k : Fin 1024, a (ix2 R k) * b (ix2 k j)) + x (ix2 R j)

theorem rsum_at (a : FVec Ideal S4096x1024 .bf16) (b : FVec Ideal S1024x1024 .bf16) (x : FVec Ideal S4096x1024 .f32) (R : Fin 4096) (j : Fin 1024) : rsum a b x R j = (∑ k : Fin 1024, a (ix2 R k) * b (ix2 k j)) + x (ix2 R j) := rfl

/-- The rows the call leaves. -/
def total (a : FVec Ideal S4096x1024 .bf16) (b : FVec Ideal S1024x1024 .bf16) (x : FVec Ideal S4096x1024 .f32) : FVec Ideal S4096x1024 .f32 := fun y => rsum a b x (y 0) (y 1)

theorem total_at (a : FVec Ideal S4096x1024 .bf16) (b : FVec Ideal S1024x1024 .bf16) (x : FVec Ideal S4096x1024 .f32) (R : Fin 4096) (j : Fin 1024) : total a b x (ix2 R j) = rsum a b x R j := rfl

/-- The normed rows the call leaves. -/
def scaled (a : FVec Ideal S4096x1024 .bf16) (b : FVec Ideal S1024x1024 .bf16) (x : FVec Ideal S4096x1024 .f32) (g : FVec Ideal S1x1024 .f32) : FVec Ideal S4096x1024 .bf16 := fun y => normed (rsum a b x (y 0)) (y 1) * g (ix2 0 (y 1))

theorem scaled_at (a : FVec Ideal S4096x1024 .bf16) (b : FVec Ideal S1024x1024 .bf16) (x : FVec Ideal S4096x1024 .f32) (g : FVec Ideal S1x1024 .f32) (R : Fin 4096) (j : Fin 1024) :
    scaled a b x g (ix2 R j) = normed (rsum a b x R) j * g (ix2 0 j) := rfl

variable (m : (ℓ : Loc nD τ sig) → Buf (Elt Ideal) ℓ) (c : Dev nD)

/-- Where each point's blocks lie. -/
theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, _)

theorem lt4 (t : Fin cfg0.N) : t.val < 4 := lt_of_lt_of_eq t.isLt (show cfg0.N = 4 from N_0)

theorem sum_block (t : Fin cfg0.N) (r : Fin 1024) :
    bsum (iblk m c 0 t) (iblk m c 1 t) (iblk m c 2 t) r = rsum (m ((c : Thread nD τ).loc main_arg0)) (m ((c : Thread nD τ).loc main_arg1)) (m ((c : Thread nD τ).loc main_arg2)) ⟨t.val * 1024 + r, by have := lt4 t; omega⟩ := by
  funext j
  rw [bsum_at, rsum_at]
  congr 1
  · refine Finset.sum_congr rfl fun k _ => ?_
    congr 1 <;> blk_ext [iblk, V, idx t]
  · blk_ext [iblk, V, idx t]

theorem gain_block (t : Fin cfg0.N) (j : Fin 1024) :
    (iblk m c 3 t : Vec Ideal S1x1024 .f32) (ix2 0 j) = (m ((c : Thread nD τ).loc main_arg3)) (ix2 0 j) := by
  blk_ext [iblk, V, idx t]

theorem final_sum : (dats m 0 c).arrAt 4 cfg0.N = total (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  dsimp only
  idx_vars y
  refine (out_sum ..).trans ?_
  rw [sum_block, ← total_at]
  blk_ext [idx t]

theorem final_normed : (dats m 0 c).arrAt 5 cfg0.N = scaled (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  unfold outsAt0
  dsimp only
  idx_vars y
  refine (out_normed ..).trans ?_
  rw [sum_block, gain_block, ← scaled_at]
  blk_ext [idx t]

end Cert.Kernel22Ideal.Norm

namespace Cert.Reference22Ideal.Norm

open Idealize.ShloMosaic Idealize.ShloMosaic.TcCoe Cert.Reference22Ideal Cert.Reference22Ideal.Gen Cert.Norm Cert.Kernel22Ideal.Norm

variable (a : FVec Ideal S4096x1024 .bf16) (b : FVec Ideal S1024x1024 .bf16) (x : FVec Ideal S4096x1024 .f32) (g : FVec Ideal S1x1024 .f32)

/-- The rows the reference norms. -/
def sums : FVec Ideal S4096x1024 .f32 :=
  addf x (Host.dotGeneral dot_S4096x1024_S1024x1024_S4096x1024_1_0_0_1_n_n none (extf .f32 a bitsLt_bf16_f32) (extf .f32 b bitsLt_bf16_f32))

theorem sums_at (R : Fin 4096) (j : Fin 1024) : sums a b x (ix2 R j) = rsum a b x R j := by
  rw [rsum_at, add_comm]
  pointwise [sums]

/-- The rows' means of squares, with `eps` added. -/
def squares (y : FVec Ideal S4096x1024 .f32) : FVec Ideal S4096x1 .f32 :=
  addf (Host.divf (broadcastInDim S4096x1 ![0] bcast_S4096_S4096x1_0 (Host.reduceAdd (mulf y y) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normed rows. -/
def norms : FVec Ideal S4096x1024 .bf16 :=
  truncf .bf16 (mulf (mulf (sums a b x) (broadcastInDim S4096x1024 ![0, 1] bcast_S4096x1_S4096x1024_0_1 (Host.rsqrt (squares (sums a b x))))) (broadcastInDim S4096x1024 ![0, 1] bcast_S1x1024_S4096x1024_0_1 g)) bitsLt_bf16_f32

theorem sums_eq : sums a b x = total a b x := by
  funext y
  idx_vars y
  rw [sums_at, total_at]

theorem norms_eq : norms a b x g = scaled a b x g := by
  funext y
  idx_vars y
  rw [scaled_at]
  pointwise [norms, squares, sums_at, normed, rinv, square, len, eps]

end Cert.Reference22Ideal.Norm

namespace Cert.Norm.K22

open Idealize.ShloMosaic Idealize.ShloMosaic.TcCoe Idealize.SL.Sem

/-- The reference ends with its arguments unchanged; it declares no semaphore, so all read zero. -/
theorem frame_reference (m : (ℓ : Loc Cert.Reference22Ideal.nD Cert.Reference22Ideal.τ Cert.Reference22Ideal.sig) → Buf (Elt Ideal) ℓ)
    (ρ : Dev Cert.Reference22Ideal.nD → PrngReg) :
    θ_run (Cert.Reference22Ideal.defs (F := Ideal)) (onTc (τ := Cert.Reference22Ideal.τ) (Cert.Reference22Ideal.main (F := Ideal))) ⟨m, fun _ => 0, ρ⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0) :=
  (θ_run _ _ _).mono (fun r h => ⟨fun c => (h c).2.2, sem_eq_zero_of_no_sems (by decide) r.2⟩) (Cert.Reference22Ideal.Value.run m ρ)

/-- The kernel's rows and normed rows are the reference's. -/
theorem algebraic : Cert.algebraic_Kernel22Ideal_Reference22Ideal
    (hKernel22Ideal := Cert.Kernel22Ideal.Gen.facts) (hReference22Ideal := Cert.Reference22Ideal.Gen.facts) := by
  intro m ρ m' ρ' _ hag
  refine ⟨fun c => (Cert.Kernel22Ideal.Gen.dats m 0 c).arrAt 4 Cert.Kernel22Ideal.cfg0.N, fun c => (Cert.Kernel22Ideal.Gen.dats m 0 c).arrAt 5 Cert.Kernel22Ideal.cfg0.N,
    Cert.Kernel22Ideal.Value.run_blocks m ρ, (θ_run _ _ _).mono (fun r h c => ?_) (Cert.Reference22Ideal.Value.run m' ρ')⟩
  obtain ⟨h0, h1, hargs⟩ := h c
  obtain ⟨a0, a1, a2, a3, a4⟩ := hag c
  refine ⟨h0.trans ?_, h1.trans ?_, hargs⟩
  · rw [a0, a1, a2]
    exact (Cert.Reference22Ideal.Norm.sums_eq _ _ _).trans (Cert.Kernel22Ideal.Norm.final_sum m c).symm
  · rw [a0, a1, a2, a3]
    exact (Cert.Reference22Ideal.Norm.norms_eq _ _ _ _).trans (Cert.Kernel22Ideal.Norm.final_normed m c).symm

end Cert.Norm.K22

end
-- ==== Proof.Norm.MixNorm.lean ====
/- The norm before the mixers. -/
module

public import proofs.«01_k».proof.Defs
public import proofs.«01_k».proof.Proof.Gen.Kernel23Ideal.Value
public import proofs.«01_k».proof.Proof.Gen.Reference23Ideal.Run
public import proofs.«01_k».proof.Proof.Norm.Maths
public import Idealize.ShloMosaic.Adequacy
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel23Ideal.Norm

open Idealize.ShloMosaic Idealize.ShloMosaic.TcCoe Cert.Kernel23Ideal Cert.Kernel23Ideal.Gen Cert.Kernel23Ideal.Value Cert.Norm

theorem pay_at (x : Vec Ideal S1024x1024 .f32) (g : Vec Ideal S1x1024 .f32) (r : Fin 1024) (j : Fin 1024) :
    k0_pay1 x g (ix2 r j) = normed (fun i => x (ix2 r i)) j * g (ix2 0 j) := by
  pointwise [k0_pay1, normed, rinv, square, len, eps]

theorem out_at (x : Vec Ideal S1024x1024 .f32) (g : Vec Ideal S1x1024 .f32) (r : Fin 1024) (j : Fin 1024) (c : Dev nD) (i : grid0.Coords)
    (arg1 : Memref sig .tc .vmem S1024x1024 .f32) (harg1 : arg1.IsWhole) (arg2 : Memref sig .tc .vmem S1x1024 .f32) (harg2 : arg2.IsWhole) (arg4 : Memref sig .tc .vmem S1024x1024 .bf16) (harg4 : arg4.IsWhole) :
    out0_A_2 c i arg1 harg1 arg2 harg2 arg4 harg4 x g (ix2 r j) = normed (fun i => x (ix2 r i)) j * g (ix2 0 j) := by
  frame_open
  frame_out
  exact pay_at ..

/-- The normed rows the call leaves. -/
def scaled (x : FVec Ideal S4096x1024 .f32) (g : FVec Ideal S1x1024 .f32) : FVec Ideal S4096x1024 .bf16 := fun y => normed (fun i => x (ix2 (y 0) i)) (y 1) * g (ix2 0 (y 1))

theorem scaled_at (x : FVec Ideal S4096x1024 .f32) (g : FVec Ideal S1x1024 .f32) (R : Fin 4096) (j : Fin 1024) :
    scaled x g (ix2 R j) = normed (fun i => x (ix2 R i)) j * g (ix2 0 j) := rfl

variable (m : (ℓ : Loc nD τ sig) → Buf (Elt Ideal) ℓ) (c : Dev nD)

/-- Where each point's blocks lie. -/
theorem idx : ∀ t : Fin cfg0.N, win0_0.index t = ![t.val, 0] ∧ win0_1.index t = ![0, 0] ∧ win0_2.index t = ![t.val, 0] :=
  (by decide +kernel : ∀ t : Fin grid0.N, _)

theorem lt4 (t : Fin cfg0.N) : t.val < 4 := lt_of_lt_of_eq t.isLt (show cfg0.N = 4 from N_0)

theorem row_block (t : Fin cfg0.N) (r : Fin 1024) :
    (fun i => (iblk m c 0 t : Vec Ideal S1024x1024 .f32) (ix2 r i)) = fun i => (m ((c : Thread nD τ).loc main_arg0)) (ix2 ⟨t.val * 1024 + r, by have := lt4 t; omega⟩ i) := by
  funext i
  blk_ext [iblk, V, idx t]

theorem gain_block (t : Fin cfg0.N) (j : Fin 1024) :
    (iblk m c 1 t : Vec Ideal S1x1024 .f32) (ix2 0 j) = (m ((c : Thread nD τ).loc main_arg1)) (ix2 0 j) := by
  blk_ext [iblk, V, idx t]

theorem final_normed : (dats m 0 c).arrAt 2 cfg0.N = scaled (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  dsimp only
  idx_vars y
  refine (out_at ..).trans ?_
  rw [row_block, gain_block, ← scaled_at]
  blk_ext [idx t]

end Cert.Kernel23Ideal.Norm

namespace Cert.Reference23Ideal.Norm

open Idealize.ShloMosaic Idealize.ShloMosaic.TcCoe Cert.Reference23Ideal Cert.Reference23Ideal.Gen Cert.Norm Cert.Kernel23Ideal.Norm

variable (x : FVec Ideal S4096x1024 .f32) (g : FVec Ideal S1x1024 .f32)

/-- The rows' means of squares, with `eps` added. -/
def squares : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The normed rows. -/
def norms : FVec Ideal S4096x1024 .bf16 :=
  truncf .bf16 (mulf (mulf x (broadcastInDim S4096x1024 ![0, 1] bcast_S4096x1_S4096x1024_0_1 (Host.rsqrt (squares x)))) (broadcastInDim S4096x1024 ![0, 1] bcast_S1x1024_S4096x1024_0_1 g)) bitsLt_bf16_f32

theorem norms_eq : norms x g = scaled x g := by
  funext y
  idx_vars y
  rw [scaled_at]
  pointwise [norms, squares, normed, rinv, square, len, eps]

end Cert.Reference23Ideal.Norm

namespace Cert.Norm.K23

open Idealize.ShloMosaic Idealize.ShloMosaic.TcCoe Idealize.SL.Sem

/-- The reference ends with its arguments unchanged; it declares no semaphore, so all read zero. -/
theorem frame_reference (m : (ℓ : Loc Cert.Reference23Ideal.nD Cert.Reference23Ideal.τ Cert.Reference23Ideal.sig) → Buf (Elt Ideal) ℓ)
    (ρ : Dev Cert.Reference23Ideal.nD → PrngReg) :
    θ_run (Cert.Reference23Ideal.defs (F := Ideal)) (onTc (τ := Cert.Reference23Ideal.τ) (Cert.Reference23Ideal.main (F := Ideal))) ⟨m, fun _ => 0, ρ⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0) :=
  (θ_run _ _ _).mono (fun r h => ⟨fun c => (h c).2, sem_eq_zero_of_no_sems (by decide) r.2⟩) (Cert.Reference23Ideal.Value.run m ρ)

/-- The kernel's normed rows are the reference's. -/
theorem algebraic : Cert.algebraic_Kernel23Ideal_Reference23Ideal
    (hKernel23Ideal := Cert.Kernel23Ideal.Gen.facts) (hReference23Ideal := Cert.Reference23Ideal.Gen.facts) := by
  intro m ρ m' ρ' _ hag
  refine ⟨fun c => (Cert.Kernel23Ideal.Gen.dats m 0 c).arrAt 2 Cert.Kernel23Ideal.cfg0.N,
    Cert.Kernel23Ideal.Value.run_blocks m ρ, (θ_run _ _ _).mono (fun r h c => ?_) (Cert.Reference23Ideal.Value.run m' ρ')⟩
  obtain ⟨h0, hargs⟩ := h c
  obtain ⟨a0, a1, a2⟩ := hag c
  refine ⟨h0.trans ?_, hargs⟩
  rw [a0, a1]
  exact (Cert.Reference23Ideal.Norm.norms_eq _ _).trans (Cert.Kernel23Ideal.Norm.final_normed m c).symm

end Cert.Norm.K23

end
-- ==== Proof.Norm.MemoryNorm.lean ====
/- The memory's norm. -/
module

public import proofs.«01_k».proof.Defs
public import proofs.«01_k».proof.Proof.Gen.Kernel24Ideal.Value
public import proofs.«01_k».proof.Proof.Gen.Reference24Ideal.Run
public import proofs.«01_k».proof.Proof.Norm.Maths
public import Idealize.ShloMosaic.Adequacy
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel24Ideal.Norm

open Idealize.ShloMosaic Idealize.ShloMosaic.TcCoe Cert.Kernel24Ideal Cert.Kernel24Ideal.Gen Cert.Kernel24Ideal.Value Cert.Norm

theorem pay_at (x : Vec Ideal S512x1024 .f32) (g : Vec Ideal S1x1024 .f32) (r : Fin 512) (j : Fin 1024) :
    k0_pay1 x g (ix2 r j) = normed (fun i => x (ix2 r i)) j * g (ix2 0 j) := by
  pointwise [k0_pay1, normed, rinv, square, len, eps]

/-- The normed rows the call leaves. -/
def scaled (x : FVec Ideal S512x1024 .f32) (g : FVec Ideal S1x1024 .f32) : FVec Ideal S512x1024 .bf16 := fun y => normed (fun i => x (ix2 (y 0) i)) (y 1) * g (ix2 0 (y 1))

theorem scaled_at (x : FVec Ideal S512x1024 .f32) (g : FVec Ideal S1x1024 .f32) (R : Fin 512) (j : Fin 1024) :
    scaled x g (ix2 R j) = normed (fun i => x (ix2 R i)) j * g (ix2 0 j) := rfl

variable (m : (ℓ : Loc nD τ sig) → Buf (Elt Ideal) ℓ) (c : Dev nD)

/-- Where each point's blocks lie. -/
theorem idx : ∀ t : Fin cfg0.N, win0_0.index t = ![0, 0] ∧ win0_1.index t = ![0, 0] ∧ win0_2.index t = ![0, 0] :=
  (by decide +kernel : ∀ t : Fin grid0.N, _)

theorem row_block (t : Fin cfg0.N) (r : Fin 512) :
    (fun i => (iblk m c 0 t : Vec Ideal S512x1024 .f32) (ix2 r i)) = fun i => (m ((c : Thread nD τ).loc main_arg0)) (ix2 r i) := by
  funext i
  blk_ext [iblk, V, idx t]

theorem gain_block (t : Fin cfg0.N) (j : Fin 1024) :
    (iblk m c 1 t : Vec Ideal S1x1024 .f32) (ix2 0 j) = (m ((c : Thread nD τ).loc main_arg1)) (ix2 0 j) := by
  blk_ext [iblk, V, idx t]

theorem final_normed : (dats m 0 c).arrAt 2 cfg0.N = scaled (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  refine (pay_at ..).trans ?_
  rw [row_block, gain_block, ← scaled_at]
  blk_ext [idx t]

end Cert.Kernel24Ideal.Norm

namespace Cert.Reference24Ideal.Norm

open Idealize.ShloMosaic Idealize.ShloMosaic.TcCoe Cert.Reference24Ideal Cert.Reference24Ideal.Gen Cert.Norm Cert.Kernel24Ideal.Norm

variable (x : FVec Ideal S512x1024 .f32) (g : FVec Ideal S1x1024 .f32)

/-- The rows' means of squares, with `eps` added. -/
def squares : FVec Ideal S512x1 .f32 :=
  addf (Host.divf (broadcastInDim S512x1 ![0] bcast_S512_S512x1_0 (Host.reduceAdd (mulf x x) (constant S_ .f32 0x00000000#32) reducesTo_S512x1024_S512_d1 h_S_)) (broadcastInDim S512x1 ![] bcast_S_S512x1 (constant S_ .f32 0x44800000#32))) (broadcastInDim S512x1 ![] bcast_S_S512x1 (constant S_ .f32 0x358637BD#32))

/-- The normed rows. -/
def norms : FVec Ideal S512x1024 .bf16 :=
  truncf .bf16 (mulf (mulf x (broadcastInDim S512x1024 ![0, 1] bcast_S512x1_S512x1024_0_1 (Host.rsqrt (squares x)))) (broadcastInDim S512x1024 ![0, 1] bcast_S1x1024_S512x1024_0_1 g)) bitsLt_bf16_f32

theorem norms_eq : norms x g = scaled x g := by
  funext y
  idx_vars y
  rw [scaled_at]
  pointwise [norms, squares, normed, rinv, square, len, eps]

end Cert.Reference24Ideal.Norm

namespace Cert.Norm.K24

open Idealize.ShloMosaic Idealize.ShloMosaic.TcCoe Idealize.SL.Sem

/-- The reference ends with its arguments unchanged; it declares no semaphore, so all read zero. -/
theorem frame_reference (m : (ℓ : Loc Cert.Reference24Ideal.nD Cert.Reference24Ideal.τ Cert.Reference24Ideal.sig) → Buf (Elt Ideal) ℓ)
    (ρ : Dev Cert.Reference24Ideal.nD → PrngReg) :
    θ_run (Cert.Reference24Ideal.defs (F := Ideal)) (onTc (τ := Cert.Reference24Ideal.τ) (Cert.Reference24Ideal.main (F := Ideal))) ⟨m, fun _ => 0, ρ⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0) :=
  (θ_run _ _ _).mono (fun r h => ⟨fun c => (h c).2, sem_eq_zero_of_no_sems (by decide) r.2⟩) (Cert.Reference24Ideal.Value.run m ρ)

/-- The kernel's normed rows are the reference's. -/
theorem algebraic : Cert.algebraic_Kernel24Ideal_Reference24Ideal
    (hKernel24Ideal := Cert.Kernel24Ideal.Gen.facts) (hReference24Ideal := Cert.Reference24Ideal.Gen.facts) := by
  intro m ρ m' ρ' _ hag
  refine ⟨fun c => (Cert.Kernel24Ideal.Gen.dats m 0 c).arrAt 2 Cert.Kernel24Ideal.cfg0.N,
    Cert.Kernel24Ideal.Value.run_blocks m ρ, (θ_run _ _ _).mono (fun r h c => ?_) (Cert.Reference24Ideal.Value.run m' ρ')⟩
  obtain ⟨h0, hargs⟩ := h c
  obtain ⟨a0, a1⟩ := hag c
  refine ⟨h0.trans ?_, hargs⟩
  rw [a0, a1]
  exact (Cert.Reference24Ideal.Norm.norms_eq _ _).trans (Cert.Kernel24Ideal.Norm.final_normed m c).symm

end Cert.Norm.K24

end
-- ==== Proof.Gate.GateBlock.lean ====
/- The gate of the feed-forward network with its convolution: what one grid point of the call leaves. -/
module

public import proofs.«01_k».proof.Proof.Gen.Kernel25Ideal.Value
public import Idealize.ShloMosaic.Lib.Pointwise
public import Idealize.ShloMosaic.Lib.WritesUnit
public import Idealize.ShloMosaic.Lib.VecWindow
public import Idealize.ShloMosaic.Lib.Pipeline.ValueKit
public import Idealize.ShloMosaic.Lib.Pipeline.ReadBack

@[expose] public section

set_option maxRecDepth 16384

noncomputable section

namespace Cert.Kernel25Ideal.Gate

open Idealize.ShloMosaic Idealize.ShloMosaic.TcCoe Cert.Kernel25Ideal Cert.Kernel25Ideal.Gen

/-- One output of the convolution: the offset, and the three taps at a row's second predecessor, its predecessor and the row. -/
def taps (b w0 w1 w2 p2 p1 p0 : EReal) : EReal := b + w0 * p2 + w1 * p1 + w2 * p0

/-- The logistic function. -/
def logi (h : EReal) : EReal := Ideal.div (Ideal.ofBits .f32 0x3F800000#32) (Ideal.ofBits .f32 0x3F800000#32 + Ideal.exp (-h))

/-- The gated product. -/
def gated (g v : EReal) : EReal := g * logi g * v

variable (b w0 w1 w2 : Vec Ideal S1x256 .f32) (v u : Vec Ideal S1x80x256 .bf16) (h : Vec Ideal S2x16x256 .bf16) (f : Vec Ideal S1x64x256 .bf16)
  (p : FVec Ideal S72x256 .f32) (q : FVec Ideal S80x256 .bf16) (g : FVec Ideal S64x256 .f32) (r : Fin 64) (j : Fin 256)

theorem rot6 (r : ℕ) (h : r < 64) : (r + 72 - 66) % 72 = r + 6 := by omega
theorem rot7 (r : ℕ) (h : r < 64) : (r + 72 - 65) % 72 = r + 7 := by omega

/-- The window's rows from the eighth on. -/
theorem pay7_at (s : Fin 72) : k0_pay7 v (ix2 s j) = v (ix3 0 ⟨s.val + 8, by omega⟩ j) := by
  pointwise [k0_pay7, Nat.add_comm]

theorem pay2_at : k0_pay2 p 66#32 b w0 w1 w2 (ix2 r j) = taps (b (ix2 0 j)) (w0 (ix2 0 j)) (w1 (ix2 0 j)) (w2 (ix2 0 j))
    (p (ix2 ⟨r.val + 6, by omega⟩ j)) (p (ix2 ⟨r.val + 7, by omega⟩ j)) (p (ix2 ⟨r.val + 8, by omega⟩ j)) := by
  have h6 := rot6 r.val r.isLt
  have h7 := rot7 r.val r.isLt
  pointwise [k0_pay2, taps, h6, h7, Nat.add_comm]

theorem pay5_at : k0_pay5 v b w0 w1 w2 (ix2 r j) = taps (b (ix2 0 j)) (w0 (ix2 0 j)) (w1 (ix2 0 j)) (w2 (ix2 0 j))
    (v (ix3 0 ⟨r.val + 14, by omega⟩ j)) (v (ix3 0 ⟨r.val + 15, by omega⟩ j)) (v (ix3 0 ⟨r.val + 16, by omega⟩ j)) := by
  have h6 := rot6 r.val r.isLt
  have h7 := rot7 r.val r.isLt
  have e6 : r.val + 6 + 8 = r.val + 14 := rfl
  have e7 : r.val + 7 + 8 = r.val + 15 := rfl
  have e8 : 8 + (r.val + 8) = r.val + 16 := by omega
  pointwise [k0_pay5, taps, h6, h7, Nat.add_comm, e6, e7, e8]

theorem pay6_at (z : Fin 1) : k0_pay6 v b w0 w1 w2 (ix3 z r j) = k0_pay5 v b w0 w1 w2 (ix2 r j) := by
  pointwise [k0_pay6]

theorem pay3_at (z : Fin 1) : k0_pay3 p 66#32 b w0 w1 w2 (ix3 z r j) = k0_pay2 p 66#32 b w0 w1 w2 (ix2 r j) := by
  pointwise [k0_pay3]

theorem pay4_at : k0_pay4 g p 66#32 b w0 w1 w2 (ix2 r j) = gated (g (ix2 r j)) (k0_pay2 p 66#32 b w0 w1 w2 (ix2 r j)) := by
  pointwise [k0_pay4, gated, logi, zero_sub]

theorem pay1_at (g' : FVec Ideal S64x256 .f32) : k0_pay1 g g' (ix2 r j) = gated (g (ix2 r j)) (g' (ix2 r j)) := by
  pointwise [k0_pay1, gated, logi, zero_sub]

/-- The rows before a sequence's first are zero. -/
theorem pay8_eq (i : grid0.Coords) : k0_pay8 i h = fun _ => (0 : EReal) := by
  have hi : (i 1).val = 0 ∨ (i 1).val = 1 := by have : (i 1).val < 2 := (i 1).isLt; omega
  funext y
  unfold k0_pay8
  rcases hi with hi | hi
  · rw [hi]; pointwise; rfl
  · rw [hi]; pointwise; rfl

/-- The sixteen rows before the first and the first chunk's. -/
def led (s : ℕ) (hs : s < 80) (j : Fin 256) : EReal := if h : 16 ≤ s then f (ix3 0 ⟨s - 16, by omega⟩ j) else 0

theorem pay9_at (i : grid0.Coords) (s : Fin 80) : k0_pay9 i h f (ix2 s j) = led f s.val s.isLt j := by
  unfold led
  by_cases hs : 16 ≤ s.val
  · have : ¬ s.val < 16 := by omega
    pointwise [k0_pay9, pay8_eq, hs, this]
  · have : s.val < 16 := by omega
    pointwise [k0_pay9, pay8_eq, hs, this]

theorem pay10_at (i : grid0.Coords) (s : Fin 72) : k0_pay10 i h f (ix2 s j) = led f (s.val + 8) (by omega) j := by
  unfold led
  by_cases hs : 16 ≤ s.val + 8
  · have : ¬ s.val + 8 < 16 := by omega
    have h' : ¬ 8 + s.val < 16 := by omega
    have e : 8 + s.val - 16 = s.val + 8 - 16 := by omega
    pointwise [k0_pay10, pay8_eq, hs, this, h', e]
  · have : s.val + 8 < 16 := by omega
    have h' : 8 + s.val < 16 := by omega
    pointwise [k0_pay10, pay8_eq, hs, this, h']

theorem pay11_at (i : grid0.Coords) : k0_pay11 i h f (ix2 r j) = led f (r.val + 15) (by omega) j := by
  have h7 := rot7 r.val r.isLt
  pointwise [k0_pay11, pay10_at, h7]

theorem pay12_at (i : grid0.Coords) : k0_pay12 i h f (ix2 r j) = led f (r.val + 16) (by omega) j := by
  have e8 : 8 + r.val + 8 = r.val + 16 := by omega
  pointwise [k0_pay12, pay10_at, e8]

theorem pay13_at (i : grid0.Coords) : k0_pay13 i h f w0 (ix2 r j) = w0 (ix2 0 j) * led f (r.val + 14) (by omega) j := by
  have h6 := rot6 r.val r.isLt
  pointwise [k0_pay13, pay10_at, h6]

theorem pay14_at (i : grid0.Coords) : k0_pay14 (k0_pay11 i h f) (k0_pay12 i h f) b (k0_pay13 i h f w0) w1 w2 (ix2 r j) =
    taps (b (ix2 0 j)) (w0 (ix2 0 j)) (w1 (ix2 0 j)) (w2 (ix2 0 j)) (led f (r.val + 14) (by omega) j) (led f (r.val + 15) (by omega) j) (led f (r.val + 16) (by omega) j) := by
  pointwise [k0_pay14, pay11_at, pay12_at, pay13_at, taps]

theorem pay15_at (x y : FVec Ideal S64x256 .f32) (z : FVec Ideal S64x256 .f32) (u : Fin 1) : k0_pay15 x y b z w1 w2 (ix3 u r j) = k0_pay14 x y b z w1 w2 (ix2 r j) := by
  pointwise [k0_pay15]

theorem pay16_at (i : grid0.Coords) : k0_pay16 (k0_pay9 i h f) b w0 w1 w2 (ix2 r j) =
    taps (b (ix2 0 j)) (w0 (ix2 0 j)) (w1 (ix2 0 j)) (w2 (ix2 0 j)) (led f (r.val + 14) (by omega) j) (led f (r.val + 15) (by omega) j) (led f (r.val + 16) (by omega) j) := by
  have h6 := rot6 r.val r.isLt
  have h7 := rot7 r.val r.isLt
  have e6 : 8 + (r.val + 6) = r.val + 14 := by omega
  have e7 : 8 + (r.val + 7) = r.val + 15 := by omega
  have e8 : 8 + (8 + r.val) = r.val + 16 := by omega
  pointwise [k0_pay16, taps, h6, h7, pay9_at, e6, e7, e8]

theorem pay17_at (z : Fin 1) : k0_pay17 q b w0 w1 w2 (ix3 z r j) = k0_pay16 q b w0 w1 w2 (ix2 r j) := by
  pointwise [k0_pay17]

end Cert.Kernel25Ideal.Gate

end
-- ==== Proof.Gate.GatePieces.lean ====
/- The gate of the feed-forward network with its convolution: the pieces that one grid point of the call stores. -/
module

public import proofs.«01_k».proof.Proof.Gate.GateBlock

@[expose] public section

set_option maxRecDepth 16384

noncomputable section

namespace Cert.Kernel25Ideal.Gate

open Idealize.ShloMosaic Idealize.ShloMosaic.TcCoe Cert.Kernel25Ideal Cert.Kernel25Ideal.Gen

/-- Row `R` less `a`, zero before the first. -/
def prev (x : Vec Ideal S2x2048x256 .bf16) (s : Fin 2) (R : Fin 2048) (a : ℕ) (j : Fin 256) : EReal :=
  if h : a ≤ R.val then x (ix3 s ⟨R.val - a, by omega⟩ j) else 0

/-- The convolution of a block's half `s`. -/
def bconv (x : Vec Ideal S2x2048x256 .bf16) (w : Vec Ideal S8x256 .f32) (b : Vec Ideal S1x256 .f32) (s : Fin 2) (R : Fin 2048) (j : Fin 256) : EReal :=
  taps (b (ix2 0 j)) (w (ix2 0 j)) (w (ix2 1 j)) (w (ix2 2 j)) (prev x s R 2 j) (prev x s R 1 j) (prev x s R 0 j)

theorem ld_at {S : Shape} {e : EltTy} (a : Memref sig .tc .vmem S e) (ha : a.IsWhole) (X : S.Idx → Elt Ideal e) (r : Rect S) :
    View.readAt (Elt Ideal) a.view r.toLoadRect (ha.unread X) = View.ld X r := by
  rw [View.readAt_eq_ld, ha.read_unread]

section Chunks

variable (x : Vec Ideal S2x2048x256 .bf16) (w : Vec Ideal S8x256 .f32) (b : Vec Ideal S1x256 .f32) (j : Fin 256) (r : Fin 64)

theorem bias_at {inb} (z : Fin 1) : View.ld (Val := Elt Ideal) (e' := .f32) b (Rect.unit (s := S1x256) ![0, 0] ![1, 256] inb) (ix2 z j) = b (ix2 0 j) := by
  pointwise

theorem tap0_at {inb} (z : Fin 1) : View.ld (Val := Elt Ideal) (e' := .f32) w (Rect.unit (s := S8x256) ![0, 0] ![1, 256] inb) (ix2 z j) = w (ix2 0 j) := by
  pointwise

theorem tap1_at {inb} (z : Fin 1) : View.ld (Val := Elt Ideal) (e' := .f32) w (Rect.unit (s := S8x256) ![1, 0] ![1, 256] inb) (ix2 z j) = w (ix2 1 j) := by
  pointwise

theorem tap2_at {inb} (z : Fin 1) : View.ld (Val := Elt Ideal) (e' := .f32) w (Rect.unit (s := S8x256) ![2, 0] ![1, 256] inb) (ix2 z j) = w (ix2 2 j) := by
  pointwise

/-- A later chunk's window. -/
theorem win_at (s : Fin 2) (o : ℕ) (off : Fin 3 → ℕ) (ho : off = ![s.val, o, 0]) {inb} (z : Fin 1) (t : Fin 80) (h : o + t.val < 2048) :
    View.ld (Val := Elt Ideal) (e' := .bf16) x (Rect.unit (s := S2x2048x256) off ![1, 80, 256] inb) (ix3 z t j) = x (ix3 s ⟨o + t.val, h⟩ j) := by
  subst ho
  pointwise

/-- The first chunk's window. -/
theorem led_at (s : Fin 2) {inb} (t : ℕ) (ht : t < 80) (R : Fin 2048) (a : ℕ) (hR : R.val + 16 = t + a) :
    led (View.ld (Val := Elt Ideal) (e' := .bf16) x (Rect.unit (s := S2x2048x256) ![s.val, 0, 0] ![1, 64, 256] inb)) t ht j = prev x s R a j := by
  unfold led prev
  by_cases h : 16 ≤ t
  · have h' : a ≤ R.val := by omega
    have e : t - 16 = R.val - a := by omega
    simp only [h, h', dite_true]
    pointwise [e]
  · have h' : ¬ a ≤ R.val := by omega
    simp only [h, h', dite_false]

theorem prev_of_le (s : Fin 2) (R : Fin 2048) (a : ℕ) (q : Fin 2048) (h : q.val + a = R.val) : prev x s R a j = x (ix3 s q j) := by
  unfold prev
  rw [dif_pos (show a ≤ R.val by omega)]
  congr 2
  exact Fin.ext (by show R.val - a = q.val; omega)

end Chunks

section Convs

variable (x : Vec Ideal S2x2048x256 .bf16) (w : Vec Ideal S8x256 .f32) (b : Vec Ideal S1x256 .f32) (j : Fin 256) (r : Fin 64) (R : Fin 2048)

theorem later5 (s : Fin 2) (o : ℕ) (off : Fin 3 → ℕ) (ho : off = ![s.val, o, 0]) {i0 i1 i2 i3 i4} (hR : R.val = o + 16 + r.val) :
    k0_pay5 (View.ld (Val := Elt Ideal) (e' := .bf16) x (Rect.unit (s := S2x2048x256) off ![1, 80, 256] i4)) (View.ld (Val := Elt Ideal) (e' := .f32) b (Rect.unit (s := S1x256) ![0, 0] ![1, 256] i0)) (View.ld (Val := Elt Ideal) (e' := .f32) w (Rect.unit (s := S8x256) ![0, 0] ![1, 256] i1)) (View.ld (Val := Elt Ideal) (e' := .f32) w (Rect.unit (s := S8x256) ![1, 0] ![1, 256] i2)) (View.ld (Val := Elt Ideal) (e' := .f32) w (Rect.unit (s := S8x256) ![2, 0] ![1, 256] i3)) (ix2 r j) = bconv x w b s R j := by
  have hR' := R.isLt
  rw [pay5_at, bias_at, tap0_at, tap1_at, tap2_at, bconv, win_at x j s o off ho _ _ (by show o + (r.val + 14) < 2048; omega), win_at x j s o off ho _ _ (by show o + (r.val + 15) < 2048; omega),
    win_at x j s o off ho _ _ (by show o + (r.val + 16) < 2048; omega),
    prev_of_le x j s R 2 ⟨o + (r.val + 14), by omega⟩ (by show o + (r.val + 14) + 2 = R.val; omega),
    prev_of_le x j s R 1 ⟨o + (r.val + 15), by omega⟩ (by show o + (r.val + 15) + 1 = R.val; omega),
    prev_of_le x j s R 0 ⟨o + (r.val + 16), by omega⟩ (by show o + (r.val + 16) + 0 = R.val; omega)]

theorem later2 (s : Fin 2) (o : ℕ) (off : Fin 3 → ℕ) (ho : off = ![s.val, o, 0]) {i0 i1 i2 i3 i4} (hR : R.val = o + 16 + r.val) :
    k0_pay2 (k0_pay7 (View.ld (Val := Elt Ideal) (e' := .bf16) x (Rect.unit (s := S2x2048x256) off ![1, 80, 256] i4))) 66#32 (View.ld (Val := Elt Ideal) (e' := .f32) b (Rect.unit (s := S1x256) ![0, 0] ![1, 256] i0)) (View.ld (Val := Elt Ideal) (e' := .f32) w (Rect.unit (s := S8x256) ![0, 0] ![1, 256] i1)) (View.ld (Val := Elt Ideal) (e' := .f32) w (Rect.unit (s := S8x256) ![1, 0] ![1, 256] i2)) (View.ld (Val := Elt Ideal) (e' := .f32) w (Rect.unit (s := S8x256) ![2, 0] ![1, 256] i3)) (ix2 r j) = bconv x w b s R j := by
  have hR' := R.isLt
  rw [pay2_at, pay7_at, pay7_at, pay7_at, bias_at, tap0_at, tap1_at, tap2_at, bconv, win_at x j s o off ho _ _ (by show o + (r.val + 6 + 8) < 2048; omega), win_at x j s o off ho _ _ (by show o + (r.val + 7 + 8) < 2048; omega),
    win_at x j s o off ho _ _ (by show o + (r.val + 8 + 8) < 2048; omega),
    prev_of_le x j s R 2 ⟨o + (r.val + 6 + 8), by omega⟩ (by show o + (r.val + 6 + 8) + 2 = R.val; omega),
    prev_of_le x j s R 1 ⟨o + (r.val + 7 + 8), by omega⟩ (by show o + (r.val + 7 + 8) + 1 = R.val; omega),
    prev_of_le x j s R 0 ⟨o + (r.val + 8 + 8), by omega⟩ (by show o + (r.val + 8 + 8) + 0 = R.val; omega)]

theorem first14 (i : grid0.Coords) (h : Vec Ideal S2x16x256 .bf16) (s : Fin 2) (off : Fin 3 → ℕ) (ho : off = ![s.val, 0, 0]) {i0 i1 i2 i3 i4} (hR : R.val = r.val) :
    k0_pay14 (k0_pay11 i h (View.ld (Val := Elt Ideal) (e' := .bf16) x (Rect.unit (s := S2x2048x256) off ![1, 64, 256] i4))) (k0_pay12 i h (View.ld (Val := Elt Ideal) (e' := .bf16) x (Rect.unit (s := S2x2048x256) off ![1, 64, 256] i4)))
      (View.ld (Val := Elt Ideal) (e' := .f32) b (Rect.unit (s := S1x256) ![0, 0] ![1, 256] i0)) (k0_pay13 i h (View.ld (Val := Elt Ideal) (e' := .bf16) x (Rect.unit (s := S2x2048x256) off ![1, 64, 256] i4)) (View.ld (Val := Elt Ideal) (e' := .f32) w (Rect.unit (s := S8x256) ![0, 0] ![1, 256] i1))) (View.ld (Val := Elt Ideal) (e' := .f32) w (Rect.unit (s := S8x256) ![1, 0] ![1, 256] i2)) (View.ld (Val := Elt Ideal) (e' := .f32) w (Rect.unit (s := S8x256) ![2, 0] ![1, 256] i3)) (ix2 r j) = bconv x w b s R j := by
  subst ho
  rw [pay14_at, bias_at, tap0_at, tap1_at, tap2_at, bconv, led_at x j s _ _ R 2 (by omega), led_at x j s _ _ R 1 (by omega), led_at x j s _ _ R 0 (by omega)]

theorem first16 (i : grid0.Coords) (h : Vec Ideal S2x16x256 .bf16) (s : Fin 2) (off : Fin 3 → ℕ) (ho : off = ![s.val, 0, 0]) {i0 i1 i2 i3 i4} (hR : R.val = r.val) :
    k0_pay16 (k0_pay9 i h (View.ld (Val := Elt Ideal) (e' := .bf16) x (Rect.unit (s := S2x2048x256) off ![1, 64, 256] i4))) (View.ld (Val := Elt Ideal) (e' := .f32) b (Rect.unit (s := S1x256) ![0, 0] ![1, 256] i0)) (View.ld (Val := Elt Ideal) (e' := .f32) w (Rect.unit (s := S8x256) ![0, 0] ![1, 256] i1)) (View.ld (Val := Elt Ideal) (e' := .f32) w (Rect.unit (s := S8x256) ![1, 0] ![1, 256] i2)) (View.ld (Val := Elt Ideal) (e' := .f32) w (Rect.unit (s := S8x256) ![2, 0] ![1, 256] i3)) (ix2 r j) = bconv x w b s R j := by
  subst ho
  rw [pay16_at, bias_at, tap0_at, tap1_at, tap2_at, bconv, led_at x j s _ _ R 2 (by omega), led_at x j s _ _ R 1 (by omega), led_at x j s _ _ R 0 (by omega)]

end Convs

section Pieces

variable (x0 : Vec Ideal S2x2048x256 .bf16) (x1 : Vec Ideal S2x16x256 .bf16) (x2 x3 : Vec Ideal S8x256 .f32) (x4 x5 : Vec Ideal S1x256 .f32)

/-- The block's gated product. -/
def bgate (y : S2048x256.Idx) : Elt Ideal .bf16 := gated (bconv x0 x2 x4 0 (y 0) (y 1)) (bconv x0 x3 x5 1 (y 0) (y 1))

/-- The block's two convolutions. -/
def bconvs (y : S2x2048x256.Idx) : Elt Ideal .bf16 := if (y 0).val = 0 then bconv x0 x2 x4 0 (y 1) (y 2) else bconv x0 x3 x5 1 (y 1) (y 2)

variable (𝒱 : Variants) (c : Dev nD) (bd : Option 𝒱.V) (i : grid0.Coords) (arg2 : Memref sig .tc .vmem S2x2048x256 .bf16) (harg2 : arg2.IsWhole) (arg3 : Memref sig .tc .vmem S2x16x256 .bf16) (harg3 : arg3.IsWhole) (arg4 : Memref sig .tc .vmem S8x256 .f32) (harg4 : arg4.IsWhole) (arg5 : Memref sig .tc .vmem S8x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .bf16) (harg8 : arg8.IsWhole) (arg9 : Memref sig .tc .vmem S2x2048x256 .bf16) (harg9 : arg9.IsWhole)

theorem trip_gate (k : Fin k0_t1_loop.trips) (y : S2048x256.Idx) : View.AllAt (tripL_k0_t1 (F := Ideal) 𝒱 c bd i arg2 harg2 arg3 harg3 arg4 harg4 arg5 harg5 arg6 harg6 arg7 harg7 arg8 harg8 arg9 harg9 (harg2.unread x0) (harg4.unread x2) (harg5.unread x3) (harg6.unread x4) (harg7.unread x5) k).1 y (bgate x0 x2 x3 x4 x5 y) := by
  unfold tripL_k0_t1 trip_k0_t1
  dsimp only
  refine View.allAt_cons_unit _ _ _ _ _ ?_ (View.allAt_nil _ _)
  intro z hz
  rw [k0_off5_eq] at hz
  have h0 : (y 0).val = 64 * k.val + 64 + (z 0).val := hz 0
  have h1 : (y 1).val = 0 + (z 1).val := hz 1
  unfold trip_k0_t1.sl.r trip_k0_t1.sl.r_1
  simp only [ld_at]
  have e1 : (y 1 : Fin 256) = z 1 := Fin.ext (by omega)
  unfold bgate
  rw [e1]
  idx_vars z
  refine (pay4_at ..).trans ?_
  rw [later5 (o := 64 * k.val + 48) (s := 0) (R := y 0) (ho := k0_off1_eq k) (hR := by rw [h0]),
    later2 (o := 64 * k.val + 48) (s := 1) (R := y 0) (ho := k0_off2_eq k) (hR := by rw [h0])]

theorem trip_convs (k : Fin k0_t1_loop.trips) (y : S2x2048x256.Idx) : View.AllAt (tripL_k0_t1 (F := Ideal) 𝒱 c bd i arg2 harg2 arg3 harg3 arg4 harg4 arg5 harg5 arg6 harg6 arg7 harg7 arg8 harg8 arg9 harg9 (harg2.unread x0) (harg4.unread x2) (harg5.unread x3) (harg6.unread x4) (harg7.unread x5) k).2 y (bconvs x0 x2 x3 x4 x5 y) := by
  unfold tripL_k0_t1 trip_k0_t1
  dsimp only
  refine View.allAt_cons_unit _ _ _ _ _ ?_ (View.allAt_cons_unit _ _ _ _ _ ?_ (View.allAt_nil _ _))
  · intro z hz
    rw [k0_off4_eq] at hz
    have h0 : (y 0).val = 1 + (z 0).val := hz 0
    have h1 : (y 1).val = 64 * k.val + 64 + (z 1).val := hz 1
    have h2 : (y 2).val = 0 + (z 2).val := hz 2
    unfold trip_k0_t1.sl.r_1
    simp only [ld_at]
    have e2 : (y 2 : Fin 256) = z 2 := Fin.ext (by omega)
    unfold bconvs
    rw [e2, if_neg (by omega)]
    idx_vars z
    refine (pay3_at ..).trans ?_
    rw [later2 (o := 64 * k.val + 48) (s := 1) (R := y 1) (ho := k0_off2_eq k) (hR := by rw [h1])]
  · intro z hz
    rw [k0_off3_eq] at hz
    have h0 : (y 0).val = 0 + (z 0).val := hz 0
    have h1 : (y 1).val = 64 * k.val + 64 + (z 1).val := hz 1
    have h2 : (y 2).val = 0 + (z 2).val := hz 2
    have hz0 : (z 0).val < 1 := (z 0).isLt
    simp only [ld_at]
    have e2 : (y 2 : Fin 256) = z 2 := Fin.ext (by omega)
    unfold bconvs
    rw [e2, if_pos (by omega)]
    idx_vars z
    refine (pay6_at ..).trans ?_
    rw [later5 (o := 64 * k.val + 48) (s := 0) (R := y 1) (ho := k0_off1_eq k) (hR := by rw [h1])]

theorem allAt_append {S : Shape} {e : EltTy} {L L' : List (View.Piece (Elt Ideal) S e)} {y : S.Idx} {v : Elt Ideal e} (h : View.AllAt L y v) (h' : View.AllAt L' y v) : View.AllAt (L ++ L') y v := by
  intro p hp
  rcases List.mem_append.mp hp with hp | hp
  · exact h p hp
  · exact h' p hp

theorem loop_all (y6 : S2048x256.Idx) (y7 : S2x2048x256.Idx) : ∀ n : ℕ, n ≤ k0_t1_loop.trips →
    View.AllAt (pb_k0_t1 (F := Ideal) 𝒱 c bd i arg2 harg2 arg3 harg3 arg4 harg4 arg5 harg5 arg6 harg6 arg7 harg7 arg8 harg8 arg9 harg9 (harg2.unread x0) (harg4.unread x2) (harg5.unread x3) (harg6.unread x4) (harg7.unread x5) n).1 y6 (bgate x0 x2 x3 x4 x5 y6) ∧ View.AllAt (pb_k0_t1 (F := Ideal) 𝒱 c bd i arg2 harg2 arg3 harg3 arg4 harg4 arg5 harg5 arg6 harg6 arg7 harg7 arg8 harg8 arg9 harg9 (harg2.unread x0) (harg4.unread x2) (harg5.unread x3) (harg6.unread x4) (harg7.unread x5) n).2 y7 (bconvs x0 x2 x3 x4 x5 y7)
  | 0, _ => ⟨View.allAt_nil _ _, View.allAt_nil _ _⟩
  | n + 1, hn => by
    have ih := loop_all y6 y7 n (Nat.le_of_succ_le hn)
    rw [pb_k0_t1_succ (k := ⟨n, hn⟩)]
    exact ⟨allAt_append (trip_gate x0 x2 x3 x4 x5 𝒱 c bd i arg2 harg2 arg3 harg3 arg4 harg4 arg5 harg5 arg6 harg6 arg7 harg7 arg8 harg8 arg9 harg9 ⟨n, hn⟩ y6) ih.1, allAt_append (trip_convs x0 x2 x3 x4 x5 𝒱 c bd i arg2 harg2 arg3 harg3 arg4 harg4 arg5 harg5 arg6 harg6 arg7 harg7 arg8 harg8 arg9 harg9 ⟨n, hn⟩ y7) ih.2⟩

theorem run_gate (y : S2048x256.Idx) : View.AllAt (kernelRun0_A (F := Ideal) c i arg2 harg2 arg3 harg3 arg4 harg4 arg5 harg5 arg6 harg6 arg7 harg7 arg8 harg8 arg9 harg9 x0 x1 x2 x3 x4 x5).1 y (bgate x0 x2 x3 x4 x5 y) := by
  unfold kernelRun0_A
  dsimp only
  refine allAt_append (loop_all x0 x2 x3 x4 x5 _ c _ i arg2 harg2 arg3 harg3 arg4 harg4 arg5 harg5 arg6 harg6 arg7 harg7 arg8 harg8 arg9 harg9 y (ix3 0 0 0) _ le_rfl).1 (View.allAt_cons_unit _ _ _ _ _ ?_ (View.allAt_nil _ _))
  intro z hz
  have h0 : (y 0).val = 0 + (z 0).val := hz 0
  have h1 : (y 1).val = 0 + (z 1).val := hz 1
  have e1 : (y 1 : Fin 256) = z 1 := Fin.ext (by omega)
  unfold bgate
  rw [e1]
  idx_vars z
  refine (pay1_at ..).trans ?_
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, ld_at]
  rw [first14 (s := 0) (off := ![0, 0, 0]) (R := y 0) (ho := rfl) (hR := h0.trans (Nat.zero_add _)), first16 (s := 1) (off := ![1, 0, 0]) (R := y 0) (ho := rfl) (hR := h0.trans (Nat.zero_add _))]

theorem run_convs (y : S2x2048x256.Idx) : View.AllAt (kernelRun0_A (F := Ideal) c i arg2 harg2 arg3 harg3 arg4 harg4 arg5 harg5 arg6 harg6 arg7 harg7 arg8 harg8 arg9 harg9 x0 x1 x2 x3 x4 x5).2.1 y (bconvs x0 x2 x3 x4 x5 y) := by
  unfold kernelRun0_A
  dsimp only
  refine allAt_append (loop_all x0 x2 x3 x4 x5 _ c _ i arg2 harg2 arg3 harg3 arg4 harg4 arg5 harg5 arg6 harg6 arg7 harg7 arg8 harg8 arg9 harg9 (ix2 0 0) y _ le_rfl).2 (View.allAt_cons_unit _ _ _ _ _ ?_ (View.allAt_cons_unit _ _ _ _ _ ?_ (View.allAt_nil _ _)))
  · intro z hz
    have h0 : (y 0).val = 1 + (z 0).val := hz 0
    have h1 : (y 1).val = 0 + (z 1).val := hz 1
    have h2 : (y 2).val = 0 + (z 2).val := hz 2
    have e2 : (y 2 : Fin 256) = z 2 := Fin.ext (by omega)
    unfold bconvs
    rw [e2, if_neg (by omega)]
    idx_vars z
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, ld_at]
    rw [pay17_at, first16 (s := 1) (off := ![1, 0, 0]) (R := y 1) (ho := rfl) (hR := h1.trans (Nat.zero_add _))]
  · intro z hz
    have h0 : (y 0).val = 0 + (z 0).val := hz 0
    have h1 : (y 1).val = 0 + (z 1).val := hz 1
    have h2 : (y 2).val = 0 + (z 2).val := hz 2
    have hz0 : (z 0).val < 1 := (z 0).isLt
    have e2 : (y 2 : Fin 256) = z 2 := Fin.ext (by omega)
    unfold bconvs
    rw [e2, if_pos (by omega)]
    idx_vars z
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, ld_at]
    rw [pay15_at, first14 (s := 0) (off := ![0, 0, 0]) (R := y 1) (ho := rfl) (hR := h1.trans (Nat.zero_add _))]

/-- The point's gated product. -/
theorem out_gate : out0_A_6 (F := Ideal) c i arg2 harg2 arg3 harg3 arg4 harg4 arg5 harg5 arg6 harg6 arg7 harg7 arg8 harg8 arg9 harg9 x0 x1 x2 x3 x4 x5 = bgate x0 x2 x3 x4 x5 := by
  unfold out0_A_6
  rw [View.read_writes_junk_eq_canon]
  funext y
  exact View.canon_eq_of_allAt _ y _ (cover0_A_6 (F := Ideal) c i arg2 harg2 arg3 harg3 arg4 harg4 arg5 harg5 arg6 harg6 arg7 harg7 arg8 harg8 arg9 harg9 x0 x1 x2 x3 x4 x5 y) (run_gate x0 x1 x2 x3 x4 x5 c i arg2 harg2 arg3 harg3 arg4 harg4 arg5 harg5 arg6 harg6 arg7 harg7 arg8 harg8 arg9 harg9 y)

/-- The point's convolutions. -/
theorem out_convs : out0_A_7 (F := Ideal) c i arg2 harg2 arg3 harg3 arg4 harg4 arg5 harg5 arg6 harg6 arg7 harg7 arg8 harg8 arg9 harg9 x0 x1 x2 x3 x4 x5 = bconvs x0 x2 x3 x4 x5 := by
  unfold out0_A_7
  rw [View.read_writes_junk_eq_canon]
  funext y
  exact View.canon_eq_of_allAt _ y _ (cover0_A_7 (F := Ideal) c i arg2 harg2 arg3 harg3 arg4 harg4 arg5 harg5 arg6 harg6 arg7 harg7 arg8 harg8 arg9 harg9 x0 x1 x2 x3 x4 x5 y) (run_convs x0 x1 x2 x3 x4 x5 c i arg2 harg2 arg3 harg3 arg4 harg4 arg5 harg5 arg6 harg6 arg7 harg7 arg8 harg8 arg9 harg9 y)

end Pieces

end Cert.Kernel25Ideal.Gate

end
-- ==== Proof.Gate.GateArray.lean ====
/- The gate of the feed-forward network with its convolution: the arrays the call leaves. -/
module

public import proofs.«01_k».proof.Proof.Gate.GatePieces

@[expose] public section

set_option maxRecDepth 16384

noncomputable section

namespace Cert.Kernel25Ideal.Gate

open Idealize.ShloMosaic Idealize.ShloMosaic.TcCoe Cert.Kernel25Ideal Cert.Kernel25Ideal.Gen Cert.Kernel25Ideal.Value

/-- Row `R` less `a` of half `s`, zero before its sequence's first. -/
def seqPrev (x : FVec Ideal S2x4096x2816 .bf16) (s : Fin 2) (R : Fin 4096) (a : ℕ) (J : Fin 2816) : EReal :=
  if h : a ≤ R.val % 2048 then x (ix3 s ⟨R.val - a, by omega⟩ J) else 0

/-- The causal convolution of half `s`. -/
def conv (x : FVec Ideal S2x4096x2816 .bf16) (w : FVec Ideal S8x5632 .f32) (b : FVec Ideal S1x5632 .f32) (s : Fin 2) (R : Fin 4096) (J : Fin 2816) : EReal :=
  taps (b (ix2 0 ⟨s.val * 2816 + J.val, by omega⟩)) (w (ix2 0 ⟨s.val * 2816 + J.val, by omega⟩)) (w (ix2 1 ⟨s.val * 2816 + J.val, by omega⟩)) (w (ix2 2 ⟨s.val * 2816 + J.val, by omega⟩))
    (seqPrev x s R 2 J) (seqPrev x s R 1 J) (seqPrev x s R 0 J)

/-- The gated product. -/
def gateOut (x : FVec Ideal S2x4096x2816 .bf16) (w : FVec Ideal S8x5632 .f32) (b : FVec Ideal S1x5632 .f32) : FVec Ideal S4096x2816 .bf16 :=
  fun y => gated (conv x w b 0 (y 0) (y 1)) (conv x w b 1 (y 0) (y 1))

theorem gateOut_at (x : FVec Ideal S2x4096x2816 .bf16) (w : FVec Ideal S8x5632 .f32) (b : FVec Ideal S1x5632 .f32) (R : Fin 4096) (J : Fin 2816) :
    gateOut x w b (ix2 R J) = gated (conv x w b 0 R J) (conv x w b 1 R J) := rfl

/-- The two convolutions. -/
def convOut (x : FVec Ideal S2x4096x2816 .bf16) (w : FVec Ideal S8x5632 .f32) (b : FVec Ideal S1x5632 .f32) : FVec Ideal S2x4096x2816 .bf16 :=
  fun y => conv x w b (y 0) (y 1) (y 2)

theorem convOut_at (x : FVec Ideal S2x4096x2816 .bf16) (w : FVec Ideal S8x5632 .f32) (b : FVec Ideal S1x5632 .f32) (s : Fin 2) (R : Fin 4096) (J : Fin 2816) :
    convOut x w b (ix3 s R J) = conv x w b s R J := rfl

variable (m : (ℓ : Loc nD τ sig) → Buf (Elt Ideal) ℓ) (c : Dev nD)

/-- Where each point's blocks lie. -/
theorem idx : ∀ t : Fin cfg0.N, win0_0.index t = ![0, t.val % 2, t.val / 2] ∧ win0_2.index t = ![0, t.val / 2] ∧ win0_3.index t = ![0, 11 + t.val / 2] ∧ win0_4.index t = ![0, t.val / 2] ∧ win0_5.index t = ![0, 11 + t.val / 2]
    ∧ win0_6.index t = ![t.val % 2, t.val / 2] ∧ win0_7.index t = ![0, t.val % 2, t.val / 2] :=
  (by decide +kernel : ∀ t : Fin grid0.N, _)

theorem lt22 (t : Fin cfg0.N) : t.val < 22 := lt_of_lt_of_eq t.isLt (show cfg0.N = 22 from N_0)

theorem x_block (t : Fin cfg0.N) (s : Fin 2) (r : Fin 2048) (j : Fin 256) : (iblk m c 0 t : Vec Ideal S2x2048x256 .bf16) (ix3 s r j) =
    (m ((c : Thread nD τ).loc main_arg0)) (ix3 s ⟨t.val % 2 * 2048 + r.val, by omega⟩ ⟨t.val / 2 * 256 + j.val, by have := lt22 t; omega⟩) := by
  blk_ext [iblk, V, idx t]

theorem wg_block (t : Fin cfg0.N) (s : Fin 8) (j : Fin 256) : (iblk m c 2 t : Vec Ideal S8x256 .f32) (ix2 s j) =
    (m ((c : Thread nD τ).loc main_arg1)) (ix2 s ⟨0 * 2816 + (t.val / 2 * 256 + j.val), by have := lt22 t; omega⟩) := by
  blk_ext [iblk, V, idx t]

theorem wv_block (t : Fin cfg0.N) (s : Fin 8) (j : Fin 256) : (iblk m c 3 t : Vec Ideal S8x256 .f32) (ix2 s j) =
    (m ((c : Thread nD τ).loc main_arg1)) (ix2 s ⟨1 * 2816 + (t.val / 2 * 256 + j.val), by have := lt22 t; omega⟩) := by
  blk_ext [iblk, V, idx t]

theorem bg_block (t : Fin cfg0.N) (s : Fin 1) (j : Fin 256) : (iblk m c 4 t : Vec Ideal S1x256 .f32) (ix2 s j) =
    (m ((c : Thread nD τ).loc main_arg2)) (ix2 s ⟨0 * 2816 + (t.val / 2 * 256 + j.val), by have := lt22 t; omega⟩) := by
  blk_ext [iblk, V, idx t]

theorem bv_block (t : Fin cfg0.N) (s : Fin 1) (j : Fin 256) : (iblk m c 5 t : Vec Ideal S1x256 .f32) (ix2 s j) =
    (m ((c : Thread nD τ).loc main_arg2)) (ix2 s ⟨1 * 2816 + (t.val / 2 * 256 + j.val), by have := lt22 t; omega⟩) := by
  blk_ext [iblk, V, idx t]

theorem prev_block (t : Fin cfg0.N) (s : Fin 2) (r : Fin 2048) (a : ℕ) (j : Fin 256) : prev (iblk m c 0 t) s r a j =
    seqPrev (m ((c : Thread nD τ).loc main_arg0)) s ⟨t.val % 2 * 2048 + r.val, by omega⟩ a ⟨t.val / 2 * 256 + j.val, by have := lt22 t; omega⟩ := by
  unfold prev seqPrev
  have hr := r.isLt
  have e : (t.val % 2 * 2048 + r.val) % 2048 = r.val := by omega
  by_cases h : a ≤ r.val
  · have h' : a ≤ (t.val % 2 * 2048 + r.val) % 2048 := by omega
    rw [dif_pos h, dif_pos h', x_block]
    congr 2
    exact Fin.ext (by show t.val % 2 * 2048 + (r.val - a) = t.val % 2 * 2048 + r.val - a; omega)
  · have h' : ¬ a ≤ (t.val % 2 * 2048 + r.val) % 2048 := by omega
    rw [dif_neg h, dif_neg h']

theorem conv_gate (t : Fin cfg0.N) (r : Fin 2048) (j : Fin 256) : bconv (iblk m c 0 t) (iblk m c 2 t) (iblk m c 4 t) 0 r j =
    conv (m ((c : Thread nD τ).loc main_arg0)) (m ((c : Thread nD τ).loc main_arg1)) (m ((c : Thread nD τ).loc main_arg2)) 0 ⟨t.val % 2 * 2048 + r.val, by omega⟩ ⟨t.val / 2 * 256 + j.val, by have := lt22 t; omega⟩ := by
  rw [bconv, conv, prev_block, prev_block, prev_block, bg_block, wg_block, wg_block, wg_block]
  rfl

theorem conv_val (t : Fin cfg0.N) (r : Fin 2048) (j : Fin 256) : bconv (iblk m c 0 t) (iblk m c 3 t) (iblk m c 5 t) 1 r j =
    conv (m ((c : Thread nD τ).loc main_arg0)) (m ((c : Thread nD τ).loc main_arg1)) (m ((c : Thread nD τ).loc main_arg2)) 1 ⟨t.val % 2 * 2048 + r.val, by omega⟩ ⟨t.val / 2 * 256 + j.val, by have := lt22 t; omega⟩ := by
  rw [bconv, conv, prev_block, prev_block, prev_block, bv_block, wv_block, wv_block, wv_block]
  rfl

theorem outs_gate (t : Fin cfg0.N) (r : Fin 2048) (j : Fin 256) : (outsAt0 m c t).1 (ix2 r j) =
    gateOut (m ((c : Thread nD τ).loc main_arg0)) (m ((c : Thread nD τ).loc main_arg1)) (m ((c : Thread nD τ).loc main_arg2)) (ix2 ⟨t.val % 2 * 2048 + r.val, by omega⟩ ⟨t.val / 2 * 256 + j.val, by have := lt22 t; omega⟩) := by
  unfold outsAt0
  dsimp only
  rw [out_gate, gateOut_at, ← conv_gate, ← conv_val]
  rfl

theorem outs_convs (t : Fin cfg0.N) (s : Fin 2) (r : Fin 2048) (j : Fin 256) : (outsAt0 m c t).2 (ix3 s r j) =
    convOut (m ((c : Thread nD τ).loc main_arg0)) (m ((c : Thread nD τ).loc main_arg1)) (m ((c : Thread nD τ).loc main_arg2)) (ix3 s ⟨t.val % 2 * 2048 + r.val, by omega⟩ ⟨t.val / 2 * 256 + j.val, by have := lt22 t; omega⟩) := by
  unfold outsAt0
  dsimp only
  rw [out_convs, convOut_at]
  unfold bconvs
  have hs : s.val = 0 ∨ s.val = 1 := by omega
  rcases hs with hs | hs
  · obtain rfl : s = 0 := Fin.ext hs
    exact (if_pos rfl).trans (conv_gate m c t r j)
  · obtain rfl : s = 1 := Fin.ext hs
    exact (if_neg (show ¬ (1 : ℕ) = 0 by omega)).trans (conv_val m c t r j)

theorem final_gate : (dats m 0 c).arrAt 6 cfg0.N = gateOut (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  idx_vars y
  refine (outs_gate m c t y0 y1).trans ?_
  blk_ext [idx t]

theorem final_convs : (dats m 0 c).arrAt 7 cfg0.N = convOut (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  idx_vars y
  refine (outs_convs m c t y0 y1 y2).trans ?_
  blk_ext [idx t]

end Cert.Kernel25Ideal.Gate

end
-- ==== Proof.Gate.GateClaims.lean ====
/- The gate of the feed-forward network with its convolution: the claims. -/
module

public import proofs.«01_k».proof.Defs
public import proofs.«01_k».proof.Proof.Gen.Reference25Ideal.Run
public import proofs.«01_k».proof.Proof.Gate.GateArray
public import Idealize.ShloMosaic.Adequacy

@[expose] public section

set_option maxRecDepth 16384

noncomputable section

namespace Cert.Reference25Ideal.Gate

open Idealize.ShloMosaic Idealize.ShloMosaic.TcCoe Cert.Reference25Ideal Cert.Reference25Ideal.Gen

/-- A half's rows by sequence, two zero rows before each. -/
def padded (x : FVec Ideal S4096x2816 .f32) : FVec Ideal S2x2050x2816 .f32 :=
  pad S2x2050x2816 ![0, 2, 0] ![0, 0, 0] ![0, 0, 0] (shapeCast _ x shapeCasts_S4096x2816_S2x2048x2816) (sitofp .f32 (constantI S_ 32 0#32)) pads_S2x2048x2816_S2x2050x2816_000_200_000 h_S_

/-- The reference's convolution of a half. -/
def rconv (x : FVec Ideal S4096x2816 .f32) (w : FVec Ideal S3x2816 .f32) (b : FVec Ideal S1x2816 .f32) : FVec Ideal S4096x2816 .f32 :=
  shapeCast _ (addf (addf (addf (addf (broadcastInDim S2x2048x2816 ![] bcast_S_S2x2048x2816 (constant S_ .f32 0x00000000#32))
    (mulf (broadcastInDim S2x2048x2816 ![0, 1, 2] bcast_S1x1x2816_S2x2048x2816_0_1_2 (broadcastInDim S1x1x2816 ![2] bcast_S2816_S1x1x2816_2 (shapeCast _ (extractStridedSlice S1x2816 ![0, 0] w slices_S3x2816_S1x2816_0_0) shapeCasts_S1x2816_S2816))) (extractStridedSlice S2x2048x2816 ![0, 0, 0] (padded x) slices_S2x2050x2816_S2x2048x2816_0_0_0)))
    (mulf (broadcastInDim S2x2048x2816 ![0, 1, 2] bcast_S1x1x2816_S2x2048x2816_0_1_2 (broadcastInDim S1x1x2816 ![2] bcast_S2816_S1x1x2816_2 (shapeCast _ (extractStridedSlice S1x2816 ![1, 0] w slices_S3x2816_S1x2816_1_0) shapeCasts_S1x2816_S2816))) (extractStridedSlice S2x2048x2816 ![0, 1, 0] (padded x) slices_S2x2050x2816_S2x2048x2816_0_1_0)))
    (mulf (broadcastInDim S2x2048x2816 ![0, 1, 2] bcast_S1x1x2816_S2x2048x2816_0_1_2 (broadcastInDim S1x1x2816 ![2] bcast_S2816_S1x1x2816_2 (shapeCast _ (extractStridedSlice S1x2816 ![2, 0] w slices_S3x2816_S1x2816_2_0) shapeCasts_S1x2816_S2816))) (extractStridedSlice S2x2048x2816 ![0, 2, 0] (padded x) slices_S2x2050x2816_S2x2048x2816_0_2_0)))
    (broadcastInDim S2x2048x2816 ![0, 1, 2] bcast_S1x1x2816_S2x2048x2816_0_1_2 (broadcastInDim S1x1x2816 ![1, 2] bcast_S1x2816_S1x1x2816_1_2 b))) shapeCasts_S2x2048x2816_S4096x2816

/-- The gate's half and the value's. -/
def gateX (x : FVec Ideal S2x4096x2816 .bf16) : FVec Ideal S4096x2816 .f32 :=
  shapeCast _ (extractStridedSlice S1x4096x2816 ![0, 0, 0] (extf .f32 x bitsLt_bf16_f32) slices_S2x4096x2816_S1x4096x2816_0_0_0) shapeCasts_S1x4096x2816_S4096x2816

def valX (x : FVec Ideal S2x4096x2816 .bf16) : FVec Ideal S4096x2816 .f32 :=
  shapeCast _ (extractStridedSlice S1x4096x2816 ![1, 0, 0] (extf .f32 x bitsLt_bf16_f32) slices_S2x4096x2816_S1x4096x2816_1_0_0) shapeCasts_S1x4096x2816_S4096x2816

def gateC (x : FVec Ideal S2x4096x2816 .bf16) (w : FVec Ideal S8x5632 .f32) (b : FVec Ideal S1x5632 .f32) : FVec Ideal S4096x2816 .f32 :=
  rconv (gateX x) (extractStridedSlice S3x2816 ![0, 0] w slices_S8x5632_S3x2816_0_0) (extractStridedSlice S1x2816 ![0, 0] b slices_S1x5632_S1x2816_0_0)

def valC (x : FVec Ideal S2x4096x2816 .bf16) (w : FVec Ideal S8x5632 .f32) (b : FVec Ideal S1x5632 .f32) : FVec Ideal S4096x2816 .f32 :=
  rconv (valX x) (extractStridedSlice S3x2816 ![0, 2816] w slices_S8x5632_S3x2816_0_2816) (extractStridedSlice S1x2816 ![0, 2816] b slices_S1x5632_S1x2816_0_2816)

/-- The gated product. -/
def product (g v : FVec Ideal S4096x2816 .f32) : FVec Ideal S4096x2816 .bf16 :=
  truncf .bf16 (mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) v) bitsLt_bf16_f32

/-- The two convolutions stacked. -/
def stacked (g v : FVec Ideal S4096x2816 .f32) : FVec Ideal S2x4096x2816 .bf16 :=
  truncf .bf16 (concatenate S2x4096x2816 0 [⟨S1x4096x2816, broadcastInDim S1x4096x2816 ![1, 2] bcast_S4096x2816_S1x4096x2816_1_2 g⟩, ⟨S1x4096x2816, broadcastInDim S1x4096x2816 ![1, 2] bcast_S4096x2816_S1x4096x2816_1_2 v⟩] concatenates_S1x4096x2816_S1x4096x2816_S2x4096x2816_d0) bitsLt_bf16_f32

section
variable (m : (ℓ : Loc nD τ sig) → Buf (Elt Ideal) ℓ) (c : Dev nD)

theorem out0_eq : Value.res_out0 m c = product (gateC (m ((c.tc : Thread nD τ).loc main_arg0)) (m ((c.tc : Thread nD τ).loc main_arg1)) (m ((c.tc : Thread nD τ).loc main_arg2))) (valC (m ((c.tc : Thread nD τ).loc main_arg0)) (m ((c.tc : Thread nD τ).loc main_arg1)) (m ((c.tc : Thread nD τ).loc main_arg2))) := rfl

theorem out1_eq : Value.res_out1 m c = stacked (gateC (m ((c.tc : Thread nD τ).loc main_arg0)) (m ((c.tc : Thread nD τ).loc main_arg1)) (m ((c.tc : Thread nD τ).loc main_arg2))) (valC (m ((c.tc : Thread nD τ).loc main_arg0)) (m ((c.tc : Thread nD τ).loc main_arg1)) (m ((c.tc : Thread nD τ).loc main_arg2))) := rfl

end

/-- Row `a` before row `R` of a half, zero before its sequence's first. -/
def back (x : FVec Ideal S4096x2816 .f32) (R : Fin 4096) (a : ℕ) (J : Fin 2816) : EReal :=
  if h : a ≤ R.val % 2048 then x (ix2 ⟨R.val - a, by omega⟩ J) else 0

theorem sitofp_zero : (FloatOps.sitofp FTy.f32 0#32 : Ideal .f32) = (0 : EReal) := by
  simp [FloatOps.sitofp]

theorem padded_at (x : FVec Ideal S4096x2816 .f32) (R : Fin 4096) (k : ℕ) (hk : k ≤ 2) (J : Fin 2816) :
    padded x (ix3 ⟨R.val / 2048, by omega⟩ ⟨k + R.val % 2048, by omega⟩ J) = back x R (2 - k) J := by
  unfold back
  by_cases h : 2 - k ≤ R.val % 2048
  · rw [dif_pos h]
    pointwise [padded, show 2 ≤ k + R.val % 2048 by omega]
    rw [dif_pos (by omega)]
    congr 2
    exact Fin.ext (show R.val / 2048 * 2048 + (k + R.val % 2048 - 2) = R.val - (2 - k) by omega)
  · rw [dif_neg h]
    pointwise [padded, show ¬ 2 ≤ k + R.val % 2048 by omega]
    rw [dif_neg (fun e => e.2.1)]
    exact sitofp_zero

theorem rconv_at (x : FVec Ideal S4096x2816 .f32) (w : FVec Ideal S3x2816 .f32) (b : FVec Ideal S1x2816 .f32) (R : Fin 4096) (J : Fin 2816) :
    rconv x w b (ix2 R J) = 0 + w (ix2 0 J) * back x R 2 J + w (ix2 1 J) * back x R 1 J + w (ix2 2 J) * back x R 0 J + b (ix2 0 J) := by
  rw [← padded_at x R 0 (by omega) J, ← padded_at x R 1 (by omega) J, ← padded_at x R 2 (by omega) J]
  pointwise [rconv]

theorem gateX_at (x : FVec Ideal S2x4096x2816 .bf16) (R : Fin 4096) (J : Fin 2816) : gateX x (ix2 R J) = x (ix3 0 R J) := by
  pointwise [gateX]

theorem valX_at (x : FVec Ideal S2x4096x2816 .bf16) (R : Fin 4096) (J : Fin 2816) : valX x (ix2 R J) = x (ix3 1 R J) := by
  pointwise [valX]

theorem back_gate (x : FVec Ideal S2x4096x2816 .bf16) (R : Fin 4096) (a : ℕ) (J : Fin 2816) : back (gateX x) R a J = Cert.Kernel25Ideal.Gate.seqPrev x 0 R a J := by
  unfold back Cert.Kernel25Ideal.Gate.seqPrev
  by_cases h : a ≤ R.val % 2048
  · rw [dif_pos h, dif_pos h, gateX_at]
  · rw [dif_neg h, dif_neg h]

theorem back_val (x : FVec Ideal S2x4096x2816 .bf16) (R : Fin 4096) (a : ℕ) (J : Fin 2816) : back (valX x) R a J = Cert.Kernel25Ideal.Gate.seqPrev x 1 R a J := by
  unfold back Cert.Kernel25Ideal.Gate.seqPrev
  by_cases h : a ≤ R.val % 2048
  · rw [dif_pos h, dif_pos h, valX_at]
  · rw [dif_neg h, dif_neg h]

theorem taps_eq (b w0 w1 w2 p2 p1 p0 : EReal) : 0 + w0 * p2 + w1 * p1 + w2 * p0 + b = Cert.Kernel25Ideal.Gate.taps b w0 w1 w2 p2 p1 p0 := by
  unfold Cert.Kernel25Ideal.Gate.taps
  rw [zero_add, add_comm _ b, ← add_assoc, ← add_assoc]

variable (x : FVec Ideal S2x4096x2816 .bf16) (w : FVec Ideal S8x5632 .f32) (b : FVec Ideal S1x5632 .f32)

theorem gateC_at (R : Fin 4096) (J : Fin 2816) : gateC x w b (ix2 R J) = Cert.Kernel25Ideal.Gate.conv x w b 0 R J := by
  unfold gateC Cert.Kernel25Ideal.Gate.conv
  rw [rconv_at, taps_eq, back_gate, back_gate, back_gate]
  pointwise []

theorem valC_at (R : Fin 4096) (J : Fin 2816) : valC x w b (ix2 R J) = Cert.Kernel25Ideal.Gate.conv x w b 1 R J := by
  unfold valC Cert.Kernel25Ideal.Gate.conv
  rw [rconv_at, taps_eq, back_val, back_val, back_val]
  pointwise []

theorem product_at (g v : FVec Ideal S4096x2816 .f32) (R : Fin 4096) (J : Fin 2816) : product g v (ix2 R J) = Cert.Kernel25Ideal.Gate.gated (g (ix2 R J)) (v (ix2 R J)) := by
  pointwise [product, Cert.Kernel25Ideal.Gate.gated, Cert.Kernel25Ideal.Gate.logi]

theorem stacked_at (g v : FVec Ideal S4096x2816 .f32) (s : Fin 2) (R : Fin 4096) (J : Fin 2816) : stacked g v (ix3 s R J) = if s.val = 0 then g (ix2 R J) else v (ix2 R J) := by
  fin_vals s with hs <;> pointwise [stacked, hs]

theorem product_eq : product (gateC x w b) (valC x w b) = Cert.Kernel25Ideal.Gate.gateOut x w b := by
  funext y
  idx_vars y
  rw [product_at, gateC_at, valC_at]
  rfl

theorem stacked_eq : stacked (gateC x w b) (valC x w b) = Cert.Kernel25Ideal.Gate.convOut x w b := by
  funext y
  obtain ⟨s, R, J, rfl⟩ : ∃ s R J, y = ix3 s R J := ⟨y 0, y 1, y 2, by funext i; fin_cases i <;> rfl⟩
  refine (stacked_at _ _ s R J).trans ?_
  have hs : s.val = 0 ∨ s.val = 1 := by omega
  rcases hs with hs | hs
  · obtain rfl : s = 0 := Fin.ext hs
    exact (if_pos rfl).trans (gateC_at x w b R J)
  · obtain rfl : s = 1 := Fin.ext hs
    exact (if_neg (show ¬ (1 : ℕ) = 0 by omega)).trans (valC_at x w b R J)

end Cert.Reference25Ideal.Gate

namespace Cert.Norm.K25

open Idealize.ShloMosaic Idealize.ShloMosaic.TcCoe Idealize.SL.Sem

/-- The reference ends with its arguments unchanged; it declares no semaphore, so all read zero. -/
theorem frame_reference (m : (ℓ : Loc Cert.Reference25Ideal.nD Cert.Reference25Ideal.τ Cert.Reference25Ideal.sig) → Buf (Elt Ideal) ℓ)
    (ρ : Dev Cert.Reference25Ideal.nD → PrngReg) :
    θ_run (Cert.Reference25Ideal.defs (F := Ideal)) (onTc (τ := Cert.Reference25Ideal.τ) (Cert.Reference25Ideal.main (F := Ideal))) ⟨m, fun _ => 0, ρ⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0) :=
  (θ_run _ _ _).mono (fun r h => ⟨fun c => (h c).2.2, sem_eq_zero_of_no_sems (by decide) r.2⟩) (Cert.Reference25Ideal.Value.run m ρ)

/-- The kernel's gated product and convolutions are the reference's. -/
theorem algebraic : Cert.algebraic_Kernel25Ideal_Reference25Ideal
    (hKernel25Ideal := Cert.Kernel25Ideal.Gen.facts) (hReference25Ideal := Cert.Reference25Ideal.Gen.facts) := by
  intro m ρ m' ρ' _ hag
  refine ⟨fun c => (Cert.Kernel25Ideal.Gen.dats m 0 c).arrAt 6 Cert.Kernel25Ideal.cfg0.N, fun c => (Cert.Kernel25Ideal.Gen.dats m 0 c).arrAt 7 Cert.Kernel25Ideal.cfg0.N,
    Cert.Kernel25Ideal.Value.run_blocks m ρ, (θ_run _ _ _).mono (fun r h c => ?_) (Cert.Reference25Ideal.Value.run m' ρ')⟩
  obtain ⟨h0, h1, hargs⟩ := h c
  obtain ⟨a0, a1, a2⟩ := hag c
  refine ⟨h0.trans ?_, h1.trans ?_, hargs⟩
  · refine (Cert.Reference25Ideal.Gate.out0_eq m' c).trans ?_
    rw [a0, a1, a2]
    exact (Cert.Reference25Ideal.Gate.product_eq _ _ _).trans (Cert.Kernel25Ideal.Gate.final_gate m c).symm
  · refine (Cert.Reference25Ideal.Gate.out1_eq m' c).trans ?_
    rw [a0, a1, a2]
    exact (Cert.Reference25Ideal.Gate.stacked_eq _ _ _).trans (Cert.Kernel25Ideal.Gate.final_convs m c).symm

end Cert.Norm.K25

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Attention.Claims
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Norm.UpClaims
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Norm.QueryClaims
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Norm.InClaims
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Products.WeightUp
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Products.Act
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Products.WeightDown
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Products.Up
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Products.In
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Products.Query
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Products.Memory
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Products.Rows
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Products.MemoryRows
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Products.WeightSquare
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Products.WeightMemory
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Products.WeightIn
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Norm.MixerOut
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Norm.DownClaims
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Norm.MemoryGain
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Norm.MixClaims
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Attention.Forward
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Norm.AttentionOut
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Norm.MixNorm
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Norm.MemoryNorm
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gate.GateClaims

@[expose] public section

noncomputable section

namespace Cert.Proof

theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Kernel4.Gen.facts,
    Cert.Kernel4Ideal.Gen.facts,
    Cert.Reference4Ideal.Gen.facts,
    Cert.Kernel5.Gen.facts,
    Cert.Kernel5Ideal.Gen.facts,
    Cert.Reference5Ideal.Gen.facts,
    Cert.Kernel6.Gen.facts,
    Cert.Kernel6Ideal.Gen.facts,
    Cert.Reference6Ideal.Gen.facts,
    Cert.Kernel7.Gen.facts,
    Cert.Kernel7Ideal.Gen.facts,
    Cert.Reference7Ideal.Gen.facts,
    Cert.Kernel8.Gen.facts,
    Cert.Kernel8Ideal.Gen.facts,
    Cert.Reference8Ideal.Gen.facts,
    Cert.Kernel9.Gen.facts,
    Cert.Kernel9Ideal.Gen.facts,
    Cert.Reference9Ideal.Gen.facts,
    Cert.Kernel10.Gen.facts,
    Cert.Kernel10Ideal.Gen.facts,
    Cert.Reference10Ideal.Gen.facts,
    Cert.Kernel11.Gen.facts,
    Cert.Kernel11Ideal.Gen.facts,
    Cert.Reference11Ideal.Gen.facts,
    Cert.Kernel12.Gen.facts,
    Cert.Kernel12Ideal.Gen.facts,
    Cert.Reference12Ideal.Gen.facts,
    Cert.Kernel13.Gen.facts,
    Cert.Kernel13Ideal.Gen.facts,
    Cert.Reference13Ideal.Gen.facts,
    Cert.Kernel14.Gen.facts,
    Cert.Kernel14Ideal.Gen.facts,
    Cert.Reference14Ideal.Gen.facts,
    Cert.Kernel15.Gen.facts,
    Cert.Kernel15Ideal.Gen.facts,
    Cert.Reference15Ideal.Gen.facts,
    Cert.Kernel16.Gen.facts,
    Cert.Kernel16Ideal.Gen.facts,
    Cert.Reference16Ideal.Gen.facts,
    Cert.Kernel17.Gen.facts,
    Cert.Kernel17Ideal.Gen.facts,
    Cert.Reference17Ideal.Gen.facts,
    Cert.Kernel18.Gen.facts,
    Cert.Kernel18Ideal.Gen.facts,
    Cert.Reference18Ideal.Gen.facts,
    Cert.Kernel19.Gen.facts,
    Cert.Kernel19Ideal.Gen.facts,
    Cert.Reference19Ideal.Gen.facts,
    Cert.Kernel21.Gen.facts,
    Cert.Kernel21Ideal.Gen.facts,
    Cert.Reference21Ideal.Gen.facts,
    Cert.Kernel22.Gen.facts,
    Cert.Kernel22Ideal.Gen.facts,
    Cert.Reference22Ideal.Gen.facts,
    Cert.Kernel20.Gen.facts,
    Cert.Kernel20Ideal.Gen.facts,
    Cert.Reference20Ideal.Gen.facts,
    Cert.Kernel23.Gen.facts,
    Cert.Kernel23Ideal.Gen.facts,
    Cert.Reference23Ideal.Gen.facts,
    Cert.Kernel24.Gen.facts,
    Cert.Kernel24Ideal.Gen.facts,
    Cert.Reference24Ideal.Gen.facts,
    Cert.Kernel25.Gen.facts,
    Cert.Kernel25Ideal.Gen.facts,
    Cert.Reference25Ideal.Gen.facts,
    Cert.Pre_finite.facts,
    Cert.Pre_finite20.facts,
    fun m ρ _ => Cert.Kernel.Gen.frame m ρ,
    fun m ρ _ => Cert.KernelIdeal.Gen.frame m ρ,
    fun m ρ _ => Cert.KernelIdeal.Gen.frame m ρ,
    fun m ρ _ => Cert.Attention.frame_reference m ρ,
    fun m ρ _ => Cert.Attention.frame_reference m ρ,
    fun m ρ _ => Cert.Kernel2.Gen.frame m ρ,
    fun m ρ _ => Cert.Kernel2Ideal.Gen.frame m ρ,
    fun m ρ _ => Cert.Norm.K2.frame_reference m ρ,
    fun m ρ _ => Cert.Kernel3.Gen.frame m ρ,
    fun m ρ _ => Cert.Kernel3Ideal.Gen.frame m ρ,
    fun m ρ _ => Cert.Norm.K3.frame_reference m ρ,
    fun m ρ _ => Cert.Kernel4.Gen.frame m ρ,
    fun m ρ _ => Cert.Kernel4Ideal.Gen.frame m ρ,
    fun m ρ _ => Cert.Norm.K4.frame_reference m ρ,
    fun m ρ _ => Cert.Kernel5.Gen.frame m ρ,
    fun m ρ _ => Cert.Kernel5Ideal.Gen.frame m ρ,
    fun m ρ _ => Cert.Products.K5.frame_reference m ρ,
    fun m ρ _ => Cert.Kernel6.Gen.frame m ρ,
    fun m ρ _ => Cert.Kernel6Ideal.Gen.frame m ρ,
    fun m ρ _ => Cert.Products.K6.frame_reference m ρ,
    fun m ρ _ => Cert.Kernel7.Gen.frame m ρ,
    fun m ρ _ => Cert.Kernel7Ideal.Gen.frame m ρ,
    fun m ρ _ => Cert.Products.K7.frame_reference m ρ,
    fun m ρ _ => Cert.Kernel8.Gen.frame m ρ,
    fun m ρ _ => Cert.Kernel8Ideal.Gen.frame m ρ,
    fun m ρ _ => Cert.Products.K8.frame_reference m ρ,
    fun m ρ _ => Cert.Kernel9.Gen.frame m ρ,
    fun m ρ _ => Cert.Kernel9Ideal.Gen.frame m ρ,
    fun m ρ _ => Cert.Products.K9.frame_reference m ρ,
    fun m ρ _ => Cert.Kernel10.Gen.frame m ρ,
    fun m ρ _ => Cert.Kernel10Ideal.Gen.frame m ρ,
    fun m ρ _ => Cert.Products.K10.frame_reference m ρ,
    fun m ρ _ => Cert.Kernel11.Gen.frame m ρ,
    fun m ρ _ => Cert.Kernel11Ideal.Gen.frame m ρ,
    fun m ρ _ => Cert.Products.K11.frame_reference m ρ,
    fun m ρ _ => Cert.Kernel12.Gen.frame m ρ,
    fun m ρ _ => Cert.Kernel12Ideal.Gen.frame m ρ,
    fun m ρ _ => Cert.Products.K12.frame_reference m ρ,
    fun m ρ _ => Cert.Kernel13.Gen.frame m ρ,
    fun m ρ _ => Cert.Kernel13Ideal.Gen.frame m ρ,
    fun m ρ _ => Cert.Products.K13.frame_reference m ρ,
    fun m ρ _ => Cert.Kernel14.Gen.frame m ρ,
    fun m ρ _ => Cert.Kernel14Ideal.Gen.frame m ρ,
    fun m ρ _ => Cert.Products.K14.frame_reference m ρ,
    fun m ρ _ => Cert.Kernel15.Gen.frame m ρ,
    fun m ρ _ => Cert.Kernel15Ideal.Gen.frame m ρ,
    fun m ρ _ => Cert.Products.K15.frame_reference m ρ,
    fun m ρ _ => Cert.Kernel16.Gen.frame m ρ,
    fun m ρ _ => Cert.Kernel16Ideal.Gen.frame m ρ,
    fun m ρ _ => Cert.Products.K16.frame_reference m ρ,
    fun m ρ _ => Cert.Kernel17.Gen.frame m ρ,
    fun m ρ _ => Cert.Kernel17Ideal.Gen.frame m ρ,
    fun m ρ _ => Cert.Norm.K17.frame_reference m ρ,
    fun m ρ _ => Cert.Kernel18.Gen.frame m ρ,
    fun m ρ _ => Cert.Kernel18Ideal.Gen.frame m ρ,
    fun m ρ _ => Cert.Norm.K18.frame_reference m ρ,
    fun m ρ _ => Cert.Kernel19.Gen.frame m ρ,
    fun m ρ _ => Cert.Kernel19Ideal.Gen.frame m ρ,
    fun m ρ _ => Cert.Norm.K19.frame_reference m ρ,
    fun m ρ _ => Cert.Kernel21.Gen.frame m ρ,
    fun m ρ _ => Cert.Kernel21Ideal.Gen.frame m ρ,
    fun m ρ _ => Cert.Attention.K21.frame_reference m ρ,
    fun m ρ _ => Cert.Kernel22.Gen.frame m ρ,
    fun m ρ _ => Cert.Kernel22Ideal.Gen.frame m ρ,
    fun m ρ _ => Cert.Norm.K22.frame_reference m ρ,
    fun m ρ _ => Cert.Kernel20.Gen.frame m ρ,
    fun m ρ _ => Cert.Kernel20Ideal.Gen.frame m ρ,
    fun m ρ _ => Cert.Kernel20Ideal.Gen.frame m ρ,
    fun m ρ _ => Cert.Norm.K20.frame_reference m ρ,
    fun m ρ _ => Cert.Norm.K20.frame_reference m ρ,
    fun m ρ _ => Cert.Kernel23.Gen.frame m ρ,
    fun m ρ _ => Cert.Kernel23Ideal.Gen.frame m ρ,
    fun m ρ _ => Cert.Norm.K23.frame_reference m ρ,
    fun m ρ _ => Cert.Kernel24.Gen.frame m ρ,
    fun m ρ _ => Cert.Kernel24Ideal.Gen.frame m ρ,
    fun m ρ _ => Cert.Norm.K24.frame_reference m ρ,
    fun m ρ _ => Cert.Kernel25.Gen.frame m ρ,
    fun m ρ _ => Cert.Kernel25Ideal.Gen.frame m ρ,
    fun m ρ _ => Cert.Norm.K25.frame_reference m ρ,
    trivial,
    Cert.Attention.algebraic,
    trivial,
    Cert.Norm.K2.algebraic,
    trivial,
    Cert.Norm.K3.algebraic,
    trivial,
    Cert.Norm.K4.algebraic,
    trivial,
    Cert.Products.K5.algebraic,
    trivial,
    Cert.Products.K6.algebraic,
    trivial,
    Cert.Products.K7.algebraic,
    trivial,
    Cert.Products.K8.algebraic,
    trivial,
    Cert.Products.K9.algebraic,
    trivial,
    Cert.Products.K10.algebraic,
    trivial,
    Cert.Products.K11.algebraic,
    trivial,
    Cert.Products.K12.algebraic,
    trivial,
    Cert.Products.K13.algebraic,
    trivial,
    Cert.Products.K14.algebraic,
    trivial,
    Cert.Products.K15.algebraic,
    trivial,
    Cert.Products.K16.algebraic,
    trivial,
    Cert.Norm.K17.algebraic,
    trivial,
    Cert.Norm.K18.algebraic,
    trivial,
    Cert.Norm.K19.algebraic,
    trivial,
    Cert.Attention.K21.algebraic,
    trivial,
    Cert.Norm.K22.algebraic,
    trivial,
    Cert.Norm.K20.algebraic,
    trivial,
    Cert.Norm.K23.algebraic,
    trivial,
    Cert.Norm.K24.algebraic,
    trivial,
    Cert.Norm.K25.algebraic⟩

end Cert.Proof

end
